-- ==== Defs.lean ====
def Pre_Kernel [hPre_tokens : Cert.Pre_tokens.Facts] (m : (ℓ : Loc Cert.Kernel.nD Cert.Kernel.τ Cert.Kernel.sig) → Buf (Elt Bits) ℓ) : Prop :=
  ∀ c : Dev Cert.Kernel.nD,
    (Cert.Pre_tokens.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_tokens : Cert.Pre_tokens.Facts] (m : (ℓ : Loc Cert.KernelIdeal.nD Cert.KernelIdeal.τ Cert.KernelIdeal.sig) → Buf (Elt Ideal) ℓ) : Prop :=
  ∀ c : Dev Cert.KernelIdeal.nD,
    (Cert.Pre_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens [hPre_tokens : Cert.Pre_tokens.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] [hPre_tokens : Cert.Pre_tokens.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] [hPre_tokens : Cert.Pre_tokens.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_tokens [hReferenceIdeal : Cert.ReferenceIdeal.Facts] [hPre_tokens : Cert.Pre_tokens.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tokens : Cert.Pre_tokens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_tokens : Cert.Pre_tokens.Facts),
    quiescent_Kernel (hKernel := hKernel) (hPre_tokens := hPre_tokens)
    ∧ quiescent_KernelIdeal (hKernelIdeal := hKernelIdeal) (hPre_tokens := hPre_tokens)
    ∧ quiescent_ReferenceIdeal (hReferenceIdeal := hReferenceIdeal)
    ∧ quiescent_ReferenceIdeal_pre_tokens (hReferenceIdeal := hReferenceIdeal) (hPre_tokens := hPre_tokens)
    ∧ preserves_Kernel_KernelIdeal
    ∧ algebraic_KernelIdeal_ReferenceIdeal (hKernelIdeal := hKernelIdeal) (hReferenceIdeal := hReferenceIdeal) (hPre_tokens := hPre_tokens)
-- ==== Pre_tokens.lean ====
abbrev S64x512 : Shape := ⟨2, ![64, 512]⟩
abbrev S32000x300 : Shape := ⟨2, ![32000, 300]⟩
abbrev S300x1024 : Shape := ⟨2, ![300, 1024]⟩
abbrev S1024x1024 : Shape := ⟨2, ![1024, 1024]⟩
abbrev S1024 : Shape := ⟨1, ![1024]⟩
abbrev S1024x3 : Shape := ⟨2, ![1024, 3]⟩
abbrev S3 : Shape := ⟨1, ![3]⟩
abbrev S_ : Shape := ⟨0, ![]⟩

class Facts : Prop where
  bcast_S_S64x512 : S_.BroadcastsInDim S64x512 (![] : Fin 0 → Fin S64x512.rank)

variable [Facts]

def fn {F : FTy → Type} [FloatOps F] (main_arg0 : IVec S64x512 32) (main_arg1 : FVec F S32000x300 .f32) (main_arg2 : FVec F S300x1024 .f32) (main_arg3 : FVec F S300x1024 .f32) (main_arg4 : FVec F S300x1024 .f32) (main_arg5 : FVec F S300x1024 .f32) (main_arg6 : FVec F S1024x1024 .f32) (main_arg7 : FVec F S1024x1024 .f32) (main_arg8 : FVec F S1024x1024 .f32) (main_arg9 : FVec F S1024x1024 .f32) (main_arg10 : FVec F S1024 .f32) (main_arg11 : FVec F S1024 .f32) (main_arg12 : FVec F S1024 .f32) (main_arg13 : FVec F S1024 .f32) (main_arg14 : FVec F S1024x3 .f32) (main_arg15 : FVec F S3 .f32) : IVec S64x512 1 :=
  let main_c : IVec S_ 32 := constantI S_ 32 0#32
  let main_v0 : IVec S64x512 32 := broadcastInDim S64x512 ![] bcast_S_S64x512 main_c
  let main_v1 : IVec S64x512 1 := cmpi .sge main_arg0 main_v0
  let main_c_0 : IVec S_ 32 := constantI S_ 32 32000#32
  let main_v2 : IVec S64x512 32 := broadcastInDim S64x512 ![] bcast_S_S64x512 main_c_0
  let main_v3 : IVec S64x512 1 := cmpi .slt main_arg0 main_v2
  let main_v4 : IVec S64x512 1 := andi main_v1 main_v3
  main_v4
-- ==== Kernel.lean ====
abbrev S64x512 : Shape := ⟨2, ![64, 512]⟩
abbrev S32000x300 : Shape := ⟨2, ![32000, 300]⟩
abbrev S300x1024 : Shape := ⟨2, ![300, 1024]⟩
abbrev S1024x1024 : Shape := ⟨2, ![1024, 1024]⟩
abbrev S1024 : Shape := ⟨1, ![1024]⟩
abbrev S1024x3 : Shape := ⟨2, ![1024, 3]⟩
abbrev S3 : Shape := ⟨1, ![3]⟩
abbrev S300x4096 : Shape := ⟨2, ![300, 4096]⟩
abbrev S4096 : Shape := ⟨1, ![4096]⟩
abbrev S1x4096 : Shape := ⟨2, ![1, 4096]⟩
abbrev S1024x4096 : Shape := ⟨2, ![1024, 4096]⟩
abbrev S32000x4096 : Shape := ⟨2, ![32000, 4096]⟩
abbrev S256x300 : Shape := ⟨2, ![256, 300]⟩
abbrev S256x4096 : Shape := ⟨2, ![256, 4096]⟩
abbrev S512x64 : Shape := ⟨2, ![512, 64]⟩
abbrev S32768 : Shape := ⟨1, ![32768]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S64x128 : Shape := ⟨2, ![64, 128]⟩
abbrev S2x64x4096 : Shape := ⟨3, ![2, 64, 4096]⟩
abbrev S64x1024 : Shape := ⟨2, ![64, 1024]⟩
abbrev S2 : Shape := ⟨1, ![2]⟩
abbrev S1 : Shape := ⟨1, ![1]⟩
abbrev S1x1x4096 : Shape := ⟨3, ![1, 1, 4096]⟩
abbrev S1x64x4096 : Shape := ⟨3, ![1, 64, 4096]⟩
abbrev S64x4096 : Shape := ⟨2, ![64, 4096]⟩
abbrev S64x3 : Shape := ⟨2, ![64, 3]⟩

abbrev nBuf : Space → Nat
  | .hbm => 32
  | .vmem => 13
  | .smem => 1
  | _ => 0

abbrev bufTy : (tb : Table) → Fin (tcTables nBuf tb) → BufTy
  | .hbm, ⟨0, _⟩ => ⟨S64x512, .i32⟩
  | .hbm, ⟨1, _⟩ => ⟨S32000x300, .f32⟩
  | .hbm, ⟨2, _⟩ => ⟨S300x1024, .f32⟩
  | .hbm, ⟨3, _⟩ => ⟨S300x1024, .f32⟩
  | .hbm, ⟨4, _⟩ => ⟨S300x1024, .f32⟩
  | .hbm, ⟨5, _⟩ => ⟨S300x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024x3, .f32⟩
  | .hbm, ⟨15, _⟩ => ⟨S3, .f32⟩
  | .hbm, ⟨16, _⟩ => ⟨S300x4096, .f32⟩
  | .hbm, ⟨17, _⟩ => ⟨S4096, .f32⟩
  | .hbm, ⟨18, _⟩ => ⟨S1x4096, .f32⟩
  | .hbm, ⟨19, _⟩ => ⟨S1024x4096, .f32⟩
  | .hbm, ⟨20, _⟩ => ⟨S32000x4096, .f32⟩
  | .hbm, ⟨21, _⟩ => ⟨S512x64, .i32⟩
  | .hbm, ⟨22, _⟩ => ⟨S32768, .i32⟩
  | .hbm, ⟨23, _⟩ => ⟨S_, .i32⟩
  | .hbm, ⟨24, _⟩ => ⟨S_, .f32⟩
  | .hbm, ⟨25, _⟩ => ⟨S1024x128, .f32⟩
  | .hbm, ⟨26, _⟩ => ⟨S_, .i32⟩
  | .hbm, ⟨27, _⟩ => ⟨S_, .f32⟩
  | .hbm, ⟨28, _⟩ => ⟨S128, .f32⟩
  | .hbm, ⟨29, _⟩ => ⟨S1x128, .f32⟩
  | .hbm, ⟨30, _⟩ => ⟨S64x128, .f32⟩
  | .hbm, ⟨31, _⟩ => ⟨S64x3, .f32⟩
  | .local _ .vmem, ⟨0, _⟩ => ⟨S256x300, .f32⟩
  | .local _ .vmem, ⟨1, _⟩ => ⟨S256x300, .f32⟩
  | .local _ .vmem, ⟨2, _⟩ => ⟨S300x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | .local _ .vmem, ⟨6, _⟩ => ⟨S1024x128, .f32⟩
  | .local _ .vmem, ⟨7, _⟩ => ⟨S1x128, .f32⟩
  | .local _ .vmem, ⟨8, _⟩ => ⟨S64x128, .f32⟩
  | .local _ .vmem, ⟨9, _⟩ => ⟨S1024x4096, .f32⟩
  | .local _ .vmem, ⟨10, _⟩ => ⟨S2x64x4096, .f32⟩
  | .local _ .vmem, ⟨11, _⟩ => ⟨S64x1024, .f32⟩
  | .local _ .vmem, ⟨12, _⟩ => ⟨S64x1024, .f32⟩
  | .local _ .smem, ⟨0, _⟩ => ⟨S32768, .i32⟩
  | _, _ => ⟨S64x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c : Ref sig .tc := ⟨.hbm, 23, rfl⟩
abbrev main_call0_v0 : Ref sig .tc := ⟨.hbm, 24, rfl⟩
abbrev main_v7 : Ref sig .tc := ⟨.hbm, 25, rfl⟩
abbrev main_c_0 : Ref sig .tc := ⟨.hbm, 26, rfl⟩
abbrev main_call1_v0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_scratch0 : Ref sig .tc := ⟨.vmem, 9, rfl⟩
abbrev cc1_scratch1 : Ref sig .tc := ⟨.vmem, 10, rfl⟩
abbrev cc1_scratch2 : Ref sig .tc := ⟨.vmem, 11, rfl⟩
abbrev cc1_scratch3 : Ref sig .tc := ⟨.vmem, 12, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem3_0 : DmaSem sig := 9

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![512], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_off1 (v431 : BitVec 32) : Fin 2 → Nat :=
  let c0_i32_219 : BitVec 32 := 0#32
  ![v431.toNat, 0]

def k1_chk1 (i : grid1.Coords) (v431 : BitVec 32) : Prop :=
  (∀ (k1_h1 : k1_cond1 i = 1#1), ∀ a, (k1_off1 v431) a + S1x4096.size a ≤ S32000x4096.size a)
theorem k1_off1_inb : ∀ (i : grid1.Coords) (v431 : BitVec 32) (k1_hw1 : k1_chk1 i v431), ∀ (k1_h1 : k1_cond1 i = 1#1), ∀ a, (k1_off1 v431) a + S1x4096.size a ≤ S32000x4096.size a := fun i v431 k1_hw1 k1_h1 => k1_hw1 k1_h1

def k1_off2 (v438 : BitVec 32) : Fin 2 → Nat :=
  let c0_i32_224 : BitVec 32 := 0#32
  ![v438.toNat, 0]

def k1_chk2 (i : grid1.Coords) (v438 : BitVec 32) : Prop :=
  (∀ (k1_h1 : k1_cond1 i = 1#1), ∀ a, (k1_off2 v438) a + S1x4096.size a ≤ S32000x4096.size a)
theorem k1_off2_inb : ∀ (i : grid1.Coords) (v438 : BitVec 32) (k1_hw2 : k1_chk2 i v438), ∀ (k1_h1 : k1_cond1 i = 1#1), ∀ a, (k1_off2 v438) a + S1x4096.size a ≤ S32000x4096.size a := fun i v438 k1_hw2 k1_h1 => k1_hw2 k1_h1

def k1_off3 (v445 : BitVec 32) : Fin 2 → Nat :=
  let c0_i32_229 : BitVec 32 := 0#32
  ![v445.toNat, 0]

def k1_chk3 (i : grid1.Coords) (v445 : BitVec 32) : Prop :=
  (∀ (k1_h1 : k1_cond1 i = 1#1), ∀ a, (k1_off3 v445) a + S1x4096.size a ≤ S32000x4096.size a)
theorem k1_off3_inb : ∀ (i : grid1.Coords) (v445 : BitVec 32) (k1_hw3 : k1_chk3 i v445), ∀ (k1_h1 : k1_cond1 i = 1#1), ∀ a, (k1_off3 v445) a + S1x4096.size a ≤ S32000x4096.size a := fun i v445 k1_hw3 k1_h1 => k1_hw3 k1_h1

def k1_off4 (v452 : BitVec 32) : Fin 2 → Nat :=
  let c0_i32_234 : BitVec 32 := 0#32
  ![v452.toNat, 0]

def k1_chk4 (i : grid1.Coords) (v452 : BitVec 32) : Prop :=
  (∀ (k1_h1 : k1_cond1 i = 1#1), ∀ a, (k1_off4 v452) a + S1x4096.size a ≤ S32000x4096.size a)
theorem k1_off4_inb : ∀ (i : grid1.Coords) (v452 : BitVec 32) (k1_hw4 : k1_chk4 i v452), ∀ (k1_h1 : k1_cond1 i = 1#1), ∀ a, (k1_off4 v452) a + S1x4096.size a ≤ S32000x4096.size a := fun i v452 k1_hw4 k1_h1 => k1_hw4 k1_h1

def k1_off5 (v459 : BitVec 32) : Fin 2 → Nat :=
  let c0_i32_239 : BitVec 32 := 0#32
  ![v459.toNat, 0]

def k1_chk5 (i : grid1.Coords) (v459 : BitVec 32) : Prop :=
  (∀ (k1_h1 : k1_cond1 i = 1#1), ∀ a, (k1_off5 v459) a + S1x4096.size a ≤ S32000x4096.size a)
theorem k1_off5_inb : ∀ (i : grid1.Coords) (v459 : BitVec 32) (k1_hw5 : k1_chk5 i v459), ∀ (k1_h1 : k1_cond1 i = 1#1), ∀ a, (k1_off5 v459) a + S1x4096.size a ≤ S32000x4096.size a := fun i v459 k1_hw5 k1_h1 => k1_hw5 k1_h1

def k1_off6 (v466 : BitVec 32) : Fin 2 → Nat :=
  let c0_i32_244 : BitVec 32 := 0#32
  ![v466.toNat, 0]

def k1_chk6 (i : grid1.Coords) (v466 : BitVec 32) : Prop :=
  (∀ (k1_h1 : k1_cond1 i = 1#1), ∀ a, (k1_off6 v466) a + S1x4096.size a ≤ S32000x4096.size a)
theorem k1_off6_inb : ∀ (i : grid1.Coords) (v466 : BitVec 32) (k1_hw6 : k1_chk6 i v466), ∀ (k1_h1 : k1_cond1 i = 1#1), ∀ a, (k1_off6 v466) a + S1x4096.size a ≤ S32000x4096.size a := fun i v466 k1_hw6 k1_h1 => k1_hw6 k1_h1

def k1_off7 (v473 : BitVec 32) : Fin 2 → Nat :=
  let c0_i32_249 : BitVec 32 := 0#32
  ![v473.toNat, 0]

def k1_chk7 (i : grid1.Coords) (v473 : BitVec 32) : Prop :=
  (∀ (k1_h1 : k1_cond1 i = 1#1), ∀ a, (k1_off7 v473) a + S1x4096.size a ≤ S32000x4096.size a)
theorem k1_off7_inb : ∀ (i : grid1.Coords) (v473 : BitVec 32) (k1_hw7 : k1_chk7 i v473), ∀ (k1_h1 : k1_cond1 i = 1#1), ∀ a, (k1_off7 v473) a + S1x4096.size a ≤ S32000x4096.size a := fun i v473 k1_hw7 k1_h1 => k1_hw7 k1_h1

def k1_off8 (v480 : BitVec 32) : Fin 2 → Nat :=
  let c0_i32_254 : BitVec 32 := 0#32
  ![v480.toNat, 0]

def k1_chk8 (i : grid1.Coords) (v480 : BitVec 32) : Prop :=
  (∀ (k1_h1 : k1_cond1 i = 1#1), ∀ a, (k1_off8 v480) a + S1x4096.size a ≤ S32000x4096.size a)
theorem k1_off8_inb : ∀ (i : grid1.Coords) (v480 : BitVec 32) (k1_hw8 : k1_chk8 i v480), ∀ (k1_h1 : k1_cond1 i = 1#1), ∀ a, (k1_off8 v480) a + S1x4096.size a ≤ S32000x4096.size a := fun i v480 k1_hw8 k1_h1 => k1_hw8 k1_h1

def k1_off9 (v487 : BitVec 32) : Fin 2 → Nat :=
  let c0_i32_259 : BitVec 32 := 0#32
  ![v487.toNat, 0]

def k1_chk9 (i : grid1.Coords) (v487 : BitVec 32) : Prop :=
  (∀ (k1_h1 : k1_cond1 i = 1#1), ∀ a, (k1_off9 v487) a + S1x4096.size a ≤ S32000x4096.size a)
theorem k1_off9_inb : ∀ (i : grid1.Coords) (v487 : BitVec 32) (k1_hw9 : k1_chk9 i v487), ∀ (k1_h1 : k1_cond1 i = 1#1), ∀ a, (k1_off9 v487) a + S1x4096.size a ≤ S32000x4096.size a := fun i v487 k1_hw9 k1_h1 => k1_hw9 k1_h1

def k1_off10 (v494 : BitVec 32) : Fin 2 → Nat :=
  let c0_i32_264 : BitVec 32 := 0#32
  ![v494.toNat, 0]

def k1_chk10 (i : grid1.Coords) (v494 : BitVec 32) : Prop :=
  (∀ (k1_h1 : k1_cond1 i = 1#1), ∀ a, (k1_off10 v494) a + S1x4096.size a ≤ S32000x4096.size a)
theorem k1_off10_inb : ∀ (i : grid1.Coords) (v494 : BitVec 32) (k1_hw10 : k1_chk10 i v494), ∀ (k1_h1 : k1_cond1 i = 1#1), ∀ a, (k1_off10 v494) a + S1x4096.size a ≤ S32000x4096.size a := fun i v494 k1_hw10 k1_h1 => k1_hw10 k1_h1

def k1_off11 (v501 : BitVec 32) : Fin 2 → Nat :=
  let c0_i32_269 : BitVec 32 := 0#32
  ![v501.toNat, 0]

def k1_chk11 (i : grid1.Coords) (v501 : BitVec 32) : Prop :=
  (∀ (k1_h1 : k1_cond1 i = 1#1), ∀ a, (k1_off11 v501) a + S1x4096.size a ≤ S32000x4096.size a)
theorem k1_off11_inb : ∀ (i : grid1.Coords) (v501 : BitVec 32) (k1_hw11 : k1_chk11 i v501), ∀ (k1_h1 : k1_cond1 i = 1#1), ∀ a, (k1_off11 v501) a + S1x4096.size a ≤ S32000x4096.size a := fun i v501 k1_hw11 k1_h1 => k1_hw11 k1_h1

def k1_off12 (v508 : BitVec 32) : Fin 2 → Nat :=
  let c0_i32_274 : BitVec 32 := 0#32
  ![v508.toNat, 0]

def k1_chk12 (i : grid1.Coords) (v508 : BitVec 32) : Prop :=
  (∀ (k1_h1 : k1_cond1 i = 1#1), ∀ a, (k1_off12 v508) a + S1x4096.size a ≤ S32000x4096.size a)
theorem k1_off12_inb : ∀ (i : grid1.Coords) (v508 : BitVec 32) (k1_hw12 : k1_chk12 i v508), ∀ (k1_h1 : k1_cond1 i = 1#1), ∀ a, (k1_off12 v508) a + S1x4096.size a ≤ S32000x4096.size a := fun i v508 k1_hw12 k1_h1 => k1_hw12 k1_h1

def k1_off13 (v515 : BitVec 32) : Fin 2 → Nat :=
  let c0_i32_279 : BitVec 32 := 0#32
  ![v515.toNat, 0]

def k1_chk13 (i : grid1.Coords) (v515 : BitVec 32) : Prop :=
  (∀ (k1_h1 : k1_cond1 i = 1#1), ∀ a, (k1_off13 v515) a + S1x4096.size a ≤ S32000x4096.size a)
theorem k1_off13_inb : ∀ (i : grid1.Coords) (v515 : BitVec 32) (k1_hw13 : k1_chk13 i v515), ∀ (k1_h1 : k1_cond1 i = 1#1), ∀ a, (k1_off13 v515) a + S1x4096.size a ≤ S32000x4096.size a := fun i v515 k1_hw13 k1_h1 => k1_hw13 k1_h1

def k1_off14 (v522 : BitVec 32) : Fin 2 → Nat :=
  let c0_i32_284 : BitVec 32 := 0#32
  ![v522.toNat, 0]

def k1_chk14 (i : grid1.Coords) (v522 : BitVec 32) : Prop :=
  (∀ (k1_h1 : k1_cond1 i = 1#1), ∀ a, (k1_off14 v522) a + S1x4096.size a ≤ S32000x4096.size a)
theorem k1_off14_inb : ∀ (i : grid1.Coords) (v522 : BitVec 32) (k1_hw14 : k1_chk14 i v522), ∀ (k1_h1 : k1_cond1 i = 1#1), ∀ a, (k1_off14 v522) a + S1x4096.size a ≤ S32000x4096.size a := fun i v522 k1_hw14 k1_h1 => k1_hw14 k1_h1

def k1_off15 (v529 : BitVec 32) : Fin 2 → Nat :=
  let c0_i32_289 : BitVec 32 := 0#32
  ![v529.toNat, 0]

def k1_chk15 (i : grid1.Coords) (v529 : BitVec 32) : Prop :=
  (∀ (k1_h1 : k1_cond1 i = 1#1), ∀ a, (k1_off15 v529) a + S1x4096.size a ≤ S32000x4096.size a)
theorem k1_off15_inb : ∀ (i : grid1.Coords) (v529 : BitVec 32) (k1_hw15 : k1_chk15 i v529), ∀ (k1_h1 : k1_cond1 i = 1#1), ∀ a, (k1_off15 v529) a + S1x4096.size a ≤ S32000x4096.size a := fun i v529 k1_hw15 k1_h1 => k1_hw15 k1_h1

def k1_off16 (v536 : BitVec 32) : Fin 2 → Nat :=
  let c0_i32_294 : BitVec 32 := 0#32
  ![v536.toNat, 0]

def k1_chk16 (i : grid1.Coords) (v536 : BitVec 32) : Prop :=
  (∀ (k1_h1 : k1_cond1 i = 1#1), ∀ a, (k1_off16 v536) a + S1x4096.size a ≤ S32000x4096.size a)
theorem k1_off16_inb : ∀ (i : grid1.Coords) (v536 : BitVec 32) (k1_hw16 : k1_chk16 i v536), ∀ (k1_h1 : k1_cond1 i = 1#1), ∀ a, (k1_off16 v536) a + S1x4096.size a ≤ S32000x4096.size a := fun i v536 k1_hw16 k1_h1 => k1_hw16 k1_h1

def k1_off17 (v543 : BitVec 32) : Fin 2 → Nat :=
  let c0_i32_299 : BitVec 32 := 0#32
  ![v543.toNat, 0]

def k1_chk17 (i : grid1.Coords) (v543 : BitVec 32) : Prop :=
  (∀ (k1_h1 : k1_cond1 i = 1#1), ∀ a, (k1_off17 v543) a + S1x4096.size a ≤ S32000x4096.size a)
theorem k1_off17_inb : ∀ (i : grid1.Coords) (v543 : BitVec 32) (k1_hw17 : k1_chk17 i v543), ∀ (k1_h1 : k1_cond1 i = 1#1), ∀ a, (k1_off17 v543) a + S1x4096.size a ≤ S32000x4096.size a := fun i v543 k1_hw17 k1_h1 => k1_hw17 k1_h1

def k1_off18 (v550 : BitVec 32) : Fin 2 → Nat :=
  let c0_i32_304 : BitVec 32 := 0#32
  ![v550.toNat, 0]

def k1_chk18 (i : grid1.Coords) (v550 : BitVec 32) : Prop :=
  (∀ (k1_h1 : k1_cond1 i = 1#1), ∀ a, (k1_off18 v550) a + S1x4096.size a ≤ S32000x4096.size a)
theorem k1_off18_inb : ∀ (i : grid1.Coords) (v550 : BitVec 32) (k1_hw18 : k1_chk18 i v550), ∀ (k1_h1 : k1_cond1 i = 1#1), ∀ a, (k1_off18 v550) a + S1x4096.size a ≤ S32000x4096.size a := fun i v550 k1_hw18 k1_h1 => k1_hw18 k1_h1

def k1_off19 (v557 : BitVec 32) : Fin 2 → Nat :=
  let c0_i32_309 : BitVec 32 := 0#32
  ![v557.toNat, 0]

def k1_chk19 (i : grid1.Coords) (v557 : BitVec 32) : Prop :=
  (∀ (k1_h1 : k1_cond1 i = 1#1), ∀ a, (k1_off19 v557) a + S1x4096.size a ≤ S32000x4096.size a)
theorem k1_off19_inb : ∀ (i : grid1.Coords) (v557 : BitVec 32) (k1_hw19 : k1_chk19 i v557), ∀ (k1_h1 : k1_cond1 i = 1#1), ∀ a, (k1_off19 v557) a + S1x4096.size a ≤ S32000x4096.size a := fun i v557 k1_hw19 k1_h1 => k1_hw19 k1_h1

def k1_off20 (v564 : BitVec 32) : Fin 2 → Nat :=
  let c0_i32_314 : BitVec 32 := 0#32
  ![v564.toNat, 0]

def k1_chk20 (i : grid1.Coords) (v564 : BitVec 32) : Prop :=
  (∀ (k1_h1 : k1_cond1 i = 1#1), ∀ a, (k1_off20 v564) a + S1x4096.size a ≤ S32000x4096.size a)
theorem k1_off20_inb : ∀ (i : grid1.Coords) (v564 : BitVec 32) (k1_hw20 : k1_chk20 i v564), ∀ (k1_h1 : k1_cond1 i = 1#1), ∀ a, (k1_off20 v564) a + S1x4096.size a ≤ S32000x4096.size a := fun i v564 k1_hw20 k1_h1 => k1_hw20 k1_h1

def k1_off21 (v571 : BitVec 32) : Fin 2 → Nat :=
  let c0_i32_319 : BitVec 32 := 0#32
  ![v571.toNat, 0]

def k1_chk21 (i : grid1.Coords) (v571 : BitVec 32) : Prop :=
  (∀ (k1_h1 : k1_cond1 i = 1#1), ∀ a, (k1_off21 v571) a + S1x4096.size a ≤ S32000x4096.size a)
theorem k1_off21_inb : ∀ (i : grid1.Coords) (v571 : BitVec 32) (k1_hw21 : k1_chk21 i v571), ∀ (k1_h1 : k1_cond1 i = 1#1), ∀ a, (k1_off21 v571) a + S1x4096.size a ≤ S32000x4096.size a := fun i v571 k1_hw21 k1_h1 => k1_hw21 k1_h1

def k1_off22 (v578 : BitVec 32) : Fin 2 → Nat :=
  let c0_i32_324 : BitVec 32 := 0#32
  ![v578.toNat, 0]

def k1_chk22 (i : grid1.Coords) (v578 : BitVec 32) : Prop :=
  (∀ (k1_h1 : k1_cond1 i = 1#1), ∀ a, (k1_off22 v578) a + S1x4096.size a ≤ S32000x4096.size a)
theorem k1_off22_inb : ∀ (i : grid1.Coords) (v578 : BitVec 32) (k1_hw22 : k1_chk22 i v578), ∀ (k1_h1 : k1_cond1 i = 1#1), ∀ a, (k1_off22 v578) a + S1x4096.size a ≤ S32000x4096.size a := fun i v578 k1_hw22 k1_h1 => k1_hw22 k1_h1

def k1_off23 (v585 : BitVec 32) : Fin 2 → Nat :=
  let c0_i32_329 : BitVec 32 := 0#32
  ![v585.toNat, 0]

def k1_chk23 (i : grid1.Coords) (v585 : BitVec 32) : Prop :=
  (∀ (k1_h1 : k1_cond1 i = 1#1), ∀ a, (k1_off23 v585) a + S1x4096.size a ≤ S32000x4096.size a)
theorem k1_off23_inb : ∀ (i : grid1.Coords) (v585 : BitVec 32) (k1_hw23 : k1_chk23 i v585), ∀ (k1_h1 : k1_cond1 i = 1#1), ∀ a, (k1_off23 v585) a + S1x4096.size a ≤ S32000x4096.size a := fun i v585 k1_hw23 k1_h1 => k1_hw23 k1_h1

def k1_off24 (v592 : BitVec 32) : Fin 2 → Nat :=
  let c0_i32_334 : BitVec 32 := 0#32
  ![v592.toNat, 0]

def k1_chk24 (i : grid1.Coords) (v592 : BitVec 32) : Prop :=
  (∀ (k1_h1 : k1_cond1 i = 1#1), ∀ a, (k1_off24 v592) a + S1x4096.size a ≤ S32000x4096.size a)
theorem k1_off24_inb : ∀ (i : grid1.Coords) (v592 : BitVec 32) (k1_hw24 : k1_chk24 i v592), ∀ (k1_h1 : k1_cond1 i = 1#1), ∀ a, (k1_off24 v592) a + S1x4096.size a ≤ S32000x4096.size a := fun i v592 k1_hw24 k1_h1 => k1_hw24 k1_h1

def k1_off25 (v599 : BitVec 32) : Fin 2 → Nat :=
  let c0_i32_339 : BitVec 32 := 0#32
  ![v599.toNat, 0]

def k1_chk25 (i : grid1.Coords) (v599 : BitVec 32) : Prop :=
  (∀ (k1_h1 : k1_cond1 i = 1#1), ∀ a, (k1_off25 v599) a + S1x4096.size a ≤ S32000x4096.size a)
theorem k1_off25_inb : ∀ (i : grid1.Coords) (v599 : BitVec 32) (k1_hw25 : k1_chk25 i v599), ∀ (k1_h1 : k1_cond1 i = 1#1), ∀ a, (k1_off25 v599) a + S1x4096.size a ≤ S32000x4096.size a := fun i v599 k1_hw25 k1_h1 => k1_hw25 k1_h1

def k1_off26 (v606 : BitVec 32) : Fin 2 → Nat :=
  let c0_i32_344 : BitVec 32 := 0#32
  ![v606.toNat, 0]

def k1_chk26 (i : grid1.Coords) (v606 : BitVec 32) : Prop :=
  (∀ (k1_h1 : k1_cond1 i = 1#1), ∀ a, (k1_off26 v606) a + S1x4096.size a ≤ S32000x4096.size a)
theorem k1_off26_inb : ∀ (i : grid1.Coords) (v606 : BitVec 32) (k1_hw26 : k1_chk26 i v606), ∀ (k1_h1 : k1_cond1 i = 1#1), ∀ a, (k1_off26 v606) a + S1x4096.size a ≤ S32000x4096.size a := fun i v606 k1_hw26 k1_h1 => k1_hw26 k1_h1

def k1_off27 (v613 : BitVec 32) : Fin 2 → Nat :=
  let c0_i32_349 : BitVec 32 := 0#32
  ![v613.toNat, 0]

def k1_chk27 (i : grid1.Coords) (v613 : BitVec 32) : Prop :=
  (∀ (k1_h1 : k1_cond1 i = 1#1), ∀ a, (k1_off27 v613) a + S1x4096.size a ≤ S32000x4096.size a)
theorem k1_off27_inb : ∀ (i : grid1.Coords) (v613 : BitVec 32) (k1_hw27 : k1_chk27 i v613), ∀ (k1_h1 : k1_cond1 i = 1#1), ∀ a, (k1_off27 v613) a + S1x4096.size a ≤ S32000x4096.size a := fun i v613 k1_hw27 k1_h1 => k1_hw27 k1_h1

def k1_off28 (v620 : BitVec 32) : Fin 2 → Nat :=
  let c0_i32_354 : BitVec 32 := 0#32
  ![v620.toNat, 0]

def k1_chk28 (i : grid1.Coords) (v620 : BitVec 32) : Prop :=
  (∀ (k1_h1 : k1_cond1 i = 1#1), ∀ a, (k1_off28 v620) a + S1x4096.size a ≤ S32000x4096.size a)
theorem k1_off28_inb : ∀ (i : grid1.Coords) (v620 : BitVec 32) (k1_hw28 : k1_chk28 i v620), ∀ (k1_h1 : k1_cond1 i = 1#1), ∀ a, (k1_off28 v620) a + S1x4096.size a ≤ S32000x4096.size a := fun i v620 k1_hw28 k1_h1 => k1_hw28 k1_h1

def k1_off29 (v627 : BitVec 32) : Fin 2 → Nat :=
  let c0_i32_359 : BitVec 32 := 0#32
  ![v627.toNat, 0]

def k1_chk29 (i : grid1.Coords) (v627 : BitVec 32) : Prop :=
  (∀ (k1_h1 : k1_cond1 i = 1#1), ∀ a, (k1_off29 v627) a + S1x4096.size a ≤ S32000x4096.size a)
theorem k1_off29_inb : ∀ (i : grid1.Coords) (v627 : BitVec 32) (k1_hw29 : k1_chk29 i v627), ∀ (k1_h1 : k1_cond1 i = 1#1), ∀ a, (k1_off29 v627) a + S1x4096.size a ≤ S32000x4096.size a := fun i v627 k1_hw29 k1_h1 => k1_hw29 k1_h1

def k1_off30 (v634 : BitVec 32) : Fin 2 → Nat :=
  let c0_i32_364 : BitVec 32 := 0#32
  ![v634.toNat, 0]

def k1_chk30 (i : grid1.Coords) (v634 : BitVec 32) : Prop :=
  (∀ (k1_h1 : k1_cond1 i = 1#1), ∀ a, (k1_off30 v634) a + S1x4096.size a ≤ S32000x4096.size a)
theorem k1_off30_inb : ∀ (i : grid1.Coords) (v634 : BitVec 32) (k1_hw30 : k1_chk30 i v634), ∀ (k1_h1 : k1_cond1 i = 1#1), ∀ a, (k1_off30 v634) a + S1x4096.size a ≤ S32000x4096.size a := fun i v634 k1_hw30 k1_h1 => k1_hw30 k1_h1

def k1_off31 (v641 : BitVec 32) : Fin 2 → Nat :=
  let c0_i32_369 : BitVec 32 := 0#32
  ![v641.toNat, 0]

def k1_chk31 (i : grid1.Coords) (v641 : BitVec 32) : Prop :=
  (∀ (k1_h1 : k1_cond1 i = 1#1), ∀ a, (k1_off31 v641) a + S1x4096.size a ≤ S32000x4096.size a)
theorem k1_off31_inb : ∀ (i : grid1.Coords) (v641 : BitVec 32) (k1_hw31 : k1_chk31 i v641), ∀ (k1_h1 : k1_cond1 i = 1#1), ∀ a, (k1_off31 v641) a + S1x4096.size a ≤ S32000x4096.size a := fun i v641 k1_hw31 k1_h1 => k1_hw31 k1_h1

def k1_off32 (v648 : BitVec 32) : Fin 2 → Nat :=
  let c0_i32_374 : BitVec 32 := 0#32
  ![v648.toNat, 0]

def k1_chk32 (i : grid1.Coords) (v648 : BitVec 32) : Prop :=
  (∀ (k1_h1 : k1_cond1 i = 1#1), ∀ a, (k1_off32 v648) a + S1x4096.size a ≤ S32000x4096.size a)
theorem k1_off32_inb : ∀ (i : grid1.Coords) (v648 : BitVec 32) (k1_hw32 : k1_chk32 i v648), ∀ (k1_h1 : k1_cond1 i = 1#1), ∀ a, (k1_off32 v648) a + S1x4096.size a ≤ S32000x4096.size a := fun i v648 k1_hw32 k1_h1 => k1_hw32 k1_h1

def k1_off33 (v655 : BitVec 32) : Fin 2 → Nat :=
  let c0_i32_379 : BitVec 32 := 0#32
  ![v655.toNat, 0]

def k1_chk33 (i : grid1.Coords) (v655 : BitVec 32) : Prop :=
  (∀ (k1_h1 : k1_cond1 i = 1#1), ∀ a, (k1_off33 v655) a + S1x4096.size a ≤ S32000x4096.size a)
theorem k1_off33_inb : ∀ (i : grid1.Coords) (v655 : BitVec 32) (k1_hw33 : k1_chk33 i v655), ∀ (k1_h1 : k1_cond1 i = 1#1), ∀ a, (k1_off33 v655) a + S1x4096.size a ≤ S32000x4096.size a := fun i v655 k1_hw33 k1_h1 => k1_hw33 k1_h1

def k1_off34 (v662 : BitVec 32) : Fin 2 → Nat :=
  let c0_i32_384 : BitVec 32 := 0#32
  ![v662.toNat, 0]

def k1_chk34 (i : grid1.Coords) (v662 : BitVec 32) : Prop :=
  (∀ (k1_h1 : k1_cond1 i = 1#1), ∀ a, (k1_off34 v662) a + S1x4096.size a ≤ S32000x4096.size a)
theorem k1_off34_inb : ∀ (i : grid1.Coords) (v662 : BitVec 32) (k1_hw34 : k1_chk34 i v662), ∀ (k1_h1 : k1_cond1 i = 1#1), ∀ a, (k1_off34 v662) a + S1x4096.size a ≤ S32000x4096.size a := fun i v662 k1_hw34 k1_h1 => k1_hw34 k1_h1

def k1_off35 (v669 : BitVec 32) : Fin 2 → Nat :=
  let c0_i32_389 : BitVec 32 := 0#32
  ![v669.toNat, 0]

def k1_chk35 (i : grid1.Coords) (v669 : BitVec 32) : Prop :=
  (∀ (k1_h1 : k1_cond1 i = 1#1), ∀ a, (k1_off35 v669) a + S1x4096.size a ≤ S32000x4096.size a)
theorem k1_off35_inb : ∀ (i : grid1.Coords) (v669 : BitVec 32) (k1_hw35 : k1_chk35 i v669), ∀ (k1_h1 : k1_cond1 i = 1#1), ∀ a, (k1_off35 v669) a + S1x4096.size a ≤ S32000x4096.size a := fun i v669 k1_hw35 k1_h1 => k1_hw35 k1_h1

def k1_off36 (v676 : BitVec 32) : Fin 2 → Nat :=
  let c0_i32_394 : BitVec 32 := 0#32
  ![v676.toNat, 0]

def k1_chk36 (i : grid1.Coords) (v676 : BitVec 32) : Prop :=
  (∀ (k1_h1 : k1_cond1 i = 1#1), ∀ a, (k1_off36 v676) a + S1x4096.size a ≤ S32000x4096.size a)
theorem k1_off36_inb : ∀ (i : grid1.Coords) (v676 : BitVec 32) (k1_hw36 : k1_chk36 i v676), ∀ (k1_h1 : k1_cond1 i = 1#1), ∀ a, (k1_off36 v676) a + S1x4096.size a ≤ S32000x4096.size a := fun i v676 k1_hw36 k1_h1 => k1_hw36 k1_h1

def k1_off37 (v683 : BitVec 32) : Fin 2 → Nat :=
  let c0_i32_399 : BitVec 32 := 0#32
  ![v683.toNat, 0]

def k1_chk37 (i : grid1.Coords) (v683 : BitVec 32) : Prop :=
  (∀ (k1_h1 : k1_cond1 i = 1#1), ∀ a, (k1_off37 v683) a + S1x4096.size a ≤ S32000x4096.size a)
theorem k1_off37_inb : ∀ (i : grid1.Coords) (v683 : BitVec 32) (k1_hw37 : k1_chk37 i v683), ∀ (k1_h1 : k1_cond1 i = 1#1), ∀ a, (k1_off37 v683) a + S1x4096.size a ≤ S32000x4096.size a := fun i v683 k1_hw37 k1_h1 => k1_hw37 k1_h1

def k1_off38 (v690 : BitVec 32) : Fin 2 → Nat :=
  let c0_i32_404 : BitVec 32 := 0#32
  ![v690.toNat, 0]

def k1_chk38 (i : grid1.Coords) (v690 : BitVec 32) : Prop :=
  (∀ (k1_h1 : k1_cond1 i = 1#1), ∀ a, (k1_off38 v690) a + S1x4096.size a ≤ S32000x4096.size a)
theorem k1_off38_inb : ∀ (i : grid1.Coords) (v690 : BitVec 32) (k1_hw38 : k1_chk38 i v690), ∀ (k1_h1 : k1_cond1 i = 1#1), ∀ a, (k1_off38 v690) a + S1x4096.size a ≤ S32000x4096.size a := fun i v690 k1_hw38 k1_h1 => k1_hw38 k1_h1

def k1_off39 (v697 : BitVec 32) : Fin 2 → Nat :=
  let c0_i32_409 : BitVec 32 := 0#32
  ![v697.toNat, 0]

def k1_chk39 (i : grid1.Coords) (v697 : BitVec 32) : Prop :=
  (∀ (k1_h1 : k1_cond1 i = 1#1), ∀ a, (k1_off39 v697) a + S1x4096.size a ≤ S32000x4096.size a)
theorem k1_off39_inb : ∀ (i : grid1.Coords) (v697 : BitVec 32) (k1_hw39 : k1_chk39 i v697), ∀ (k1_h1 : k1_cond1 i = 1#1), ∀ a, (k1_off39 v697) a + S1x4096.size a ≤ S32000x4096.size a := fun i v697 k1_hw39 k1_h1 => k1_hw39 k1_h1

def k1_off40 (v704 : BitVec 32) : Fin 2 → Nat :=
  let c0_i32_414 : BitVec 32 := 0#32
  ![v704.toNat, 0]

def k1_chk40 (i : grid1.Coords) (v704 : BitVec 32) : Prop :=
  (∀ (k1_h1 : k1_cond1 i = 1#1), ∀ a, (k1_off40 v704) a + S1x4096.size a ≤ S32000x4096.size a)
theorem k1_off40_inb : ∀ (i : grid1.Coords) (v704 : BitVec 32) (k1_hw40 : k1_chk40 i v704), ∀ (k1_h1 : k1_cond1 i = 1#1), ∀ a, (k1_off40 v704) a + S1x4096.size a ≤ S32000x4096.size a := fun i v704 k1_hw40 k1_h1 => k1_hw40 k1_h1

def k1_off41 (v711 : BitVec 32) : Fin 2 → Nat :=
  let c0_i32_419 : BitVec 32 := 0#32
  ![v711.toNat, 0]

def k1_chk41 (i : grid1.Coords) (v711 : BitVec 32) : Prop :=
  (∀ (k1_h1 : k1_cond1 i = 1#1), ∀ a, (k1_off41 v711) a + S1x4096.size a ≤ S32000x4096.size a)
theorem k1_off41_inb : ∀ (i : grid1.Coords) (v711 : BitVec 32) (k1_hw41 : k1_chk41 i v711), ∀ (k1_h1 : k1_cond1 i = 1#1), ∀ a, (k1_off41 v711) a + S1x4096.size a ≤ S32000x4096.size a := fun i v711 k1_hw41 k1_h1 => k1_hw41 k1_h1

def k1_off42 (v718 : BitVec 32) : Fin 2 → Nat :=
  let c0_i32_424 : BitVec 32 := 0#32
  ![v718.toNat, 0]

def k1_chk42 (i : grid1.Coords) (v718 : BitVec 32) : Prop :=
  (∀ (k1_h1 : k1_cond1 i = 1#1), ∀ a, (k1_off42 v718) a + S1x4096.size a ≤ S32000x4096.size a)
theorem k1_off42_inb : ∀ (i : grid1.Coords) (v718 : BitVec 32) (k1_hw42 : k1_chk42 i v718), ∀ (k1_h1 : k1_cond1 i = 1#1), ∀ a, (k1_off42 v718) a + S1x4096.size a ≤ S32000x4096.size a := fun i v718 k1_hw42 k1_h1 => k1_hw42 k1_h1

def k1_off43 (v725 : BitVec 32) : Fin 2 → Nat :=
  let c0_i32_429 : BitVec 32 := 0#32
  ![v725.toNat, 0]

def k1_chk43 (i : grid1.Coords) (v725 : BitVec 32) : Prop :=
  (∀ (k1_h1 : k1_cond1 i = 1#1), ∀ a, (k1_off43 v725) a + S1x4096.size a ≤ S32000x4096.size a)
theorem k1_off43_inb : ∀ (i : grid1.Coords) (v725 : BitVec 32) (k1_hw43 : k1_chk43 i v725), ∀ (k1_h1 : k1_cond1 i = 1#1), ∀ a, (k1_off43 v725) a + S1x4096.size a ≤ S32000x4096.size a := fun i v725 k1_hw43 k1_h1 => k1_hw43 k1_h1

def k1_off44 (v732 : BitVec 32) : Fin 2 → Nat :=
  let c0_i32_434 : BitVec 32 := 0#32
  ![v732.toNat, 0]

def k1_chk44 (i : grid1.Coords) (v732 : BitVec 32) : Prop :=
  (∀ (k1_h1 : k1_cond1 i = 1#1), ∀ a, (k1_off44 v732) a + S1x4096.size a ≤ S32000x4096.size a)
theorem k1_off44_inb : ∀ (i : grid1.Coords) (v732 : BitVec 32) (k1_hw44 : k1_chk44 i v732), ∀ (k1_h1 : k1_cond1 i = 1#1), ∀ a, (k1_off44 v732) a + S1x4096.size a ≤ S32000x4096.size a := fun i v732 k1_hw44 k1_h1 => k1_hw44 k1_h1

def k1_off45 (v739 : BitVec 32) : Fin 2 → Nat :=
  let c0_i32_439 : BitVec 32 := 0#32
  ![v739.toNat, 0]

def k1_chk45 (i : grid1.Coords) (v739 : BitVec 32) : Prop :=
  (∀ (k1_h1 : k1_cond1 i = 1#1), ∀ a, (k1_off45 v739) a + S1x4096.size a ≤ S32000x4096.size a)
theorem k1_off45_inb : ∀ (i : grid1.Coords) (v739 : BitVec 32) (k1_hw45 : k1_chk45 i v739), ∀ (k1_h1 : k1_cond1 i = 1#1), ∀ a, (k1_off45 v739) a + S1x4096.size a ≤ S32000x4096.size a := fun i v739 k1_hw45 k1_h1 => k1_hw45 k1_h1

def k1_off46 (v746 : BitVec 32) : Fin 2 → Nat :=
  let c0_i32_444 : BitVec 32 := 0#32
  ![v746.toNat, 0]

def k1_chk46 (i : grid1.Coords) (v746 : BitVec 32) : Prop :=
  (∀ (k1_h1 : k1_cond1 i = 1#1), ∀ a, (k1_off46 v746) a + S1x4096.size a ≤ S32000x4096.size a)
theorem k1_off46_inb : ∀ (i : grid1.Coords) (v746 : BitVec 32) (k1_hw46 : k1_chk46 i v746), ∀ (k1_h1 : k1_cond1 i = 1#1), ∀ a, (k1_off46 v746) a + S1x4096.size a ≤ S32000x4096.size a := fun i v746 k1_hw46 k1_h1 => k1_hw46 k1_h1

def k1_off47 (v753 : BitVec 32) : Fin 2 → Nat :=
  let c0_i32_449 : BitVec 32 := 0#32
  ![v753.toNat, 0]

def k1_chk47 (i : grid1.Coords) (v753 : BitVec 32) : Prop :=
  (∀ (k1_h1 : k1_cond1 i = 1#1), ∀ a, (k1_off47 v753) a + S1x4096.size a ≤ S32000x4096.size a)
theorem k1_off47_inb : ∀ (i : grid1.Coords) (v753 : BitVec 32) (k1_hw47 : k1_chk47 i v753), ∀ (k1_h1 : k1_cond1 i = 1#1), ∀ a, (k1_off47 v753) a + S1x4096.size a ≤ S32000x4096.size a := fun i v753 k1_hw47 k1_h1 => k1_hw47 k1_h1

def k1_off48 (v760 : BitVec 32) : Fin 2 → Nat :=
  let c0_i32_454 : BitVec 32 := 0#32
  ![v760.toNat, 0]

def k1_chk48 (i : grid1.Coords) (v760 : BitVec 32) : Prop :=
  (∀ (k1_h1 : k1_cond1 i = 1#1), ∀ a, (k1_off48 v760) a + S1x4096.size a ≤ S32000x4096.size a)
theorem k1_off48_inb : ∀ (i : grid1.Coords) (v760 : BitVec 32) (k1_hw48 : k1_chk48 i v760), ∀ (k1_h1 : k1_cond1 i = 1#1), ∀ a, (k1_off48 v760) a + S1x4096.size a ≤ S32000x4096.size a := fun i v760 k1_hw48 k1_h1 => k1_hw48 k1_h1

def k1_off49 (v767 : BitVec 32) : Fin 2 → Nat :=
  let c0_i32_459 : BitVec 32 := 0#32
  ![v767.toNat, 0]

def k1_chk49 (i : grid1.Coords) (v767 : BitVec 32) : Prop :=
  (∀ (k1_h1 : k1_cond1 i = 1#1), ∀ a, (k1_off49 v767) a + S1x4096.size a ≤ S32000x4096.size a)
theorem k1_off49_inb : ∀ (i : grid1.Coords) (v767 : BitVec 32) (k1_hw49 : k1_chk49 i v767), ∀ (k1_h1 : k1_cond1 i = 1#1), ∀ a, (k1_off49 v767) a + S1x4096.size a ≤ S32000x4096.size a := fun i v767 k1_hw49 k1_h1 => k1_hw49 k1_h1

def k1_off50 (v774 : BitVec 32) : Fin 2 → Nat :=
  let c0_i32_464 : BitVec 32 := 0#32
  ![v774.toNat, 0]

def k1_chk50 (i : grid1.Coords) (v774 : BitVec 32) : Prop :=
  (∀ (k1_h1 : k1_cond1 i = 1#1), ∀ a, (k1_off50 v774) a + S1x4096.size a ≤ S32000x4096.size a)
theorem k1_off50_inb : ∀ (i : grid1.Coords) (v774 : BitVec 32) (k1_hw50 : k1_chk50 i v774), ∀ (k1_h1 : k1_cond1 i = 1#1), ∀ a, (k1_off50 v774) a + S1x4096.size a ≤ S32000x4096.size a := fun i v774 k1_hw50 k1_h1 => k1_hw50 k1_h1

def k1_off51 (v781 : BitVec 32) : Fin 2 → Nat :=
  let c0_i32_469 : BitVec 32 := 0#32
  ![v781.toNat, 0]

def k1_chk51 (i : grid1.Coords) (v781 : BitVec 32) : Prop :=
  (∀ (k1_h1 : k1_cond1 i = 1#1), ∀ a, (k1_off51 v781) a + S1x4096.size a ≤ S32000x4096.size a)
theorem k1_off51_inb : ∀ (i : grid1.Coords) (v781 : BitVec 32) (k1_hw51 : k1_chk51 i v781), ∀ (k1_h1 : k1_cond1 i = 1#1), ∀ a, (k1_off51 v781) a + S1x4096.size a ≤ S32000x4096.size a := fun i v781 k1_hw51 k1_h1 => k1_hw51 k1_h1

def k1_off52 (v788 : BitVec 32) : Fin 2 → Nat :=
  let c0_i32_474 : BitVec 32 := 0#32
  ![v788.toNat, 0]

def k1_chk52 (i : grid1.Coords) (v788 : BitVec 32) : Prop :=
  (∀ (k1_h1 : k1_cond1 i = 1#1), ∀ a, (k1_off52 v788) a + S1x4096.size a ≤ S32000x4096.size a)
theorem k1_off52_inb : ∀ (i : grid1.Coords) (v788 : BitVec 32) (k1_hw52 : k1_chk52 i v788), ∀ (k1_h1 : k1_cond1 i = 1#1), ∀ a, (k1_off52 v788) a + S1x4096.size a ≤ S32000x4096.size a := fun i v788 k1_hw52 k1_h1 => k1_hw52 k1_h1

def k1_off53 (v795 : BitVec 32) : Fin 2 → Nat :=
  let c0_i32_479 : BitVec 32 := 0#32
  ![v795.toNat, 0]

def k1_chk53 (i : grid1.Coords) (v795 : BitVec 32) : Prop :=
  (∀ (k1_h1 : k1_cond1 i = 1#1), ∀ a, (k1_off53 v795) a + S1x4096.size a ≤ S32000x4096.size a)
theorem k1_off53_inb : ∀ (i : grid1.Coords) (v795 : BitVec 32) (k1_hw53 : k1_chk53 i v795), ∀ (k1_h1 : k1_cond1 i = 1#1), ∀ a, (k1_off53 v795) a + S1x4096.size a ≤ S32000x4096.size a := fun i v795 k1_hw53 k1_h1 => k1_hw53 k1_h1

def k1_off54 (v802 : BitVec 32) : Fin 2 → Nat :=
  let c0_i32_484 : BitVec 32 := 0#32
  ![v802.toNat, 0]

def k1_chk54 (i : grid1.Coords) (v802 : BitVec 32) : Prop :=
  (∀ (k1_h1 : k1_cond1 i = 1#1), ∀ a, (k1_off54 v802) a + S1x4096.size a ≤ S32000x4096.size a)
theorem k1_off54_inb : ∀ (i : grid1.Coords) (v802 : BitVec 32) (k1_hw54 : k1_chk54 i v802), ∀ (k1_h1 : k1_cond1 i = 1#1), ∀ a, (k1_off54 v802) a + S1x4096.size a ≤ S32000x4096.size a := fun i v802 k1_hw54 k1_h1 => k1_hw54 k1_h1

def k1_off55 (v809 : BitVec 32) : Fin 2 → Nat :=
  let c0_i32_489 : BitVec 32 := 0#32
  ![v809.toNat, 0]

def k1_chk55 (i : grid1.Coords) (v809 : BitVec 32) : Prop :=
  (∀ (k1_h1 : k1_cond1 i = 1#1), ∀ a, (k1_off55 v809) a + S1x4096.size a ≤ S32000x4096.size a)
theorem k1_off55_inb : ∀ (i : grid1.Coords) (v809 : BitVec 32) (k1_hw55 : k1_chk55 i v809), ∀ (k1_h1 : k1_cond1 i = 1#1), ∀ a, (k1_off55 v809) a + S1x4096.size a ≤ S32000x4096.size a := fun i v809 k1_hw55 k1_h1 => k1_hw55 k1_h1

def k1_off56 (v816 : BitVec 32) : Fin 2 → Nat :=
  let c0_i32_494 : BitVec 32 := 0#32
  ![v816.toNat, 0]

def k1_chk56 (i : grid1.Coords) (v816 : BitVec 32) : Prop :=
  (∀ (k1_h1 : k1_cond1 i = 1#1), ∀ a, (k1_off56 v816) a + S1x4096.size a ≤ S32000x4096.size a)
theorem k1_off56_inb : ∀ (i : grid1.Coords) (v816 : BitVec 32) (k1_hw56 : k1_chk56 i v816), ∀ (k1_h1 : k1_cond1 i = 1#1), ∀ a, (k1_off56 v816) a + S1x4096.size a ≤ S32000x4096.size a := fun i v816 k1_hw56 k1_h1 => k1_hw56 k1_h1

def k1_off57 (v823 : BitVec 32) : Fin 2 → Nat :=
  let c0_i32_499 : BitVec 32 := 0#32
  ![v823.toNat, 0]

def k1_chk57 (i : grid1.Coords) (v823 : BitVec 32) : Prop :=
  (∀ (k1_h1 : k1_cond1 i = 1#1), ∀ a, (k1_off57 v823) a + S1x4096.size a ≤ S32000x4096.size a)
theorem k1_off57_inb : ∀ (i : grid1.Coords) (v823 : BitVec 32) (k1_hw57 : k1_chk57 i v823), ∀ (k1_h1 : k1_cond1 i = 1#1), ∀ a, (k1_off57 v823) a + S1x4096.size a ≤ S32000x4096.size a := fun i v823 k1_hw57 k1_h1 => k1_hw57 k1_h1

def k1_off58 (v830 : BitVec 32) : Fin 2 → Nat :=
  let c0_i32_504 : BitVec 32 := 0#32
  ![v830.toNat, 0]

def k1_chk58 (i : grid1.Coords) (v830 : BitVec 32) : Prop :=
  (∀ (k1_h1 : k1_cond1 i = 1#1), ∀ a, (k1_off58 v830) a + S1x4096.size a ≤ S32000x4096.size a)
theorem k1_off58_inb : ∀ (i : grid1.Coords) (v830 : BitVec 32) (k1_hw58 : k1_chk58 i v830), ∀ (k1_h1 : k1_cond1 i = 1#1), ∀ a, (k1_off58 v830) a + S1x4096.size a ≤ S32000x4096.size a := fun i v830 k1_hw58 k1_h1 => k1_hw58 k1_h1

def k1_off59 (v837 : BitVec 32) : Fin 2 → Nat :=
  let c0_i32_509 : BitVec 32 := 0#32
  ![v837.toNat, 0]

def k1_chk59 (i : grid1.Coords) (v837 : BitVec 32) : Prop :=
  (∀ (k1_h1 : k1_cond1 i = 1#1), ∀ a, (k1_off59 v837) a + S1x4096.size a ≤ S32000x4096.size a)
theorem k1_off59_inb : ∀ (i : grid1.Coords) (v837 : BitVec 32) (k1_hw59 : k1_chk59 i v837), ∀ (k1_h1 : k1_cond1 i = 1#1), ∀ a, (k1_off59 v837) a + S1x4096.size a ≤ S32000x4096.size a := fun i v837 k1_hw59 k1_h1 => k1_hw59 k1_h1

def k1_off60 (v844 : BitVec 32) : Fin 2 → Nat :=
  let c0_i32_514 : BitVec 32 := 0#32
  ![v844.toNat, 0]

def k1_chk60 (i : grid1.Coords) (v844 : BitVec 32) : Prop :=
  (∀ (k1_h1 : k1_cond1 i = 1#1), ∀ a, (k1_off60 v844) a + S1x4096.size a ≤ S32000x4096.size a)
theorem k1_off60_inb : ∀ (i : grid1.Coords) (v844 : BitVec 32) (k1_hw60 : k1_chk60 i v844), ∀ (k1_h1 : k1_cond1 i = 1#1), ∀ a, (k1_off60 v844) a + S1x4096.size a ≤ S32000x4096.size a := fun i v844 k1_hw60 k1_h1 => k1_hw60 k1_h1

def k1_off61 (v851 : BitVec 32) : Fin 2 → Nat :=
  let c0_i32_519 : BitVec 32 := 0#32
  ![v851.toNat, 0]

def k1_chk61 (i : grid1.Coords) (v851 : BitVec 32) : Prop :=
  (∀ (k1_h1 : k1_cond1 i = 1#1), ∀ a, (k1_off61 v851) a + S1x4096.size a ≤ S32000x4096.size a)
theorem k1_off61_inb : ∀ (i : grid1.Coords) (v851 : BitVec 32) (k1_hw61 : k1_chk61 i v851), ∀ (k1_h1 : k1_cond1 i = 1#1), ∀ a, (k1_off61 v851) a + S1x4096.size a ≤ S32000x4096.size a := fun i v851 k1_hw61 k1_h1 => k1_hw61 k1_h1

def k1_off62 (v858 : BitVec 32) : Fin 2 → Nat :=
  let c0_i32_524 : BitVec 32 := 0#32
  ![v858.toNat, 0]

def k1_chk62 (i : grid1.Coords) (v858 : BitVec 32) : Prop :=
  (∀ (k1_h1 : k1_cond1 i = 1#1), ∀ a, (k1_off62 v858) a + S1x4096.size a ≤ S32000x4096.size a)
theorem k1_off62_inb : ∀ (i : grid1.Coords) (v858 : BitVec 32) (k1_hw62 : k1_chk62 i v858), ∀ (k1_h1 : k1_cond1 i = 1#1), ∀ a, (k1_off62 v858) a + S1x4096.size a ≤ S32000x4096.size a := fun i v858 k1_hw62 k1_h1 => k1_hw62 k1_h1

def k1_off63 (v865 : BitVec 32) : Fin 2 → Nat :=
  let c0_i32_529 : BitVec 32 := 0#32
  ![v865.toNat, 0]

def k1_chk63 (i : grid1.Coords) (v865 : BitVec 32) : Prop :=
  (∀ (k1_h1 : k1_cond1 i = 1#1), ∀ a, (k1_off63 v865) a + S1x4096.size a ≤ S32000x4096.size a)
theorem k1_off63_inb : ∀ (i : grid1.Coords) (v865 : BitVec 32) (k1_hw63 : k1_chk63 i v865), ∀ (k1_h1 : k1_cond1 i = 1#1), ∀ a, (k1_off63 v865) a + S1x4096.size a ≤ S32000x4096.size a := fun i v865 k1_hw63 k1_h1 => k1_hw63 k1_h1

def k1_off64 (v872 : BitVec 32) : Fin 2 → Nat :=
  let c0_i32_534 : BitVec 32 := 0#32
  ![v872.toNat, 0]

def k1_chk64 (i : grid1.Coords) (v872 : BitVec 32) : Prop :=
  (∀ (k1_h1 : k1_cond1 i = 1#1), ∀ a, (k1_off64 v872) a + S1x4096.size a ≤ S32000x4096.size a)
theorem k1_off64_inb : ∀ (i : grid1.Coords) (v872 : BitVec 32) (k1_hw64 : k1_chk64 i v872), ∀ (k1_h1 : k1_cond1 i = 1#1), ∀ a, (k1_off64 v872) a + S1x4096.size a ≤ S32000x4096.size a := fun i v872 k1_hw64 k1_h1 => k1_hw64 k1_h1

def k1_cond2 (i : grid1.Coords) : BitVec 1 :=
  let arg0 : BitVec 32 := BitVec.ofNat 32 (i 0).val
  let c1_i32 : BitVec 32 := 1#32
  let v3 : BitVec 32 := Scalar.addi arg0 c1_i32
  let c512_i32 : BitVec 32 := 512#32
  let v4 : BitVec 1 := Scalar.cmpi .slt v3 c512_i32
  let v5 : BitVec 32 := Scalar.extui v4
  let c0_i32_1 : BitVec 32 := 0#32
  let v6 : BitVec 1 := Scalar.cmpi .ne v5 c0_i32_1
  v6

def k1_off65 (i : grid1.Coords) : Fin 1 → Nat :=
  let arg0 : BitVec 32 := BitVec.ofNat 32 (i 0).val
  let c1_i32_214 : BitVec 32 := 1#32
  let v431 : BitVec 32 := Scalar.addi arg0 c1_i32_214
  let c64_i32 : BitVec 32 := 64#32
  let v442 : BitVec 32 := Scalar.muli v431 c64_i32
  let c0_i32_221 : BitVec 32 := 0#32
  let v443 : BitVec 32 := Scalar.addi v442 c0_i32_221
  let v444 : Index := Scalar.indexCast v443
  ![v444.toNat]
def k1_off66 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off67 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c0_i32_222 : BitVec 32 := 0#32
  let c0_i32_223 : BitVec 32 := 0#32
  ![v441.toNat, 0, 0]
def k1_off68 (v445 : BitVec 32) : Fin 2 → Nat :=
  let c0_i32_224 : BitVec 32 := 0#32
  ![v445.toNat, 0]

def k1_chk65 (i : grid1.Coords) (v445 : BitVec 32) : Prop :=
  (∀ (k1_h2 : k1_cond2 i = 1#1), ∀ a, (k1_off68 v445) a + S1x4096.size a ≤ S32000x4096.size a)
theorem k1_off68_inb : ∀ (i : grid1.Coords) (v445 : BitVec 32) (k1_hw65 : k1_chk65 i v445), ∀ (k1_h2 : k1_cond2 i = 1#1), ∀ a, (k1_off68 v445) a + S1x4096.size a ≤ S32000x4096.size a := fun i v445 k1_hw65 k1_h2 => k1_hw65 k1_h2

def k1_off69 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_225 : BitVec 32 := 64#32
  let v452 : BitVec 32 := Scalar.muli v431 c64_i32_225
  let c1_i32_226 : BitVec 32 := 1#32
  let v453 : BitVec 32 := Scalar.addi v452 c1_i32_226
  let v454 : Index := Scalar.indexCast v453
  ![v454.toNat]
def k1_off70 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off71 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c1_i32_227 : BitVec 32 := 1#32
  let c0_i32_228 : BitVec 32 := 0#32
  ![v441.toNat, 1, 0]
def k1_off72 (v455 : BitVec 32) : Fin 2 → Nat :=
  let c0_i32_229 : BitVec 32 := 0#32
  ![v455.toNat, 0]

def k1_chk66 (i : grid1.Coords) (v455 : BitVec 32) : Prop :=
  (∀ (k1_h2 : k1_cond2 i = 1#1), ∀ a, (k1_off72 v455) a + S1x4096.size a ≤ S32000x4096.size a)
theorem k1_off72_inb : ∀ (i : grid1.Coords) (v455 : BitVec 32) (k1_hw66 : k1_chk66 i v455), ∀ (k1_h2 : k1_cond2 i = 1#1), ∀ a, (k1_off72 v455) a + S1x4096.size a ≤ S32000x4096.size a := fun i v455 k1_hw66 k1_h2 => k1_hw66 k1_h2

def k1_off73 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_230 : BitVec 32 := 64#32
  let v462 : BitVec 32 := Scalar.muli v431 c64_i32_230
  let c2_i32_231 : BitVec 32 := 2#32
  let v463 : BitVec 32 := Scalar.addi v462 c2_i32_231
  let v464 : Index := Scalar.indexCast v463
  ![v464.toNat]
def k1_off74 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off75 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c2_i32_232 : BitVec 32 := 2#32
  let c0_i32_233 : BitVec 32 := 0#32
  ![v441.toNat, 2, 0]
def k1_off76 (v465 : BitVec 32) : Fin 2 → Nat :=
  let c0_i32_234 : BitVec 32 := 0#32
  ![v465.toNat, 0]

def k1_chk67 (i : grid1.Coords) (v465 : BitVec 32) : Prop :=
  (∀ (k1_h2 : k1_cond2 i = 1#1), ∀ a, (k1_off76 v465) a + S1x4096.size a ≤ S32000x4096.size a)
theorem k1_off76_inb : ∀ (i : grid1.Coords) (v465 : BitVec 32) (k1_hw67 : k1_chk67 i v465), ∀ (k1_h2 : k1_cond2 i = 1#1), ∀ a, (k1_off76 v465) a + S1x4096.size a ≤ S32000x4096.size a := fun i v465 k1_hw67 k1_h2 => k1_hw67 k1_h2

def k1_off77 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_235 : BitVec 32 := 64#32
  let v472 : BitVec 32 := Scalar.muli v431 c64_i32_235
  let c3_i32_236 : BitVec 32 := 3#32
  let v473 : BitVec 32 := Scalar.addi v472 c3_i32_236
  let v474 : Index := Scalar.indexCast v473
  ![v474.toNat]
def k1_off78 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off79 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c3_i32_237 : BitVec 32 := 3#32
  let c0_i32_238 : BitVec 32 := 0#32
  ![v441.toNat, 3, 0]
def k1_off80 (v475 : BitVec 32) : Fin 2 → Nat :=
  let c0_i32_239 : BitVec 32 := 0#32
  ![v475.toNat, 0]

def k1_chk68 (i : grid1.Coords) (v475 : BitVec 32) : Prop :=
  (∀ (k1_h2 : k1_cond2 i = 1#1), ∀ a, (k1_off80 v475) a + S1x4096.size a ≤ S32000x4096.size a)
theorem k1_off80_inb : ∀ (i : grid1.Coords) (v475 : BitVec 32) (k1_hw68 : k1_chk68 i v475), ∀ (k1_h2 : k1_cond2 i = 1#1), ∀ a, (k1_off80 v475) a + S1x4096.size a ≤ S32000x4096.size a := fun i v475 k1_hw68 k1_h2 => k1_hw68 k1_h2

def k1_off81 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_240 : BitVec 32 := 64#32
  let v482 : BitVec 32 := Scalar.muli v431 c64_i32_240
  let c4_i32_241 : BitVec 32 := 4#32
  let v483 : BitVec 32 := Scalar.addi v482 c4_i32_241
  let v484 : Index := Scalar.indexCast v483
  ![v484.toNat]
def k1_off82 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off83 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c4_i32_242 : BitVec 32 := 4#32
  let c0_i32_243 : BitVec 32 := 0#32
  ![v441.toNat, 4, 0]
def k1_off84 (v485 : BitVec 32) : Fin 2 → Nat :=
  let c0_i32_244 : BitVec 32 := 0#32
  ![v485.toNat, 0]

def k1_chk69 (i : grid1.Coords) (v485 : BitVec 32) : Prop :=
  (∀ (k1_h2 : k1_cond2 i = 1#1), ∀ a, (k1_off84 v485) a + S1x4096.size a ≤ S32000x4096.size a)
theorem k1_off84_inb : ∀ (i : grid1.Coords) (v485 : BitVec 32) (k1_hw69 : k1_chk69 i v485), ∀ (k1_h2 : k1_cond2 i = 1#1), ∀ a, (k1_off84 v485) a + S1x4096.size a ≤ S32000x4096.size a := fun i v485 k1_hw69 k1_h2 => k1_hw69 k1_h2

def k1_off85 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_245 : BitVec 32 := 64#32
  let v492 : BitVec 32 := Scalar.muli v431 c64_i32_245
  let c5_i32_246 : BitVec 32 := 5#32
  let v493 : BitVec 32 := Scalar.addi v492 c5_i32_246
  let v494 : Index := Scalar.indexCast v493
  ![v494.toNat]
def k1_off86 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off87 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c5_i32_247 : BitVec 32 := 5#32
  let c0_i32_248 : BitVec 32 := 0#32
  ![v441.toNat, 5, 0]
def k1_off88 (v495 : BitVec 32) : Fin 2 → Nat :=
  let c0_i32_249 : BitVec 32 := 0#32
  ![v495.toNat, 0]

def k1_chk70 (i : grid1.Coords) (v495 : BitVec 32) : Prop :=
  (∀ (k1_h2 : k1_cond2 i = 1#1), ∀ a, (k1_off88 v495) a + S1x4096.size a ≤ S32000x4096.size a)
theorem k1_off88_inb : ∀ (i : grid1.Coords) (v495 : BitVec 32) (k1_hw70 : k1_chk70 i v495), ∀ (k1_h2 : k1_cond2 i = 1#1), ∀ a, (k1_off88 v495) a + S1x4096.size a ≤ S32000x4096.size a := fun i v495 k1_hw70 k1_h2 => k1_hw70 k1_h2

def k1_off89 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_250 : BitVec 32 := 64#32
  let v502 : BitVec 32 := Scalar.muli v431 c64_i32_250
  let c6_i32_251 : BitVec 32 := 6#32
  let v503 : BitVec 32 := Scalar.addi v502 c6_i32_251
  let v504 : Index := Scalar.indexCast v503
  ![v504.toNat]
def k1_off90 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off91 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c6_i32_252 : BitVec 32 := 6#32
  let c0_i32_253 : BitVec 32 := 0#32
  ![v441.toNat, 6, 0]
def k1_off92 (v505 : BitVec 32) : Fin 2 → Nat :=
  let c0_i32_254 : BitVec 32 := 0#32
  ![v505.toNat, 0]

def k1_chk71 (i : grid1.Coords) (v505 : BitVec 32) : Prop :=
  (∀ (k1_h2 : k1_cond2 i = 1#1), ∀ a, (k1_off92 v505) a + S1x4096.size a ≤ S32000x4096.size a)
theorem k1_off92_inb : ∀ (i : grid1.Coords) (v505 : BitVec 32) (k1_hw71 : k1_chk71 i v505), ∀ (k1_h2 : k1_cond2 i = 1#1), ∀ a, (k1_off92 v505) a + S1x4096.size a ≤ S32000x4096.size a := fun i v505 k1_hw71 k1_h2 => k1_hw71 k1_h2

def k1_off93 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_255 : BitVec 32 := 64#32
  let v512 : BitVec 32 := Scalar.muli v431 c64_i32_255
  let c7_i32_256 : BitVec 32 := 7#32
  let v513 : BitVec 32 := Scalar.addi v512 c7_i32_256
  let v514 : Index := Scalar.indexCast v513
  ![v514.toNat]
def k1_off94 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off95 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c7_i32_257 : BitVec 32 := 7#32
  let c0_i32_258 : BitVec 32 := 0#32
  ![v441.toNat, 7, 0]
def k1_off96 (v515 : BitVec 32) : Fin 2 → Nat :=
  let c0_i32_259 : BitVec 32 := 0#32
  ![v515.toNat, 0]

def k1_chk72 (i : grid1.Coords) (v515 : BitVec 32) : Prop :=
  (∀ (k1_h2 : k1_cond2 i = 1#1), ∀ a, (k1_off96 v515) a + S1x4096.size a ≤ S32000x4096.size a)
theorem k1_off96_inb : ∀ (i : grid1.Coords) (v515 : BitVec 32) (k1_hw72 : k1_chk72 i v515), ∀ (k1_h2 : k1_cond2 i = 1#1), ∀ a, (k1_off96 v515) a + S1x4096.size a ≤ S32000x4096.size a := fun i v515 k1_hw72 k1_h2 => k1_hw72 k1_h2

def k1_off97 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_260 : BitVec 32 := 64#32
  let v522 : BitVec 32 := Scalar.muli v431 c64_i32_260
  let c8_i32_261 : BitVec 32 := 8#32
  let v523 : BitVec 32 := Scalar.addi v522 c8_i32_261
  let v524 : Index := Scalar.indexCast v523
  ![v524.toNat]
def k1_off98 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off99 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c8_i32_262 : BitVec 32 := 8#32
  let c0_i32_263 : BitVec 32 := 0#32
  ![v441.toNat, 8, 0]
def k1_off100 (v525 : BitVec 32) : Fin 2 → Nat :=
  let c0_i32_264 : BitVec 32 := 0#32
  ![v525.toNat, 0]

def k1_chk73 (i : grid1.Coords) (v525 : BitVec 32) : Prop :=
  (∀ (k1_h2 : k1_cond2 i = 1#1), ∀ a, (k1_off100 v525) a + S1x4096.size a ≤ S32000x4096.size a)
theorem k1_off100_inb : ∀ (i : grid1.Coords) (v525 : BitVec 32) (k1_hw73 : k1_chk73 i v525), ∀ (k1_h2 : k1_cond2 i = 1#1), ∀ a, (k1_off100 v525) a + S1x4096.size a ≤ S32000x4096.size a := fun i v525 k1_hw73 k1_h2 => k1_hw73 k1_h2

def k1_off101 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_265 : BitVec 32 := 64#32
  let v532 : BitVec 32 := Scalar.muli v431 c64_i32_265
  let c9_i32_266 : BitVec 32 := 9#32
  let v533 : BitVec 32 := Scalar.addi v532 c9_i32_266
  let v534 : Index := Scalar.indexCast v533
  ![v534.toNat]
def k1_off102 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off103 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c9_i32_267 : BitVec 32 := 9#32
  let c0_i32_268 : BitVec 32 := 0#32
  ![v441.toNat, 9, 0]
def k1_off104 (v535 : BitVec 32) : Fin 2 → Nat :=
  let c0_i32_269 : BitVec 32 := 0#32
  ![v535.toNat, 0]

def k1_chk74 (i : grid1.Coords) (v535 : BitVec 32) : Prop :=
  (∀ (k1_h2 : k1_cond2 i = 1#1), ∀ a, (k1_off104 v535) a + S1x4096.size a ≤ S32000x4096.size a)
theorem k1_off104_inb : ∀ (i : grid1.Coords) (v535 : BitVec 32) (k1_hw74 : k1_chk74 i v535), ∀ (k1_h2 : k1_cond2 i = 1#1), ∀ a, (k1_off104 v535) a + S1x4096.size a ≤ S32000x4096.size a := fun i v535 k1_hw74 k1_h2 => k1_hw74 k1_h2

def k1_off105 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_270 : BitVec 32 := 64#32
  let v542 : BitVec 32 := Scalar.muli v431 c64_i32_270
  let c10_i32_271 : BitVec 32 := 10#32
  let v543 : BitVec 32 := Scalar.addi v542 c10_i32_271
  let v544 : Index := Scalar.indexCast v543
  ![v544.toNat]
def k1_off106 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off107 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c10_i32_272 : BitVec 32 := 10#32
  let c0_i32_273 : BitVec 32 := 0#32
  ![v441.toNat, 10, 0]
def k1_off108 (v545 : BitVec 32) : Fin 2 → Nat :=
  let c0_i32_274 : BitVec 32 := 0#32
  ![v545.toNat, 0]

def k1_chk75 (i : grid1.Coords) (v545 : BitVec 32) : Prop :=
  (∀ (k1_h2 : k1_cond2 i = 1#1), ∀ a, (k1_off108 v545) a + S1x4096.size a ≤ S32000x4096.size a)
theorem k1_off108_inb : ∀ (i : grid1.Coords) (v545 : BitVec 32) (k1_hw75 : k1_chk75 i v545), ∀ (k1_h2 : k1_cond2 i = 1#1), ∀ a, (k1_off108 v545) a + S1x4096.size a ≤ S32000x4096.size a := fun i v545 k1_hw75 k1_h2 => k1_hw75 k1_h2

def k1_off109 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_275 : BitVec 32 := 64#32
  let v552 : BitVec 32 := Scalar.muli v431 c64_i32_275
  let c11_i32_276 : BitVec 32 := 11#32
  let v553 : BitVec 32 := Scalar.addi v552 c11_i32_276
  let v554 : Index := Scalar.indexCast v553
  ![v554.toNat]
def k1_off110 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off111 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c11_i32_277 : BitVec 32 := 11#32
  let c0_i32_278 : BitVec 32 := 0#32
  ![v441.toNat, 11, 0]
def k1_off112 (v555 : BitVec 32) : Fin 2 → Nat :=
  let c0_i32_279 : BitVec 32 := 0#32
  ![v555.toNat, 0]

def k1_chk76 (i : grid1.Coords) (v555 : BitVec 32) : Prop :=
  (∀ (k1_h2 : k1_cond2 i = 1#1), ∀ a, (k1_off112 v555) a + S1x4096.size a ≤ S32000x4096.size a)
theorem k1_off112_inb : ∀ (i : grid1.Coords) (v555 : BitVec 32) (k1_hw76 : k1_chk76 i v555), ∀ (k1_h2 : k1_cond2 i = 1#1), ∀ a, (k1_off112 v555) a + S1x4096.size a ≤ S32000x4096.size a := fun i v555 k1_hw76 k1_h2 => k1_hw76 k1_h2

def k1_off113 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_280 : BitVec 32 := 64#32
  let v562 : BitVec 32 := Scalar.muli v431 c64_i32_280
  let c12_i32_281 : BitVec 32 := 12#32
  let v563 : BitVec 32 := Scalar.addi v562 c12_i32_281
  let v564 : Index := Scalar.indexCast v563
  ![v564.toNat]
def k1_off114 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off115 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c12_i32_282 : BitVec 32 := 12#32
  let c0_i32_283 : BitVec 32 := 0#32
  ![v441.toNat, 12, 0]
def k1_off116 (v565 : BitVec 32) : Fin 2 → Nat :=
  let c0_i32_284 : BitVec 32 := 0#32
  ![v565.toNat, 0]

def k1_chk77 (i : grid1.Coords) (v565 : BitVec 32) : Prop :=
  (∀ (k1_h2 : k1_cond2 i = 1#1), ∀ a, (k1_off116 v565) a + S1x4096.size a ≤ S32000x4096.size a)
theorem k1_off116_inb : ∀ (i : grid1.Coords) (v565 : BitVec 32) (k1_hw77 : k1_chk77 i v565), ∀ (k1_h2 : k1_cond2 i = 1#1), ∀ a, (k1_off116 v565) a + S1x4096.size a ≤ S32000x4096.size a := fun i v565 k1_hw77 k1_h2 => k1_hw77 k1_h2

def k1_off117 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_285 : BitVec 32 := 64#32
  let v572 : BitVec 32 := Scalar.muli v431 c64_i32_285
  let c13_i32_286 : BitVec 32 := 13#32
  let v573 : BitVec 32 := Scalar.addi v572 c13_i32_286
  let v574 : Index := Scalar.indexCast v573
  ![v574.toNat]
def k1_off118 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off119 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c13_i32_287 : BitVec 32 := 13#32
  let c0_i32_288 : BitVec 32 := 0#32
  ![v441.toNat, 13, 0]
def k1_off120 (v575 : BitVec 32) : Fin 2 → Nat :=
  let c0_i32_289 : BitVec 32 := 0#32
  ![v575.toNat, 0]

def k1_chk78 (i : grid1.Coords) (v575 : BitVec 32) : Prop :=
  (∀ (k1_h2 : k1_cond2 i = 1#1), ∀ a, (k1_off120 v575) a + S1x4096.size a ≤ S32000x4096.size a)
theorem k1_off120_inb : ∀ (i : grid1.Coords) (v575 : BitVec 32) (k1_hw78 : k1_chk78 i v575), ∀ (k1_h2 : k1_cond2 i = 1#1), ∀ a, (k1_off120 v575) a + S1x4096.size a ≤ S32000x4096.size a := fun i v575 k1_hw78 k1_h2 => k1_hw78 k1_h2

def k1_off121 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_290 : BitVec 32 := 64#32
  let v582 : BitVec 32 := Scalar.muli v431 c64_i32_290
  let c14_i32_291 : BitVec 32 := 14#32
  let v583 : BitVec 32 := Scalar.addi v582 c14_i32_291
  let v584 : Index := Scalar.indexCast v583
  ![v584.toNat]
def k1_off122 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off123 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c14_i32_292 : BitVec 32 := 14#32
  let c0_i32_293 : BitVec 32 := 0#32
  ![v441.toNat, 14, 0]
def k1_off124 (v585 : BitVec 32) : Fin 2 → Nat :=
  let c0_i32_294 : BitVec 32 := 0#32
  ![v585.toNat, 0]

def k1_chk79 (i : grid1.Coords) (v585 : BitVec 32) : Prop :=
  (∀ (k1_h2 : k1_cond2 i = 1#1), ∀ a, (k1_off124 v585) a + S1x4096.size a ≤ S32000x4096.size a)
theorem k1_off124_inb : ∀ (i : grid1.Coords) (v585 : BitVec 32) (k1_hw79 : k1_chk79 i v585), ∀ (k1_h2 : k1_cond2 i = 1#1), ∀ a, (k1_off124 v585) a + S1x4096.size a ≤ S32000x4096.size a := fun i v585 k1_hw79 k1_h2 => k1_hw79 k1_h2

def k1_off125 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_295 : BitVec 32 := 64#32
  let v592 : BitVec 32 := Scalar.muli v431 c64_i32_295
  let c15_i32_296 : BitVec 32 := 15#32
  let v593 : BitVec 32 := Scalar.addi v592 c15_i32_296
  let v594 : Index := Scalar.indexCast v593
  ![v594.toNat]
def k1_off126 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off127 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c15_i32_297 : BitVec 32 := 15#32
  let c0_i32_298 : BitVec 32 := 0#32
  ![v441.toNat, 15, 0]
def k1_off128 (v595 : BitVec 32) : Fin 2 → Nat :=
  let c0_i32_299 : BitVec 32 := 0#32
  ![v595.toNat, 0]

def k1_chk80 (i : grid1.Coords) (v595 : BitVec 32) : Prop :=
  (∀ (k1_h2 : k1_cond2 i = 1#1), ∀ a, (k1_off128 v595) a + S1x4096.size a ≤ S32000x4096.size a)
theorem k1_off128_inb : ∀ (i : grid1.Coords) (v595 : BitVec 32) (k1_hw80 : k1_chk80 i v595), ∀ (k1_h2 : k1_cond2 i = 1#1), ∀ a, (k1_off128 v595) a + S1x4096.size a ≤ S32000x4096.size a := fun i v595 k1_hw80 k1_h2 => k1_hw80 k1_h2

def k1_off129 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_300 : BitVec 32 := 64#32
  let v602 : BitVec 32 := Scalar.muli v431 c64_i32_300
  let c16_i32_301 : BitVec 32 := 16#32
  let v603 : BitVec 32 := Scalar.addi v602 c16_i32_301
  let v604 : Index := Scalar.indexCast v603
  ![v604.toNat]
def k1_off130 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off131 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c16_i32_302 : BitVec 32 := 16#32
  let c0_i32_303 : BitVec 32 := 0#32
  ![v441.toNat, 16, 0]
def k1_off132 (v605 : BitVec 32) : Fin 2 → Nat :=
  let c0_i32_304 : BitVec 32 := 0#32
  ![v605.toNat, 0]

def k1_chk81 (i : grid1.Coords) (v605 : BitVec 32) : Prop :=
  (∀ (k1_h2 : k1_cond2 i = 1#1), ∀ a, (k1_off132 v605) a + S1x4096.size a ≤ S32000x4096.size a)
theorem k1_off132_inb : ∀ (i : grid1.Coords) (v605 : BitVec 32) (k1_hw81 : k1_chk81 i v605), ∀ (k1_h2 : k1_cond2 i = 1#1), ∀ a, (k1_off132 v605) a + S1x4096.size a ≤ S32000x4096.size a := fun i v605 k1_hw81 k1_h2 => k1_hw81 k1_h2

def k1_off133 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_305 : BitVec 32 := 64#32
  let v612 : BitVec 32 := Scalar.muli v431 c64_i32_305
  let c17_i32_306 : BitVec 32 := 17#32
  let v613 : BitVec 32 := Scalar.addi v612 c17_i32_306
  let v614 : Index := Scalar.indexCast v613
  ![v614.toNat]
def k1_off134 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off135 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c17_i32_307 : BitVec 32 := 17#32
  let c0_i32_308 : BitVec 32 := 0#32
  ![v441.toNat, 17, 0]
def k1_off136 (v615 : BitVec 32) : Fin 2 → Nat :=
  let c0_i32_309 : BitVec 32 := 0#32
  ![v615.toNat, 0]

def k1_chk82 (i : grid1.Coords) (v615 : BitVec 32) : Prop :=
  (∀ (k1_h2 : k1_cond2 i = 1#1), ∀ a, (k1_off136 v615) a + S1x4096.size a ≤ S32000x4096.size a)
theorem k1_off136_inb : ∀ (i : grid1.Coords) (v615 : BitVec 32) (k1_hw82 : k1_chk82 i v615), ∀ (k1_h2 : k1_cond2 i = 1#1), ∀ a, (k1_off136 v615) a + S1x4096.size a ≤ S32000x4096.size a := fun i v615 k1_hw82 k1_h2 => k1_hw82 k1_h2

def k1_off137 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_310 : BitVec 32 := 64#32
  let v622 : BitVec 32 := Scalar.muli v431 c64_i32_310
  let c18_i32_311 : BitVec 32 := 18#32
  let v623 : BitVec 32 := Scalar.addi v622 c18_i32_311
  let v624 : Index := Scalar.indexCast v623
  ![v624.toNat]
def k1_off138 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off139 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c18_i32_312 : BitVec 32 := 18#32
  let c0_i32_313 : BitVec 32 := 0#32
  ![v441.toNat, 18, 0]
def k1_off140 (v625 : BitVec 32) : Fin 2 → Nat :=
  let c0_i32_314 : BitVec 32 := 0#32
  ![v625.toNat, 0]

def k1_chk83 (i : grid1.Coords) (v625 : BitVec 32) : Prop :=
  (∀ (k1_h2 : k1_cond2 i = 1#1), ∀ a, (k1_off140 v625) a + S1x4096.size a ≤ S32000x4096.size a)
theorem k1_off140_inb : ∀ (i : grid1.Coords) (v625 : BitVec 32) (k1_hw83 : k1_chk83 i v625), ∀ (k1_h2 : k1_cond2 i = 1#1), ∀ a, (k1_off140 v625) a + S1x4096.size a ≤ S32000x4096.size a := fun i v625 k1_hw83 k1_h2 => k1_hw83 k1_h2

def k1_off141 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_315 : BitVec 32 := 64#32
  let v632 : BitVec 32 := Scalar.muli v431 c64_i32_315
  let c19_i32_316 : BitVec 32 := 19#32
  let v633 : BitVec 32 := Scalar.addi v632 c19_i32_316
  let v634 : Index := Scalar.indexCast v633
  ![v634.toNat]
def k1_off142 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off143 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c19_i32_317 : BitVec 32 := 19#32
  let c0_i32_318 : BitVec 32 := 0#32
  ![v441.toNat, 19, 0]
def k1_off144 (v635 : BitVec 32) : Fin 2 → Nat :=
  let c0_i32_319 : BitVec 32 := 0#32
  ![v635.toNat, 0]

def k1_chk84 (i : grid1.Coords) (v635 : BitVec 32) : Prop :=
  (∀ (k1_h2 : k1_cond2 i = 1#1), ∀ a, (k1_off144 v635) a + S1x4096.size a ≤ S32000x4096.size a)
theorem k1_off144_inb : ∀ (i : grid1.Coords) (v635 : BitVec 32) (k1_hw84 : k1_chk84 i v635), ∀ (k1_h2 : k1_cond2 i = 1#1), ∀ a, (k1_off144 v635) a + S1x4096.size a ≤ S32000x4096.size a := fun i v635 k1_hw84 k1_h2 => k1_hw84 k1_h2

def k1_off145 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_320 : BitVec 32 := 64#32
  let v642 : BitVec 32 := Scalar.muli v431 c64_i32_320
  let c20_i32_321 : BitVec 32 := 20#32
  let v643 : BitVec 32 := Scalar.addi v642 c20_i32_321
  let v644 : Index := Scalar.indexCast v643
  ![v644.toNat]
def k1_off146 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off147 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c20_i32_322 : BitVec 32 := 20#32
  let c0_i32_323 : BitVec 32 := 0#32
  ![v441.toNat, 20, 0]
def k1_off148 (v645 : BitVec 32) : Fin 2 → Nat :=
  let c0_i32_324 : BitVec 32 := 0#32
  ![v645.toNat, 0]

def k1_chk85 (i : grid1.Coords) (v645 : BitVec 32) : Prop :=
  (∀ (k1_h2 : k1_cond2 i = 1#1), ∀ a, (k1_off148 v645) a + S1x4096.size a ≤ S32000x4096.size a)
theorem k1_off148_inb : ∀ (i : grid1.Coords) (v645 : BitVec 32) (k1_hw85 : k1_chk85 i v645), ∀ (k1_h2 : k1_cond2 i = 1#1), ∀ a, (k1_off148 v645) a + S1x4096.size a ≤ S32000x4096.size a := fun i v645 k1_hw85 k1_h2 => k1_hw85 k1_h2

def k1_off149 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_325 : BitVec 32 := 64#32
  let v652 : BitVec 32 := Scalar.muli v431 c64_i32_325
  let c21_i32_326 : BitVec 32 := 21#32
  let v653 : BitVec 32 := Scalar.addi v652 c21_i32_326
  let v654 : Index := Scalar.indexCast v653
  ![v654.toNat]
def k1_off150 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off151 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c21_i32_327 : BitVec 32 := 21#32
  let c0_i32_328 : BitVec 32 := 0#32
  ![v441.toNat, 21, 0]
def k1_off152 (v655 : BitVec 32) : Fin 2 → Nat :=
  let c0_i32_329 : BitVec 32 := 0#32
  ![v655.toNat, 0]

def k1_chk86 (i : grid1.Coords) (v655 : BitVec 32) : Prop :=
  (∀ (k1_h2 : k1_cond2 i = 1#1), ∀ a, (k1_off152 v655) a + S1x4096.size a ≤ S32000x4096.size a)
theorem k1_off152_inb : ∀ (i : grid1.Coords) (v655 : BitVec 32) (k1_hw86 : k1_chk86 i v655), ∀ (k1_h2 : k1_cond2 i = 1#1), ∀ a, (k1_off152 v655) a + S1x4096.size a ≤ S32000x4096.size a := fun i v655 k1_hw86 k1_h2 => k1_hw86 k1_h2

def k1_off153 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_330 : BitVec 32 := 64#32
  let v662 : BitVec 32 := Scalar.muli v431 c64_i32_330
  let c22_i32_331 : BitVec 32 := 22#32
  let v663 : BitVec 32 := Scalar.addi v662 c22_i32_331
  let v664 : Index := Scalar.indexCast v663
  ![v664.toNat]
def k1_off154 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off155 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c22_i32_332 : BitVec 32 := 22#32
  let c0_i32_333 : BitVec 32 := 0#32
  ![v441.toNat, 22, 0]
def k1_off156 (v665 : BitVec 32) : Fin 2 → Nat :=
  let c0_i32_334 : BitVec 32 := 0#32
  ![v665.toNat, 0]

def k1_chk87 (i : grid1.Coords) (v665 : BitVec 32) : Prop :=
  (∀ (k1_h2 : k1_cond2 i = 1#1), ∀ a, (k1_off156 v665) a + S1x4096.size a ≤ S32000x4096.size a)
theorem k1_off156_inb : ∀ (i : grid1.Coords) (v665 : BitVec 32) (k1_hw87 : k1_chk87 i v665), ∀ (k1_h2 : k1_cond2 i = 1#1), ∀ a, (k1_off156 v665) a + S1x4096.size a ≤ S32000x4096.size a := fun i v665 k1_hw87 k1_h2 => k1_hw87 k1_h2

def k1_off157 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_335 : BitVec 32 := 64#32
  let v672 : BitVec 32 := Scalar.muli v431 c64_i32_335
  let c23_i32_336 : BitVec 32 := 23#32
  let v673 : BitVec 32 := Scalar.addi v672 c23_i32_336
  let v674 : Index := Scalar.indexCast v673
  ![v674.toNat]
def k1_off158 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off159 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c23_i32_337 : BitVec 32 := 23#32
  let c0_i32_338 : BitVec 32 := 0#32
  ![v441.toNat, 23, 0]
def k1_off160 (v675 : BitVec 32) : Fin 2 → Nat :=
  let c0_i32_339 : BitVec 32 := 0#32
  ![v675.toNat, 0]

def k1_chk88 (i : grid1.Coords) (v675 : BitVec 32) : Prop :=
  (∀ (k1_h2 : k1_cond2 i = 1#1), ∀ a, (k1_off160 v675) a + S1x4096.size a ≤ S32000x4096.size a)
theorem k1_off160_inb : ∀ (i : grid1.Coords) (v675 : BitVec 32) (k1_hw88 : k1_chk88 i v675), ∀ (k1_h2 : k1_cond2 i = 1#1), ∀ a, (k1_off160 v675) a + S1x4096.size a ≤ S32000x4096.size a := fun i v675 k1_hw88 k1_h2 => k1_hw88 k1_h2

def k1_off161 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_340 : BitVec 32 := 64#32
  let v682 : BitVec 32 := Scalar.muli v431 c64_i32_340
  let c24_i32_341 : BitVec 32 := 24#32
  let v683 : BitVec 32 := Scalar.addi v682 c24_i32_341
  let v684 : Index := Scalar.indexCast v683
  ![v684.toNat]
def k1_off162 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off163 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c24_i32_342 : BitVec 32 := 24#32
  let c0_i32_343 : BitVec 32 := 0#32
  ![v441.toNat, 24, 0]
def k1_off164 (v685 : BitVec 32) : Fin 2 → Nat :=
  let c0_i32_344 : BitVec 32 := 0#32
  ![v685.toNat, 0]

def k1_chk89 (i : grid1.Coords) (v685 : BitVec 32) : Prop :=
  (∀ (k1_h2 : k1_cond2 i = 1#1), ∀ a, (k1_off164 v685) a + S1x4096.size a ≤ S32000x4096.size a)
theorem k1_off164_inb : ∀ (i : grid1.Coords) (v685 : BitVec 32) (k1_hw89 : k1_chk89 i v685), ∀ (k1_h2 : k1_cond2 i = 1#1), ∀ a, (k1_off164 v685) a + S1x4096.size a ≤ S32000x4096.size a := fun i v685 k1_hw89 k1_h2 => k1_hw89 k1_h2

def k1_off165 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_345 : BitVec 32 := 64#32
  let v692 : BitVec 32 := Scalar.muli v431 c64_i32_345
  let c25_i32_346 : BitVec 32 := 25#32
  let v693 : BitVec 32 := Scalar.addi v692 c25_i32_346
  let v694 : Index := Scalar.indexCast v693
  ![v694.toNat]
def k1_off166 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off167 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c25_i32_347 : BitVec 32 := 25#32
  let c0_i32_348 : BitVec 32 := 0#32
  ![v441.toNat, 25, 0]
def k1_off168 (v695 : BitVec 32) : Fin 2 → Nat :=
  let c0_i32_349 : BitVec 32 := 0#32
  ![v695.toNat, 0]

def k1_chk90 (i : grid1.Coords) (v695 : BitVec 32) : Prop :=
  (∀ (k1_h2 : k1_cond2 i = 1#1), ∀ a, (k1_off168 v695) a + S1x4096.size a ≤ S32000x4096.size a)
theorem k1_off168_inb : ∀ (i : grid1.Coords) (v695 : BitVec 32) (k1_hw90 : k1_chk90 i v695), ∀ (k1_h2 : k1_cond2 i = 1#1), ∀ a, (k1_off168 v695) a + S1x4096.size a ≤ S32000x4096.size a := fun i v695 k1_hw90 k1_h2 => k1_hw90 k1_h2

def k1_off169 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_350 : BitVec 32 := 64#32
  let v702 : BitVec 32 := Scalar.muli v431 c64_i32_350
  let c26_i32_351 : BitVec 32 := 26#32
  let v703 : BitVec 32 := Scalar.addi v702 c26_i32_351
  let v704 : Index := Scalar.indexCast v703
  ![v704.toNat]
def k1_off170 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off171 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c26_i32_352 : BitVec 32 := 26#32
  let c0_i32_353 : BitVec 32 := 0#32
  ![v441.toNat, 26, 0]
def k1_off172 (v705 : BitVec 32) : Fin 2 → Nat :=
  let c0_i32_354 : BitVec 32 := 0#32
  ![v705.toNat, 0]

def k1_chk91 (i : grid1.Coords) (v705 : BitVec 32) : Prop :=
  (∀ (k1_h2 : k1_cond2 i = 1#1), ∀ a, (k1_off172 v705) a + S1x4096.size a ≤ S32000x4096.size a)
theorem k1_off172_inb : ∀ (i : grid1.Coords) (v705 : BitVec 32) (k1_hw91 : k1_chk91 i v705), ∀ (k1_h2 : k1_cond2 i = 1#1), ∀ a, (k1_off172 v705) a + S1x4096.size a ≤ S32000x4096.size a := fun i v705 k1_hw91 k1_h2 => k1_hw91 k1_h2

def k1_off173 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_355 : BitVec 32 := 64#32
  let v712 : BitVec 32 := Scalar.muli v431 c64_i32_355
  let c27_i32_356 : BitVec 32 := 27#32
  let v713 : BitVec 32 := Scalar.addi v712 c27_i32_356
  let v714 : Index := Scalar.indexCast v713
  ![v714.toNat]
def k1_off174 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off175 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c27_i32_357 : BitVec 32 := 27#32
  let c0_i32_358 : BitVec 32 := 0#32
  ![v441.toNat, 27, 0]
def k1_off176 (v715 : BitVec 32) : Fin 2 → Nat :=
  let c0_i32_359 : BitVec 32 := 0#32
  ![v715.toNat, 0]

def k1_chk92 (i : grid1.Coords) (v715 : BitVec 32) : Prop :=
  (∀ (k1_h2 : k1_cond2 i = 1#1), ∀ a, (k1_off176 v715) a + S1x4096.size a ≤ S32000x4096.size a)
theorem k1_off176_inb : ∀ (i : grid1.Coords) (v715 : BitVec 32) (k1_hw92 : k1_chk92 i v715), ∀ (k1_h2 : k1_cond2 i = 1#1), ∀ a, (k1_off176 v715) a + S1x4096.size a ≤ S32000x4096.size a := fun i v715 k1_hw92 k1_h2 => k1_hw92 k1_h2

def k1_off177 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_360 : BitVec 32 := 64#32
  let v722 : BitVec 32 := Scalar.muli v431 c64_i32_360
  let c28_i32_361 : BitVec 32 := 28#32
  let v723 : BitVec 32 := Scalar.addi v722 c28_i32_361
  let v724 : Index := Scalar.indexCast v723
  ![v724.toNat]
def k1_off178 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off179 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c28_i32_362 : BitVec 32 := 28#32
  let c0_i32_363 : BitVec 32 := 0#32
  ![v441.toNat, 28, 0]
def k1_off180 (v725 : BitVec 32) : Fin 2 → Nat :=
  let c0_i32_364 : BitVec 32 := 0#32
  ![v725.toNat, 0]

def k1_chk93 (i : grid1.Coords) (v725 : BitVec 32) : Prop :=
  (∀ (k1_h2 : k1_cond2 i = 1#1), ∀ a, (k1_off180 v725) a + S1x4096.size a ≤ S32000x4096.size a)
theorem k1_off180_inb : ∀ (i : grid1.Coords) (v725 : BitVec 32) (k1_hw93 : k1_chk93 i v725), ∀ (k1_h2 : k1_cond2 i = 1#1), ∀ a, (k1_off180 v725) a + S1x4096.size a ≤ S32000x4096.size a := fun i v725 k1_hw93 k1_h2 => k1_hw93 k1_h2

def k1_off181 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_365 : BitVec 32 := 64#32
  let v732 : BitVec 32 := Scalar.muli v431 c64_i32_365
  let c29_i32_366 : BitVec 32 := 29#32
  let v733 : BitVec 32 := Scalar.addi v732 c29_i32_366
  let v734 : Index := Scalar.indexCast v733
  ![v734.toNat]
def k1_off182 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off183 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c29_i32_367 : BitVec 32 := 29#32
  let c0_i32_368 : BitVec 32 := 0#32
  ![v441.toNat, 29, 0]
def k1_off184 (v735 : BitVec 32) : Fin 2 → Nat :=
  let c0_i32_369 : BitVec 32 := 0#32
  ![v735.toNat, 0]

def k1_chk94 (i : grid1.Coords) (v735 : BitVec 32) : Prop :=
  (∀ (k1_h2 : k1_cond2 i = 1#1), ∀ a, (k1_off184 v735) a + S1x4096.size a ≤ S32000x4096.size a)
theorem k1_off184_inb : ∀ (i : grid1.Coords) (v735 : BitVec 32) (k1_hw94 : k1_chk94 i v735), ∀ (k1_h2 : k1_cond2 i = 1#1), ∀ a, (k1_off184 v735) a + S1x4096.size a ≤ S32000x4096.size a := fun i v735 k1_hw94 k1_h2 => k1_hw94 k1_h2

def k1_off185 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_370 : BitVec 32 := 64#32
  let v742 : BitVec 32 := Scalar.muli v431 c64_i32_370
  let c30_i32_371 : BitVec 32 := 30#32
  let v743 : BitVec 32 := Scalar.addi v742 c30_i32_371
  let v744 : Index := Scalar.indexCast v743
  ![v744.toNat]
def k1_off186 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off187 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c30_i32_372 : BitVec 32 := 30#32
  let c0_i32_373 : BitVec 32 := 0#32
  ![v441.toNat, 30, 0]
def k1_off188 (v745 : BitVec 32) : Fin 2 → Nat :=
  let c0_i32_374 : BitVec 32 := 0#32
  ![v745.toNat, 0]

def k1_chk95 (i : grid1.Coords) (v745 : BitVec 32) : Prop :=
  (∀ (k1_h2 : k1_cond2 i = 1#1), ∀ a, (k1_off188 v745) a + S1x4096.size a ≤ S32000x4096.size a)
theorem k1_off188_inb : ∀ (i : grid1.Coords) (v745 : BitVec 32) (k1_hw95 : k1_chk95 i v745), ∀ (k1_h2 : k1_cond2 i = 1#1), ∀ a, (k1_off188 v745) a + S1x4096.size a ≤ S32000x4096.size a := fun i v745 k1_hw95 k1_h2 => k1_hw95 k1_h2

def k1_off189 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_375 : BitVec 32 := 64#32
  let v752 : BitVec 32 := Scalar.muli v431 c64_i32_375
  let c31_i32_376 : BitVec 32 := 31#32
  let v753 : BitVec 32 := Scalar.addi v752 c31_i32_376
  let v754 : Index := Scalar.indexCast v753
  ![v754.toNat]
def k1_off190 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off191 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c31_i32_377 : BitVec 32 := 31#32
  let c0_i32_378 : BitVec 32 := 0#32
  ![v441.toNat, 31, 0]
def k1_off192 (v755 : BitVec 32) : Fin 2 → Nat :=
  let c0_i32_379 : BitVec 32 := 0#32
  ![v755.toNat, 0]

def k1_chk96 (i : grid1.Coords) (v755 : BitVec 32) : Prop :=
  (∀ (k1_h2 : k1_cond2 i = 1#1), ∀ a, (k1_off192 v755) a + S1x4096.size a ≤ S32000x4096.size a)
theorem k1_off192_inb : ∀ (i : grid1.Coords) (v755 : BitVec 32) (k1_hw96 : k1_chk96 i v755), ∀ (k1_h2 : k1_cond2 i = 1#1), ∀ a, (k1_off192 v755) a + S1x4096.size a ≤ S32000x4096.size a := fun i v755 k1_hw96 k1_h2 => k1_hw96 k1_h2

def k1_off193 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_380 : BitVec 32 := 64#32
  let v762 : BitVec 32 := Scalar.muli v431 c64_i32_380
  let c32_i32_381 : BitVec 32 := 32#32
  let v763 : BitVec 32 := Scalar.addi v762 c32_i32_381
  let v764 : Index := Scalar.indexCast v763
  ![v764.toNat]
def k1_off194 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off195 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c32_i32_382 : BitVec 32 := 32#32
  let c0_i32_383 : BitVec 32 := 0#32
  ![v441.toNat, 32, 0]
def k1_off196 (v765 : BitVec 32) : Fin 2 → Nat :=
  let c0_i32_384 : BitVec 32 := 0#32
  ![v765.toNat, 0]

def k1_chk97 (i : grid1.Coords) (v765 : BitVec 32) : Prop :=
  (∀ (k1_h2 : k1_cond2 i = 1#1), ∀ a, (k1_off196 v765) a + S1x4096.size a ≤ S32000x4096.size a)
theorem k1_off196_inb : ∀ (i : grid1.Coords) (v765 : BitVec 32) (k1_hw97 : k1_chk97 i v765), ∀ (k1_h2 : k1_cond2 i = 1#1), ∀ a, (k1_off196 v765) a + S1x4096.size a ≤ S32000x4096.size a := fun i v765 k1_hw97 k1_h2 => k1_hw97 k1_h2

def k1_off197 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_385 : BitVec 32 := 64#32
  let v772 : BitVec 32 := Scalar.muli v431 c64_i32_385
  let c33_i32_386 : BitVec 32 := 33#32
  let v773 : BitVec 32 := Scalar.addi v772 c33_i32_386
  let v774 : Index := Scalar.indexCast v773
  ![v774.toNat]
def k1_off198 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off199 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c33_i32_387 : BitVec 32 := 33#32
  let c0_i32_388 : BitVec 32 := 0#32
  ![v441.toNat, 33, 0]
def k1_off200 (v775 : BitVec 32) : Fin 2 → Nat :=
  let c0_i32_389 : BitVec 32 := 0#32
  ![v775.toNat, 0]

def k1_chk98 (i : grid1.Coords) (v775 : BitVec 32) : Prop :=
  (∀ (k1_h2 : k1_cond2 i = 1#1), ∀ a, (k1_off200 v775) a + S1x4096.size a ≤ S32000x4096.size a)
theorem k1_off200_inb : ∀ (i : grid1.Coords) (v775 : BitVec 32) (k1_hw98 : k1_chk98 i v775), ∀ (k1_h2 : k1_cond2 i = 1#1), ∀ a, (k1_off200 v775) a + S1x4096.size a ≤ S32000x4096.size a := fun i v775 k1_hw98 k1_h2 => k1_hw98 k1_h2

def k1_off201 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_390 : BitVec 32 := 64#32
  let v782 : BitVec 32 := Scalar.muli v431 c64_i32_390
  let c34_i32_391 : BitVec 32 := 34#32
  let v783 : BitVec 32 := Scalar.addi v782 c34_i32_391
  let v784 : Index := Scalar.indexCast v783
  ![v784.toNat]
def k1_off202 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off203 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c34_i32_392 : BitVec 32 := 34#32
  let c0_i32_393 : BitVec 32 := 0#32
  ![v441.toNat, 34, 0]
def k1_off204 (v785 : BitVec 32) : Fin 2 → Nat :=
  let c0_i32_394 : BitVec 32 := 0#32
  ![v785.toNat, 0]

def k1_chk99 (i : grid1.Coords) (v785 : BitVec 32) : Prop :=
  (∀ (k1_h2 : k1_cond2 i = 1#1), ∀ a, (k1_off204 v785) a + S1x4096.size a ≤ S32000x4096.size a)
theorem k1_off204_inb : ∀ (i : grid1.Coords) (v785 : BitVec 32) (k1_hw99 : k1_chk99 i v785), ∀ (k1_h2 : k1_cond2 i = 1#1), ∀ a, (k1_off204 v785) a + S1x4096.size a ≤ S32000x4096.size a := fun i v785 k1_hw99 k1_h2 => k1_hw99 k1_h2

def k1_off205 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_395 : BitVec 32 := 64#32
  let v792 : BitVec 32 := Scalar.muli v431 c64_i32_395
  let c35_i32_396 : BitVec 32 := 35#32
  let v793 : BitVec 32 := Scalar.addi v792 c35_i32_396
  let v794 : Index := Scalar.indexCast v793
  ![v794.toNat]
def k1_off206 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off207 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c35_i32_397 : BitVec 32 := 35#32
  let c0_i32_398 : BitVec 32 := 0#32
  ![v441.toNat, 35, 0]
def k1_off208 (v795 : BitVec 32) : Fin 2 → Nat :=
  let c0_i32_399 : BitVec 32 := 0#32
  ![v795.toNat, 0]

def k1_chk100 (i : grid1.Coords) (v795 : BitVec 32) : Prop :=
  (∀ (k1_h2 : k1_cond2 i = 1#1), ∀ a, (k1_off208 v795) a + S1x4096.size a ≤ S32000x4096.size a)
theorem k1_off208_inb : ∀ (i : grid1.Coords) (v795 : BitVec 32) (k1_hw100 : k1_chk100 i v795), ∀ (k1_h2 : k1_cond2 i = 1#1), ∀ a, (k1_off208 v795) a + S1x4096.size a ≤ S32000x4096.size a := fun i v795 k1_hw100 k1_h2 => k1_hw100 k1_h2

def k1_off209 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_400 : BitVec 32 := 64#32
  let v802 : BitVec 32 := Scalar.muli v431 c64_i32_400
  let c36_i32_401 : BitVec 32 := 36#32
  let v803 : BitVec 32 := Scalar.addi v802 c36_i32_401
  let v804 : Index := Scalar.indexCast v803
  ![v804.toNat]
def k1_off210 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off211 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c36_i32_402 : BitVec 32 := 36#32
  let c0_i32_403 : BitVec 32 := 0#32
  ![v441.toNat, 36, 0]
def k1_off212 (v805 : BitVec 32) : Fin 2 → Nat :=
  let c0_i32_404 : BitVec 32 := 0#32
  ![v805.toNat, 0]

def k1_chk101 (i : grid1.Coords) (v805 : BitVec 32) : Prop :=
  (∀ (k1_h2 : k1_cond2 i = 1#1), ∀ a, (k1_off212 v805) a + S1x4096.size a ≤ S32000x4096.size a)
theorem k1_off212_inb : ∀ (i : grid1.Coords) (v805 : BitVec 32) (k1_hw101 : k1_chk101 i v805), ∀ (k1_h2 : k1_cond2 i = 1#1), ∀ a, (k1_off212 v805) a + S1x4096.size a ≤ S32000x4096.size a := fun i v805 k1_hw101 k1_h2 => k1_hw101 k1_h2

def k1_off213 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_405 : BitVec 32 := 64#32
  let v812 : BitVec 32 := Scalar.muli v431 c64_i32_405
  let c37_i32_406 : BitVec 32 := 37#32
  let v813 : BitVec 32 := Scalar.addi v812 c37_i32_406
  let v814 : Index := Scalar.indexCast v813
  ![v814.toNat]
def k1_off214 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off215 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c37_i32_407 : BitVec 32 := 37#32
  let c0_i32_408 : BitVec 32 := 0#32
  ![v441.toNat, 37, 0]
def k1_off216 (v815 : BitVec 32) : Fin 2 → Nat :=
  let c0_i32_409 : BitVec 32 := 0#32
  ![v815.toNat, 0]

def k1_chk102 (i : grid1.Coords) (v815 : BitVec 32) : Prop :=
  (∀ (k1_h2 : k1_cond2 i = 1#1), ∀ a, (k1_off216 v815) a + S1x4096.size a ≤ S32000x4096.size a)
theorem k1_off216_inb : ∀ (i : grid1.Coords) (v815 : BitVec 32) (k1_hw102 : k1_chk102 i v815), ∀ (k1_h2 : k1_cond2 i = 1#1), ∀ a, (k1_off216 v815) a + S1x4096.size a ≤ S32000x4096.size a := fun i v815 k1_hw102 k1_h2 => k1_hw102 k1_h2

def k1_off217 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_410 : BitVec 32 := 64#32
  let v822 : BitVec 32 := Scalar.muli v431 c64_i32_410
  let c38_i32_411 : BitVec 32 := 38#32
  let v823 : BitVec 32 := Scalar.addi v822 c38_i32_411
  let v824 : Index := Scalar.indexCast v823
  ![v824.toNat]
def k1_off218 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off219 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c38_i32_412 : BitVec 32 := 38#32
  let c0_i32_413 : BitVec 32 := 0#32
  ![v441.toNat, 38, 0]
def k1_off220 (v825 : BitVec 32) : Fin 2 → Nat :=
  let c0_i32_414 : BitVec 32 := 0#32
  ![v825.toNat, 0]

def k1_chk103 (i : grid1.Coords) (v825 : BitVec 32) : Prop :=
  (∀ (k1_h2 : k1_cond2 i = 1#1), ∀ a, (k1_off220 v825) a + S1x4096.size a ≤ S32000x4096.size a)
theorem k1_off220_inb : ∀ (i : grid1.Coords) (v825 : BitVec 32) (k1_hw103 : k1_chk103 i v825), ∀ (k1_h2 : k1_cond2 i = 1#1), ∀ a, (k1_off220 v825) a + S1x4096.size a ≤ S32000x4096.size a := fun i v825 k1_hw103 k1_h2 => k1_hw103 k1_h2

def k1_off221 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_415 : BitVec 32 := 64#32
  let v832 : BitVec 32 := Scalar.muli v431 c64_i32_415
  let c39_i32_416 : BitVec 32 := 39#32
  let v833 : BitVec 32 := Scalar.addi v832 c39_i32_416
  let v834 : Index := Scalar.indexCast v833
  ![v834.toNat]
def k1_off222 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off223 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c39_i32_417 : BitVec 32 := 39#32
  let c0_i32_418 : BitVec 32 := 0#32
  ![v441.toNat, 39, 0]
def k1_off224 (v835 : BitVec 32) : Fin 2 → Nat :=
  let c0_i32_419 : BitVec 32 := 0#32
  ![v835.toNat, 0]

def k1_chk104 (i : grid1.Coords) (v835 : BitVec 32) : Prop :=
  (∀ (k1_h2 : k1_cond2 i = 1#1), ∀ a, (k1_off224 v835) a + S1x4096.size a ≤ S32000x4096.size a)
theorem k1_off224_inb : ∀ (i : grid1.Coords) (v835 : BitVec 32) (k1_hw104 : k1_chk104 i v835), ∀ (k1_h2 : k1_cond2 i = 1#1), ∀ a, (k1_off224 v835) a + S1x4096.size a ≤ S32000x4096.size a := fun i v835 k1_hw104 k1_h2 => k1_hw104 k1_h2

def k1_off225 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_420 : BitVec 32 := 64#32
  let v842 : BitVec 32 := Scalar.muli v431 c64_i32_420
  let c40_i32_421 : BitVec 32 := 40#32
  let v843 : BitVec 32 := Scalar.addi v842 c40_i32_421
  let v844 : Index := Scalar.indexCast v843
  ![v844.toNat]
def k1_off226 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off227 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c40_i32_422 : BitVec 32 := 40#32
  let c0_i32_423 : BitVec 32 := 0#32
  ![v441.toNat, 40, 0]
def k1_off228 (v845 : BitVec 32) : Fin 2 → Nat :=
  let c0_i32_424 : BitVec 32 := 0#32
  ![v845.toNat, 0]

def k1_chk105 (i : grid1.Coords) (v845 : BitVec 32) : Prop :=
  (∀ (k1_h2 : k1_cond2 i = 1#1), ∀ a, (k1_off228 v845) a + S1x4096.size a ≤ S32000x4096.size a)
theorem k1_off228_inb : ∀ (i : grid1.Coords) (v845 : BitVec 32) (k1_hw105 : k1_chk105 i v845), ∀ (k1_h2 : k1_cond2 i = 1#1), ∀ a, (k1_off228 v845) a + S1x4096.size a ≤ S32000x4096.size a := fun i v845 k1_hw105 k1_h2 => k1_hw105 k1_h2

def k1_off229 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_425 : BitVec 32 := 64#32
  let v852 : BitVec 32 := Scalar.muli v431 c64_i32_425
  let c41_i32_426 : BitVec 32 := 41#32
  let v853 : BitVec 32 := Scalar.addi v852 c41_i32_426
  let v854 : Index := Scalar.indexCast v853
  ![v854.toNat]
def k1_off230 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off231 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c41_i32_427 : BitVec 32 := 41#32
  let c0_i32_428 : BitVec 32 := 0#32
  ![v441.toNat, 41, 0]
def k1_off232 (v855 : BitVec 32) : Fin 2 → Nat :=
  let c0_i32_429 : BitVec 32 := 0#32
  ![v855.toNat, 0]

def k1_chk106 (i : grid1.Coords) (v855 : BitVec 32) : Prop :=
  (∀ (k1_h2 : k1_cond2 i = 1#1), ∀ a, (k1_off232 v855) a + S1x4096.size a ≤ S32000x4096.size a)
theorem k1_off232_inb : ∀ (i : grid1.Coords) (v855 : BitVec 32) (k1_hw106 : k1_chk106 i v855), ∀ (k1_h2 : k1_cond2 i = 1#1), ∀ a, (k1_off232 v855) a + S1x4096.size a ≤ S32000x4096.size a := fun i v855 k1_hw106 k1_h2 => k1_hw106 k1_h2

def k1_off233 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_430 : BitVec 32 := 64#32
  let v862 : BitVec 32 := Scalar.muli v431 c64_i32_430
  let c42_i32_431 : BitVec 32 := 42#32
  let v863 : BitVec 32 := Scalar.addi v862 c42_i32_431
  let v864 : Index := Scalar.indexCast v863
  ![v864.toNat]
def k1_off234 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off235 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c42_i32_432 : BitVec 32 := 42#32
  let c0_i32_433 : BitVec 32 := 0#32
  ![v441.toNat, 42, 0]
def k1_off236 (v865 : BitVec 32) : Fin 2 → Nat :=
  let c0_i32_434 : BitVec 32 := 0#32
  ![v865.toNat, 0]

def k1_chk107 (i : grid1.Coords) (v865 : BitVec 32) : Prop :=
  (∀ (k1_h2 : k1_cond2 i = 1#1), ∀ a, (k1_off236 v865) a + S1x4096.size a ≤ S32000x4096.size a)
theorem k1_off236_inb : ∀ (i : grid1.Coords) (v865 : BitVec 32) (k1_hw107 : k1_chk107 i v865), ∀ (k1_h2 : k1_cond2 i = 1#1), ∀ a, (k1_off236 v865) a + S1x4096.size a ≤ S32000x4096.size a := fun i v865 k1_hw107 k1_h2 => k1_hw107 k1_h2

def k1_off237 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_435 : BitVec 32 := 64#32
  let v872 : BitVec 32 := Scalar.muli v431 c64_i32_435
  let c43_i32_436 : BitVec 32 := 43#32
  let v873 : BitVec 32 := Scalar.addi v872 c43_i32_436
  let v874 : Index := Scalar.indexCast v873
  ![v874.toNat]
def k1_off238 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off239 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c43_i32_437 : BitVec 32 := 43#32
  let c0_i32_438 : BitVec 32 := 0#32
  ![v441.toNat, 43, 0]
def k1_off240 (v875 : BitVec 32) : Fin 2 → Nat :=
  let c0_i32_439 : BitVec 32 := 0#32
  ![v875.toNat, 0]

def k1_chk108 (i : grid1.Coords) (v875 : BitVec 32) : Prop :=
  (∀ (k1_h2 : k1_cond2 i = 1#1), ∀ a, (k1_off240 v875) a + S1x4096.size a ≤ S32000x4096.size a)
theorem k1_off240_inb : ∀ (i : grid1.Coords) (v875 : BitVec 32) (k1_hw108 : k1_chk108 i v875), ∀ (k1_h2 : k1_cond2 i = 1#1), ∀ a, (k1_off240 v875) a + S1x4096.size a ≤ S32000x4096.size a := fun i v875 k1_hw108 k1_h2 => k1_hw108 k1_h2

def k1_off241 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_440 : BitVec 32 := 64#32
  let v882 : BitVec 32 := Scalar.muli v431 c64_i32_440
  let c44_i32_441 : BitVec 32 := 44#32
  let v883 : BitVec 32 := Scalar.addi v882 c44_i32_441
  let v884 : Index := Scalar.indexCast v883
  ![v884.toNat]
def k1_off242 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off243 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c44_i32_442 : BitVec 32 := 44#32
  let c0_i32_443 : BitVec 32 := 0#32
  ![v441.toNat, 44, 0]
def k1_off244 (v885 : BitVec 32) : Fin 2 → Nat :=
  let c0_i32_444 : BitVec 32 := 0#32
  ![v885.toNat, 0]

def k1_chk109 (i : grid1.Coords) (v885 : BitVec 32) : Prop :=
  (∀ (k1_h2 : k1_cond2 i = 1#1), ∀ a, (k1_off244 v885) a + S1x4096.size a ≤ S32000x4096.size a)
theorem k1_off244_inb : ∀ (i : grid1.Coords) (v885 : BitVec 32) (k1_hw109 : k1_chk109 i v885), ∀ (k1_h2 : k1_cond2 i = 1#1), ∀ a, (k1_off244 v885) a + S1x4096.size a ≤ S32000x4096.size a := fun i v885 k1_hw109 k1_h2 => k1_hw109 k1_h2

def k1_off245 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_445 : BitVec 32 := 64#32
  let v892 : BitVec 32 := Scalar.muli v431 c64_i32_445
  let c45_i32_446 : BitVec 32 := 45#32
  let v893 : BitVec 32 := Scalar.addi v892 c45_i32_446
  let v894 : Index := Scalar.indexCast v893
  ![v894.toNat]
def k1_off246 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off247 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c45_i32_447 : BitVec 32 := 45#32
  let c0_i32_448 : BitVec 32 := 0#32
  ![v441.toNat, 45, 0]
def k1_off248 (v895 : BitVec 32) : Fin 2 → Nat :=
  let c0_i32_449 : BitVec 32 := 0#32
  ![v895.toNat, 0]

def k1_chk110 (i : grid1.Coords) (v895 : BitVec 32) : Prop :=
  (∀ (k1_h2 : k1_cond2 i = 1#1), ∀ a, (k1_off248 v895) a + S1x4096.size a ≤ S32000x4096.size a)
theorem k1_off248_inb : ∀ (i : grid1.Coords) (v895 : BitVec 32) (k1_hw110 : k1_chk110 i v895), ∀ (k1_h2 : k1_cond2 i = 1#1), ∀ a, (k1_off248 v895) a + S1x4096.size a ≤ S32000x4096.size a := fun i v895 k1_hw110 k1_h2 => k1_hw110 k1_h2

def k1_off249 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_450 : BitVec 32 := 64#32
  let v902 : BitVec 32 := Scalar.muli v431 c64_i32_450
  let c46_i32_451 : BitVec 32 := 46#32
  let v903 : BitVec 32 := Scalar.addi v902 c46_i32_451
  let v904 : Index := Scalar.indexCast v903
  ![v904.toNat]
def k1_off250 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off251 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c46_i32_452 : BitVec 32 := 46#32
  let c0_i32_453 : BitVec 32 := 0#32
  ![v441.toNat, 46, 0]
def k1_off252 (v905 : BitVec 32) : Fin 2 → Nat :=
  let c0_i32_454 : BitVec 32 := 0#32
  ![v905.toNat, 0]

def k1_chk111 (i : grid1.Coords) (v905 : BitVec 32) : Prop :=
  (∀ (k1_h2 : k1_cond2 i = 1#1), ∀ a, (k1_off252 v905) a + S1x4096.size a ≤ S32000x4096.size a)
theorem k1_off252_inb : ∀ (i : grid1.Coords) (v905 : BitVec 32) (k1_hw111 : k1_chk111 i v905), ∀ (k1_h2 : k1_cond2 i = 1#1), ∀ a, (k1_off252 v905) a + S1x4096.size a ≤ S32000x4096.size a := fun i v905 k1_hw111 k1_h2 => k1_hw111 k1_h2

def k1_off253 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_455 : BitVec 32 := 64#32
  let v912 : BitVec 32 := Scalar.muli v431 c64_i32_455
  let c47_i32_456 : BitVec 32 := 47#32
  let v913 : BitVec 32 := Scalar.addi v912 c47_i32_456
  let v914 : Index := Scalar.indexCast v913
  ![v914.toNat]
def k1_off254 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off255 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c47_i32_457 : BitVec 32 := 47#32
  let c0_i32_458 : BitVec 32 := 0#32
  ![v441.toNat, 47, 0]
def k1_off256 (v915 : BitVec 32) : Fin 2 → Nat :=
  let c0_i32_459 : BitVec 32 := 0#32
  ![v915.toNat, 0]

def k1_chk112 (i : grid1.Coords) (v915 : BitVec 32) : Prop :=
  (∀ (k1_h2 : k1_cond2 i = 1#1), ∀ a, (k1_off256 v915) a + S1x4096.size a ≤ S32000x4096.size a)
theorem k1_off256_inb : ∀ (i : grid1.Coords) (v915 : BitVec 32) (k1_hw112 : k1_chk112 i v915), ∀ (k1_h2 : k1_cond2 i = 1#1), ∀ a, (k1_off256 v915) a + S1x4096.size a ≤ S32000x4096.size a := fun i v915 k1_hw112 k1_h2 => k1_hw112 k1_h2

def k1_off257 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_460 : BitVec 32 := 64#32
  let v922 : BitVec 32 := Scalar.muli v431 c64_i32_460
  let c48_i32_461 : BitVec 32 := 48#32
  let v923 : BitVec 32 := Scalar.addi v922 c48_i32_461
  let v924 : Index := Scalar.indexCast v923
  ![v924.toNat]
def k1_off258 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off259 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c48_i32_462 : BitVec 32 := 48#32
  let c0_i32_463 : BitVec 32 := 0#32
  ![v441.toNat, 48, 0]
def k1_off260 (v925 : BitVec 32) : Fin 2 → Nat :=
  let c0_i32_464 : BitVec 32 := 0#32
  ![v925.toNat, 0]

def k1_chk113 (i : grid1.Coords) (v925 : BitVec 32) : Prop :=
  (∀ (k1_h2 : k1_cond2 i = 1#1), ∀ a, (k1_off260 v925) a + S1x4096.size a ≤ S32000x4096.size a)
theorem k1_off260_inb : ∀ (i : grid1.Coords) (v925 : BitVec 32) (k1_hw113 : k1_chk113 i v925), ∀ (k1_h2 : k1_cond2 i = 1#1), ∀ a, (k1_off260 v925) a + S1x4096.size a ≤ S32000x4096.size a := fun i v925 k1_hw113 k1_h2 => k1_hw113 k1_h2

def k1_off261 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_465 : BitVec 32 := 64#32
  let v932 : BitVec 32 := Scalar.muli v431 c64_i32_465
  let c49_i32_466 : BitVec 32 := 49#32
  let v933 : BitVec 32 := Scalar.addi v932 c49_i32_466
  let v934 : Index := Scalar.indexCast v933
  ![v934.toNat]
def k1_off262 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off263 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c49_i32_467 : BitVec 32 := 49#32
  let c0_i32_468 : BitVec 32 := 0#32
  ![v441.toNat, 49, 0]
def k1_off264 (v935 : BitVec 32) : Fin 2 → Nat :=
  let c0_i32_469 : BitVec 32 := 0#32
  ![v935.toNat, 0]

def k1_chk114 (i : grid1.Coords) (v935 : BitVec 32) : Prop :=
  (∀ (k1_h2 : k1_cond2 i = 1#1), ∀ a, (k1_off264 v935) a + S1x4096.size a ≤ S32000x4096.size a)
theorem k1_off264_inb : ∀ (i : grid1.Coords) (v935 : BitVec 32) (k1_hw114 : k1_chk114 i v935), ∀ (k1_h2 : k1_cond2 i = 1#1), ∀ a, (k1_off264 v935) a + S1x4096.size a ≤ S32000x4096.size a := fun i v935 k1_hw114 k1_h2 => k1_hw114 k1_h2

def k1_off265 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_470 : BitVec 32 := 64#32
  let v942 : BitVec 32 := Scalar.muli v431 c64_i32_470
  let c50_i32_471 : BitVec 32 := 50#32
  let v943 : BitVec 32 := Scalar.addi v942 c50_i32_471
  let v944 : Index := Scalar.indexCast v943
  ![v944.toNat]
def k1_off266 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off267 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c50_i32_472 : BitVec 32 := 50#32
  let c0_i32_473 : BitVec 32 := 0#32
  ![v441.toNat, 50, 0]
def k1_off268 (v945 : BitVec 32) : Fin 2 → Nat :=
  let c0_i32_474 : BitVec 32 := 0#32
  ![v945.toNat, 0]

def k1_chk115 (i : grid1.Coords) (v945 : BitVec 32) : Prop :=
  (∀ (k1_h2 : k1_cond2 i = 1#1), ∀ a, (k1_off268 v945) a + S1x4096.size a ≤ S32000x4096.size a)
theorem k1_off268_inb : ∀ (i : grid1.Coords) (v945 : BitVec 32) (k1_hw115 : k1_chk115 i v945), ∀ (k1_h2 : k1_cond2 i = 1#1), ∀ a, (k1_off268 v945) a + S1x4096.size a ≤ S32000x4096.size a := fun i v945 k1_hw115 k1_h2 => k1_hw115 k1_h2

def k1_off269 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_475 : BitVec 32 := 64#32
  let v952 : BitVec 32 := Scalar.muli v431 c64_i32_475
  let c51_i32_476 : BitVec 32 := 51#32
  let v953 : BitVec 32 := Scalar.addi v952 c51_i32_476
  let v954 : Index := Scalar.indexCast v953
  ![v954.toNat]
def k1_off270 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off271 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c51_i32_477 : BitVec 32 := 51#32
  let c0_i32_478 : BitVec 32 := 0#32
  ![v441.toNat, 51, 0]
def k1_off272 (v955 : BitVec 32) : Fin 2 → Nat :=
  let c0_i32_479 : BitVec 32 := 0#32
  ![v955.toNat, 0]

def k1_chk116 (i : grid1.Coords) (v955 : BitVec 32) : Prop :=
  (∀ (k1_h2 : k1_cond2 i = 1#1), ∀ a, (k1_off272 v955) a + S1x4096.size a ≤ S32000x4096.size a)
theorem k1_off272_inb : ∀ (i : grid1.Coords) (v955 : BitVec 32) (k1_hw116 : k1_chk116 i v955), ∀ (k1_h2 : k1_cond2 i = 1#1), ∀ a, (k1_off272 v955) a + S1x4096.size a ≤ S32000x4096.size a := fun i v955 k1_hw116 k1_h2 => k1_hw116 k1_h2

def k1_off273 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_480 : BitVec 32 := 64#32
  let v962 : BitVec 32 := Scalar.muli v431 c64_i32_480
  let c52_i32_481 : BitVec 32 := 52#32
  let v963 : BitVec 32 := Scalar.addi v962 c52_i32_481
  let v964 : Index := Scalar.indexCast v963
  ![v964.toNat]
def k1_off274 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off275 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c52_i32_482 : BitVec 32 := 52#32
  let c0_i32_483 : BitVec 32 := 0#32
  ![v441.toNat, 52, 0]
def k1_off276 (v965 : BitVec 32) : Fin 2 → Nat :=
  let c0_i32_484 : BitVec 32 := 0#32
  ![v965.toNat, 0]

def k1_chk117 (i : grid1.Coords) (v965 : BitVec 32) : Prop :=
  (∀ (k1_h2 : k1_cond2 i = 1#1), ∀ a, (k1_off276 v965) a + S1x4096.size a ≤ S32000x4096.size a)
theorem k1_off276_inb : ∀ (i : grid1.Coords) (v965 : BitVec 32) (k1_hw117 : k1_chk117 i v965), ∀ (k1_h2 : k1_cond2 i = 1#1), ∀ a, (k1_off276 v965) a + S1x4096.size a ≤ S32000x4096.size a := fun i v965 k1_hw117 k1_h2 => k1_hw117 k1_h2

def k1_off277 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_485 : BitVec 32 := 64#32
  let v972 : BitVec 32 := Scalar.muli v431 c64_i32_485
  let c53_i32_486 : BitVec 32 := 53#32
  let v973 : BitVec 32 := Scalar.addi v972 c53_i32_486
  let v974 : Index := Scalar.indexCast v973
  ![v974.toNat]
def k1_off278 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off279 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c53_i32_487 : BitVec 32 := 53#32
  let c0_i32_488 : BitVec 32 := 0#32
  ![v441.toNat, 53, 0]
def k1_off280 (v975 : BitVec 32) : Fin 2 → Nat :=
  let c0_i32_489 : BitVec 32 := 0#32
  ![v975.toNat, 0]

def k1_chk118 (i : grid1.Coords) (v975 : BitVec 32) : Prop :=
  (∀ (k1_h2 : k1_cond2 i = 1#1), ∀ a, (k1_off280 v975) a + S1x4096.size a ≤ S32000x4096.size a)
theorem k1_off280_inb : ∀ (i : grid1.Coords) (v975 : BitVec 32) (k1_hw118 : k1_chk118 i v975), ∀ (k1_h2 : k1_cond2 i = 1#1), ∀ a, (k1_off280 v975) a + S1x4096.size a ≤ S32000x4096.size a := fun i v975 k1_hw118 k1_h2 => k1_hw118 k1_h2

def k1_off281 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_490 : BitVec 32 := 64#32
  let v982 : BitVec 32 := Scalar.muli v431 c64_i32_490
  let c54_i32_491 : BitVec 32 := 54#32
  let v983 : BitVec 32 := Scalar.addi v982 c54_i32_491
  let v984 : Index := Scalar.indexCast v983
  ![v984.toNat]
def k1_off282 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off283 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c54_i32_492 : BitVec 32 := 54#32
  let c0_i32_493 : BitVec 32 := 0#32
  ![v441.toNat, 54, 0]
def k1_off284 (v985 : BitVec 32) : Fin 2 → Nat :=
  let c0_i32_494 : BitVec 32 := 0#32
  ![v985.toNat, 0]

def k1_chk119 (i : grid1.Coords) (v985 : BitVec 32) : Prop :=
  (∀ (k1_h2 : k1_cond2 i = 1#1), ∀ a, (k1_off284 v985) a + S1x4096.size a ≤ S32000x4096.size a)
theorem k1_off284_inb : ∀ (i : grid1.Coords) (v985 : BitVec 32) (k1_hw119 : k1_chk119 i v985), ∀ (k1_h2 : k1_cond2 i = 1#1), ∀ a, (k1_off284 v985) a + S1x4096.size a ≤ S32000x4096.size a := fun i v985 k1_hw119 k1_h2 => k1_hw119 k1_h2

def k1_off285 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_495 : BitVec 32 := 64#32
  let v992 : BitVec 32 := Scalar.muli v431 c64_i32_495
  let c55_i32_496 : BitVec 32 := 55#32
  let v993 : BitVec 32 := Scalar.addi v992 c55_i32_496
  let v994 : Index := Scalar.indexCast v993
  ![v994.toNat]
def k1_off286 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off287 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c55_i32_497 : BitVec 32 := 55#32
  let c0_i32_498 : BitVec 32 := 0#32
  ![v441.toNat, 55, 0]
def k1_off288 (v995 : BitVec 32) : Fin 2 → Nat :=
  let c0_i32_499 : BitVec 32 := 0#32
  ![v995.toNat, 0]

def k1_chk120 (i : grid1.Coords) (v995 : BitVec 32) : Prop :=
  (∀ (k1_h2 : k1_cond2 i = 1#1), ∀ a, (k1_off288 v995) a + S1x4096.size a ≤ S32000x4096.size a)
theorem k1_off288_inb : ∀ (i : grid1.Coords) (v995 : BitVec 32) (k1_hw120 : k1_chk120 i v995), ∀ (k1_h2 : k1_cond2 i = 1#1), ∀ a, (k1_off288 v995) a + S1x4096.size a ≤ S32000x4096.size a := fun i v995 k1_hw120 k1_h2 => k1_hw120 k1_h2

def k1_off289 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_500 : BitVec 32 := 64#32
  let v1002 : BitVec 32 := Scalar.muli v431 c64_i32_500
  let c56_i32_501 : BitVec 32 := 56#32
  let v1003 : BitVec 32 := Scalar.addi v1002 c56_i32_501
  let v1004 : Index := Scalar.indexCast v1003
  ![v1004.toNat]
def k1_off290 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off291 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c56_i32_502 : BitVec 32 := 56#32
  let c0_i32_503 : BitVec 32 := 0#32
  ![v441.toNat, 56, 0]
def k1_off292 (v1005 : BitVec 32) : Fin 2 → Nat :=
  let c0_i32_504 : BitVec 32 := 0#32
  ![v1005.toNat, 0]

def k1_chk121 (i : grid1.Coords) (v1005 : BitVec 32) : Prop :=
  (∀ (k1_h2 : k1_cond2 i = 1#1), ∀ a, (k1_off292 v1005) a + S1x4096.size a ≤ S32000x4096.size a)
theorem k1_off292_inb : ∀ (i : grid1.Coords) (v1005 : BitVec 32) (k1_hw121 : k1_chk121 i v1005), ∀ (k1_h2 : k1_cond2 i = 1#1), ∀ a, (k1_off292 v1005) a + S1x4096.size a ≤ S32000x4096.size a := fun i v1005 k1_hw121 k1_h2 => k1_hw121 k1_h2

def k1_off293 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_505 : BitVec 32 := 64#32
  let v1012 : BitVec 32 := Scalar.muli v431 c64_i32_505
  let c57_i32_506 : BitVec 32 := 57#32
  let v1013 : BitVec 32 := Scalar.addi v1012 c57_i32_506
  let v1014 : Index := Scalar.indexCast v1013
  ![v1014.toNat]
def k1_off294 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off295 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c57_i32_507 : BitVec 32 := 57#32
  let c0_i32_508 : BitVec 32 := 0#32
  ![v441.toNat, 57, 0]
def k1_off296 (v1015 : BitVec 32) : Fin 2 → Nat :=
  let c0_i32_509 : BitVec 32 := 0#32
  ![v1015.toNat, 0]

def k1_chk122 (i : grid1.Coords) (v1015 : BitVec 32) : Prop :=
  (∀ (k1_h2 : k1_cond2 i = 1#1), ∀ a, (k1_off296 v1015) a + S1x4096.size a ≤ S32000x4096.size a)
theorem k1_off296_inb : ∀ (i : grid1.Coords) (v1015 : BitVec 32) (k1_hw122 : k1_chk122 i v1015), ∀ (k1_h2 : k1_cond2 i = 1#1), ∀ a, (k1_off296 v1015) a + S1x4096.size a ≤ S32000x4096.size a := fun i v1015 k1_hw122 k1_h2 => k1_hw122 k1_h2

def k1_off297 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_510 : BitVec 32 := 64#32
  let v1022 : BitVec 32 := Scalar.muli v431 c64_i32_510
  let c58_i32_511 : BitVec 32 := 58#32
  let v1023 : BitVec 32 := Scalar.addi v1022 c58_i32_511
  let v1024 : Index := Scalar.indexCast v1023
  ![v1024.toNat]
def k1_off298 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off299 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c58_i32_512 : BitVec 32 := 58#32
  let c0_i32_513 : BitVec 32 := 0#32
  ![v441.toNat, 58, 0]
def k1_off300 (v1025 : BitVec 32) : Fin 2 → Nat :=
  let c0_i32_514 : BitVec 32 := 0#32
  ![v1025.toNat, 0]

def k1_chk123 (i : grid1.Coords) (v1025 : BitVec 32) : Prop :=
  (∀ (k1_h2 : k1_cond2 i = 1#1), ∀ a, (k1_off300 v1025) a + S1x4096.size a ≤ S32000x4096.size a)
theorem k1_off300_inb : ∀ (i : grid1.Coords) (v1025 : BitVec 32) (k1_hw123 : k1_chk123 i v1025), ∀ (k1_h2 : k1_cond2 i = 1#1), ∀ a, (k1_off300 v1025) a + S1x4096.size a ≤ S32000x4096.size a := fun i v1025 k1_hw123 k1_h2 => k1_hw123 k1_h2

def k1_off301 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_515 : BitVec 32 := 64#32
  let v1032 : BitVec 32 := Scalar.muli v431 c64_i32_515
  let c59_i32_516 : BitVec 32 := 59#32
  let v1033 : BitVec 32 := Scalar.addi v1032 c59_i32_516
  let v1034 : Index := Scalar.indexCast v1033
  ![v1034.toNat]
def k1_off302 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off303 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c59_i32_517 : BitVec 32 := 59#32
  let c0_i32_518 : BitVec 32 := 0#32
  ![v441.toNat, 59, 0]
def k1_off304 (v1035 : BitVec 32) : Fin 2 → Nat :=
  let c0_i32_519 : BitVec 32 := 0#32
  ![v1035.toNat, 0]

def k1_chk124 (i : grid1.Coords) (v1035 : BitVec 32) : Prop :=
  (∀ (k1_h2 : k1_cond2 i = 1#1), ∀ a, (k1_off304 v1035) a + S1x4096.size a ≤ S32000x4096.size a)
theorem k1_off304_inb : ∀ (i : grid1.Coords) (v1035 : BitVec 32) (k1_hw124 : k1_chk124 i v1035), ∀ (k1_h2 : k1_cond2 i = 1#1), ∀ a, (k1_off304 v1035) a + S1x4096.size a ≤ S32000x4096.size a := fun i v1035 k1_hw124 k1_h2 => k1_hw124 k1_h2

def k1_off305 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_520 : BitVec 32 := 64#32
  let v1042 : BitVec 32 := Scalar.muli v431 c64_i32_520
  let c60_i32_521 : BitVec 32 := 60#32
  let v1043 : BitVec 32 := Scalar.addi v1042 c60_i32_521
  let v1044 : Index := Scalar.indexCast v1043
  ![v1044.toNat]
def k1_off306 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off307 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c60_i32_522 : BitVec 32 := 60#32
  let c0_i32_523 : BitVec 32 := 0#32
  ![v441.toNat, 60, 0]
def k1_off308 (v1045 : BitVec 32) : Fin 2 → Nat :=
  let c0_i32_524 : BitVec 32 := 0#32
  ![v1045.toNat, 0]

def k1_chk125 (i : grid1.Coords) (v1045 : BitVec 32) : Prop :=
  (∀ (k1_h2 : k1_cond2 i = 1#1), ∀ a, (k1_off308 v1045) a + S1x4096.size a ≤ S32000x4096.size a)
theorem k1_off308_inb : ∀ (i : grid1.Coords) (v1045 : BitVec 32) (k1_hw125 : k1_chk125 i v1045), ∀ (k1_h2 : k1_cond2 i = 1#1), ∀ a, (k1_off308 v1045) a + S1x4096.size a ≤ S32000x4096.size a := fun i v1045 k1_hw125 k1_h2 => k1_hw125 k1_h2

def k1_off309 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_525 : BitVec 32 := 64#32
  let v1052 : BitVec 32 := Scalar.muli v431 c64_i32_525
  let c61_i32_526 : BitVec 32 := 61#32
  let v1053 : BitVec 32 := Scalar.addi v1052 c61_i32_526
  let v1054 : Index := Scalar.indexCast v1053
  ![v1054.toNat]
def k1_off310 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off311 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c61_i32_527 : BitVec 32 := 61#32
  let c0_i32_528 : BitVec 32 := 0#32
  ![v441.toNat, 61, 0]
def k1_off312 (v1055 : BitVec 32) : Fin 2 → Nat :=
  let c0_i32_529 : BitVec 32 := 0#32
  ![v1055.toNat, 0]

def k1_chk126 (i : grid1.Coords) (v1055 : BitVec 32) : Prop :=
  (∀ (k1_h2 : k1_cond2 i = 1#1), ∀ a, (k1_off312 v1055) a + S1x4096.size a ≤ S32000x4096.size a)
theorem k1_off312_inb : ∀ (i : grid1.Coords) (v1055 : BitVec 32) (k1_hw126 : k1_chk126 i v1055), ∀ (k1_h2 : k1_cond2 i = 1#1), ∀ a, (k1_off312 v1055) a + S1x4096.size a ≤ S32000x4096.size a := fun i v1055 k1_hw126 k1_h2 => k1_hw126 k1_h2

def k1_off313 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_530 : BitVec 32 := 64#32
  let v1062 : BitVec 32 := Scalar.muli v431 c64_i32_530
  let c62_i32_531 : BitVec 32 := 62#32
  let v1063 : BitVec 32 := Scalar.addi v1062 c62_i32_531
  let v1064 : Index := Scalar.indexCast v1063
  ![v1064.toNat]
def k1_off314 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off315 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c62_i32_532 : BitVec 32 := 62#32
  let c0_i32_533 : BitVec 32 := 0#32
  ![v441.toNat, 62, 0]
def k1_off316 (v1065 : BitVec 32) : Fin 2 → Nat :=
  let c0_i32_534 : BitVec 32 := 0#32
  ![v1065.toNat, 0]

def k1_chk127 (i : grid1.Coords) (v1065 : BitVec 32) : Prop :=
  (∀ (k1_h2 : k1_cond2 i = 1#1), ∀ a, (k1_off316 v1065) a + S1x4096.size a ≤ S32000x4096.size a)
theorem k1_off316_inb : ∀ (i : grid1.Coords) (v1065 : BitVec 32) (k1_hw127 : k1_chk127 i v1065), ∀ (k1_h2 : k1_cond2 i = 1#1), ∀ a, (k1_off316 v1065) a + S1x4096.size a ≤ S32000x4096.size a := fun i v1065 k1_hw127 k1_h2 => k1_hw127 k1_h2

def k1_off317 (i : grid1.Coords) : Fin 1 → Nat :=
  let arg0 : BitVec 32 := BitVec.ofNat 32 (i 0).val
  let c1_i32_214 : BitVec 32 := 1#32
  let v431 : BitVec 32 := Scalar.addi arg0 c1_i32_214
  let c64_i32_535 : BitVec 32 := 64#32
  let v1072 : BitVec 32 := Scalar.muli v431 c64_i32_535
  let c63_i32_536 : BitVec 32 := 63#32
  let v1073 : BitVec 32 := Scalar.addi v1072 c63_i32_536
  let v1074 : Index := Scalar.indexCast v1073
  ![v1074.toNat]
def k1_off318 (i : grid1.Coords) : Fin 1 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  ![v441.toNat]
def k1_off319 (i : grid1.Coords) : Fin 3 → Nat :=
  let arg0 : BitVec 32 := BitVec.ofNat 32 (i 0).val
  let c1_i32_214 : BitVec 32 := 1#32
  let v431 : BitVec 32 := Scalar.addi arg0 c1_i32_214
  let c2_i32_215 : BitVec 32 := 2#32
  let c0_i32_216 : BitVec 32 := 0#32
  let v432 : BitVec 1 := Scalar.cmpi .eq c2_i32_215 c0_i32_216
  let c1_i32_217 : BitVec 32 := 1#32
  let v433 : BitVec 32 := Scalar.select v432 c1_i32_217 c2_i32_215
  let v434 : BitVec 32 := Scalar.remsi v431 v433
  let c0_i32_219 : BitVec 32 := 0#32
  let v436 : BitVec 1 := Scalar.cmpi .slt v434 c0_i32_219
  let c0_i32_220 : BitVec 32 := 0#32
  let v437 : BitVec 1 := Scalar.cmpi .slt v433 c0_i32_220
  let v438 : BitVec 1 := Scalar.xori v436 v437
  let c0_i32_218 : BitVec 32 := 0#32
  let v435 : BitVec 1 := Scalar.cmpi .ne v434 c0_i32_218
  let v439 : BitVec 1 := Scalar.andi v438 v435
  let v440 : BitVec 32 := Scalar.addi v434 v433
  let v441 : BitVec 32 := Scalar.select v439 v440 v434
  let c63_i32_537 : BitVec 32 := 63#32
  let c0_i32_538 : BitVec 32 := 0#32
  ![v441.toNat, 63, 0]
def k1_off320 (v1075 : BitVec 32) : Fin 2 → Nat :=
  let c0_i32_539 : BitVec 32 := 0#32
  ![v1075.toNat, 0]

def k1_chk128 (i : grid1.Coords) (v1075 : BitVec 32) : Prop :=
  (∀ (k1_h2 : k1_cond2 i = 1#1), ∀ a, (k1_off320 v1075) a + S1x4096.size a ≤ S32000x4096.size a)
theorem k1_off320_inb : ∀ (i : grid1.Coords) (v1075 : BitVec 32) (k1_hw128 : k1_chk128 i v1075), ∀ (k1_h2 : k1_cond2 i = 1#1), ∀ a, (k1_off320 v1075) a + S1x4096.size a ≤ S32000x4096.size a := fun i v1075 k1_hw128 k1_h2 => k1_hw128 k1_h2

def k1_off321 (i : grid1.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k1_off322 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_8 : BitVec 32 := 0#32
  let c0_i32_9 : BitVec 32 := 0#32
  ![v16.toNat, 0, 0]
def k1_off323 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_12 : BitVec 32 := 1#32
  let c0_i32_13 : BitVec 32 := 0#32
  ![v16.toNat, 1, 0]
def k1_off324 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_16 : BitVec 32 := 2#32
  let c0_i32_17 : BitVec 32 := 0#32
  ![v16.toNat, 2, 0]
def k1_off325 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32 : BitVec 32 := 3#32
  let c0_i32_20 : BitVec 32 := 0#32
  ![v16.toNat, 3, 0]
def k1_off326 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c4_i32 : BitVec 32 := 4#32
  let c0_i32_23 : BitVec 32 := 0#32
  ![v16.toNat, 4, 0]
def k1_off327 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c5_i32 : BitVec 32 := 5#32
  let c0_i32_26 : BitVec 32 := 0#32
  ![v16.toNat, 5, 0]
def k1_off328 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c6_i32 : BitVec 32 := 6#32
  let c0_i32_29 : BitVec 32 := 0#32
  ![v16.toNat, 6, 0]
def k1_off329 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c7_i32 : BitVec 32 := 7#32
  let c0_i32_32 : BitVec 32 := 0#32
  ![v16.toNat, 7, 0]
def k1_off330 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c8_i32 : BitVec 32 := 8#32
  let c0_i32_35 : BitVec 32 := 0#32
  ![v16.toNat, 8, 0]
def k1_off331 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c9_i32 : BitVec 32 := 9#32
  let c0_i32_38 : BitVec 32 := 0#32
  ![v16.toNat, 9, 0]
def k1_off332 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c10_i32 : BitVec 32 := 10#32
  let c0_i32_41 : BitVec 32 := 0#32
  ![v16.toNat, 10, 0]
def k1_off333 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c11_i32 : BitVec 32 := 11#32
  let c0_i32_44 : BitVec 32 := 0#32
  ![v16.toNat, 11, 0]
def k1_off334 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c12_i32 : BitVec 32 := 12#32
  let c0_i32_47 : BitVec 32 := 0#32
  ![v16.toNat, 12, 0]
def k1_off335 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c13_i32 : BitVec 32 := 13#32
  let c0_i32_50 : BitVec 32 := 0#32
  ![v16.toNat, 13, 0]
def k1_off336 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c14_i32 : BitVec 32 := 14#32
  let c0_i32_53 : BitVec 32 := 0#32
  ![v16.toNat, 14, 0]
def k1_off337 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c15_i32 : BitVec 32 := 15#32
  let c0_i32_56 : BitVec 32 := 0#32
  ![v16.toNat, 15, 0]
def k1_off338 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c16_i32 : BitVec 32 := 16#32
  let c0_i32_59 : BitVec 32 := 0#32
  ![v16.toNat, 16, 0]
def k1_off339 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c17_i32 : BitVec 32 := 17#32
  let c0_i32_62 : BitVec 32 := 0#32
  ![v16.toNat, 17, 0]
def k1_off340 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c18_i32 : BitVec 32 := 18#32
  let c0_i32_65 : BitVec 32 := 0#32
  ![v16.toNat, 18, 0]
def k1_off341 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c19_i32 : BitVec 32 := 19#32
  let c0_i32_68 : BitVec 32 := 0#32
  ![v16.toNat, 19, 0]
def k1_off342 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c20_i32 : BitVec 32 := 20#32
  let c0_i32_71 : BitVec 32 := 0#32
  ![v16.toNat, 20, 0]
def k1_off343 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c21_i32 : BitVec 32 := 21#32
  let c0_i32_74 : BitVec 32 := 0#32
  ![v16.toNat, 21, 0]
def k1_off344 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c22_i32 : BitVec 32 := 22#32
  let c0_i32_77 : BitVec 32 := 0#32
  ![v16.toNat, 22, 0]
def k1_off345 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c23_i32 : BitVec 32 := 23#32
  let c0_i32_80 : BitVec 32 := 0#32
  ![v16.toNat, 23, 0]
def k1_off346 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c24_i32 : BitVec 32 := 24#32
  let c0_i32_83 : BitVec 32 := 0#32
  ![v16.toNat, 24, 0]
def k1_off347 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c25_i32 : BitVec 32 := 25#32
  let c0_i32_86 : BitVec 32 := 0#32
  ![v16.toNat, 25, 0]
def k1_off348 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c26_i32 : BitVec 32 := 26#32
  let c0_i32_89 : BitVec 32 := 0#32
  ![v16.toNat, 26, 0]
def k1_off349 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c27_i32 : BitVec 32 := 27#32
  let c0_i32_92 : BitVec 32 := 0#32
  ![v16.toNat, 27, 0]
def k1_off350 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c28_i32 : BitVec 32 := 28#32
  let c0_i32_95 : BitVec 32 := 0#32
  ![v16.toNat, 28, 0]
def k1_off351 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c29_i32 : BitVec 32 := 29#32
  let c0_i32_98 : BitVec 32 := 0#32
  ![v16.toNat, 29, 0]
def k1_off352 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c30_i32 : BitVec 32 := 30#32
  let c0_i32_101 : BitVec 32 := 0#32
  ![v16.toNat, 30, 0]
def k1_off353 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c31_i32 : BitVec 32 := 31#32
  let c0_i32_104 : BitVec 32 := 0#32
  ![v16.toNat, 31, 0]
def k1_off354 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c32_i32 : BitVec 32 := 32#32
  let c0_i32_107 : BitVec 32 := 0#32
  ![v16.toNat, 32, 0]
def k1_off355 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c33_i32 : BitVec 32 := 33#32
  let c0_i32_110 : BitVec 32 := 0#32
  ![v16.toNat, 33, 0]
def k1_off356 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c34_i32 : BitVec 32 := 34#32
  let c0_i32_113 : BitVec 32 := 0#32
  ![v16.toNat, 34, 0]
def k1_off357 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c35_i32 : BitVec 32 := 35#32
  let c0_i32_116 : BitVec 32 := 0#32
  ![v16.toNat, 35, 0]
def k1_off358 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c36_i32 : BitVec 32 := 36#32
  let c0_i32_119 : BitVec 32 := 0#32
  ![v16.toNat, 36, 0]
def k1_off359 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c37_i32 : BitVec 32 := 37#32
  let c0_i32_122 : BitVec 32 := 0#32
  ![v16.toNat, 37, 0]
def k1_off360 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c38_i32 : BitVec 32 := 38#32
  let c0_i32_125 : BitVec 32 := 0#32
  ![v16.toNat, 38, 0]
def k1_off361 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c39_i32 : BitVec 32 := 39#32
  let c0_i32_128 : BitVec 32 := 0#32
  ![v16.toNat, 39, 0]
def k1_off362 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c40_i32 : BitVec 32 := 40#32
  let c0_i32_131 : BitVec 32 := 0#32
  ![v16.toNat, 40, 0]
def k1_off363 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c41_i32 : BitVec 32 := 41#32
  let c0_i32_134 : BitVec 32 := 0#32
  ![v16.toNat, 41, 0]
def k1_off364 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c42_i32 : BitVec 32 := 42#32
  let c0_i32_137 : BitVec 32 := 0#32
  ![v16.toNat, 42, 0]
def k1_off365 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c43_i32 : BitVec 32 := 43#32
  let c0_i32_140 : BitVec 32 := 0#32
  ![v16.toNat, 43, 0]
def k1_off366 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c44_i32 : BitVec 32 := 44#32
  let c0_i32_143 : BitVec 32 := 0#32
  ![v16.toNat, 44, 0]
def k1_off367 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c45_i32 : BitVec 32 := 45#32
  let c0_i32_146 : BitVec 32 := 0#32
  ![v16.toNat, 45, 0]
def k1_off368 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c46_i32 : BitVec 32 := 46#32
  let c0_i32_149 : BitVec 32 := 0#32
  ![v16.toNat, 46, 0]
def k1_off369 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c47_i32 : BitVec 32 := 47#32
  let c0_i32_152 : BitVec 32 := 0#32
  ![v16.toNat, 47, 0]
def k1_off370 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c48_i32 : BitVec 32 := 48#32
  let c0_i32_155 : BitVec 32 := 0#32
  ![v16.toNat, 48, 0]
def k1_off371 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c49_i32 : BitVec 32 := 49#32
  let c0_i32_158 : BitVec 32 := 0#32
  ![v16.toNat, 49, 0]
def k1_off372 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c50_i32 : BitVec 32 := 50#32
  let c0_i32_161 : BitVec 32 := 0#32
  ![v16.toNat, 50, 0]
def k1_off373 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c51_i32 : BitVec 32 := 51#32
  let c0_i32_164 : BitVec 32 := 0#32
  ![v16.toNat, 51, 0]
def k1_off374 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c52_i32 : BitVec 32 := 52#32
  let c0_i32_167 : BitVec 32 := 0#32
  ![v16.toNat, 52, 0]
def k1_off375 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c53_i32 : BitVec 32 := 53#32
  let c0_i32_170 : BitVec 32 := 0#32
  ![v16.toNat, 53, 0]
def k1_off376 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c54_i32 : BitVec 32 := 54#32
  let c0_i32_173 : BitVec 32 := 0#32
  ![v16.toNat, 54, 0]
def k1_off377 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c55_i32 : BitVec 32 := 55#32
  let c0_i32_176 : BitVec 32 := 0#32
  ![v16.toNat, 55, 0]
def k1_off378 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c56_i32 : BitVec 32 := 56#32
  let c0_i32_179 : BitVec 32 := 0#32
  ![v16.toNat, 56, 0]
def k1_off379 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c57_i32 : BitVec 32 := 57#32
  let c0_i32_182 : BitVec 32 := 0#32
  ![v16.toNat, 57, 0]
def k1_off380 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c58_i32 : BitVec 32 := 58#32
  let c0_i32_185 : BitVec 32 := 0#32
  ![v16.toNat, 58, 0]
def k1_off381 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c59_i32 : BitVec 32 := 59#32
  let c0_i32_188 : BitVec 32 := 0#32
  ![v16.toNat, 59, 0]
def k1_off382 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c60_i32 : BitVec 32 := 60#32
  let c0_i32_191 : BitVec 32 := 0#32
  ![v16.toNat, 60, 0]
def k1_off383 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c61_i32 : BitVec 32 := 61#32
  let c0_i32_194 : BitVec 32 := 0#32
  ![v16.toNat, 61, 0]
def k1_off384 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c62_i32 : BitVec 32 := 62#32
  let c0_i32_197 : BitVec 32 := 0#32
  ![v16.toNat, 62, 0]
def k1_off385 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c63_i32 : BitVec 32 := 63#32
  let c0_i32_200 : BitVec 32 := 0#32
  ![v16.toNat, 63, 0]
def k1_off386 (i : grid1.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v401 : Index := Scalar.indexCast v16
  let c0 : Index := 0#32
  let c0_202 : Index := 0#32
  ![v401.toNat, 0, 0]
def k1_cond3 (i : grid1.Coords) : BitVec 1 :=
  let arg0 : BitVec 32 := BitVec.ofNat 32 (i 0).val
  let c511_i32 : BitVec 32 := 511#32
  let v428 : BitVec 1 := Scalar.cmpi .eq arg0 c511_i32
  let v429 : BitVec 32 := Scalar.extui v428
  let c0_i32_213 : BitVec 32 := 0#32
  let v430 : BitVec 1 := Scalar.cmpi .ne v429 c0_i32_213
  v430

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S32768 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]
-- ==== ReferenceIdeal.lean ====
abbrev S64x512 : Shape := ⟨2, ![64, 512]⟩
abbrev S32000x300 : Shape := ⟨2, ![32000, 300]⟩
abbrev S300x1024 : Shape := ⟨2, ![300, 1024]⟩
abbrev S1024x1024 : Shape := ⟨2, ![1024, 1024]⟩
abbrev S1024 : Shape := ⟨1, ![1024]⟩
abbrev S1024x3 : Shape := ⟨2, ![1024, 3]⟩
abbrev S3 : Shape := ⟨1, ![3]⟩
abbrev S_ : Shape := ⟨0, ![]⟩
abbrev S64x512x1 : Shape := ⟨3, ![64, 512, 1]⟩
abbrev S64x512x300 : Shape := ⟨3, ![64, 512, 300]⟩
abbrev S300x4096 : Shape := ⟨2, ![300, 4096]⟩
abbrev S4096 : Shape := ⟨1, ![4096]⟩
abbrev S4096x64x512 : Shape := ⟨3, ![4096, 64, 512]⟩
abbrev S512x64x4096 : Shape := ⟨3, ![512, 64, 4096]⟩
abbrev S1x1x4096 : Shape := ⟨3, ![1, 1, 4096]⟩
abbrev S1024x4096 : Shape := ⟨2, ![1024, 4096]⟩
abbrev S64x1024 : Shape := ⟨2, ![64, 1024]⟩
abbrev S1x64x4096 : Shape := ⟨3, ![1, 64, 4096]⟩
abbrev S64x4096 : Shape := ⟨2, ![64, 4096]⟩
abbrev S64x3 : Shape := ⟨2, ![64, 3]⟩
abbrev S1x3 : Shape := ⟨2, ![1, 3]⟩

abbrev nBuf : Space → Nat
  | .hbm => 91
  | .vmem => 0
  | .smem => 0
  | _ => 0

abbrev bufTy : (tb : Table) → Fin (tcTables nBuf tb) → BufTy
  | .hbm, ⟨0, _⟩ => ⟨S64x512, .i32⟩
  | .hbm, ⟨1, _⟩ => ⟨S32000x300, .f32⟩
  | .hbm, ⟨2, _⟩ => ⟨S300x1024, .f32⟩
  | .hbm, ⟨3, _⟩ => ⟨S300x1024, .f32⟩
  | .hbm, ⟨4, _⟩ => ⟨S300x1024, .f32⟩
  | .hbm, ⟨5, _⟩ => ⟨S300x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024x3, .f32⟩
  | .hbm, ⟨15, _⟩ => ⟨S3, .f32⟩
  | .hbm, ⟨16, _⟩ => ⟨S_, .i32⟩
  | .hbm, ⟨17, _⟩ => ⟨S64x512, .i32⟩
  | .hbm, ⟨18, _⟩ => ⟨S64x512, .i1⟩
  | .hbm, ⟨19, _⟩ => ⟨S_, .i32⟩
  | .hbm, ⟨20, _⟩ => ⟨S64x512, .i32⟩
  | .hbm, ⟨21, _⟩ => ⟨S64x512, .i32⟩
  | .hbm, ⟨22, _⟩ => ⟨S64x512, .i32⟩
  | .hbm, ⟨23, _⟩ => ⟨S64x512x1, .i32⟩
  | .hbm, ⟨24, _⟩ => ⟨S64x512x300, .f32⟩
  | .hbm, ⟨25, _⟩ => ⟨S300x4096, .f32⟩
  | .hbm, ⟨26, _⟩ => ⟨S4096, .f32⟩
  | .hbm, ⟨27, _⟩ => ⟨S4096x64x512, .f32⟩
  | .hbm, ⟨28, _⟩ => ⟨S512x64x4096, .f32⟩
  | .hbm, ⟨29, _⟩ => ⟨S1x1x4096, .f32⟩
  | .hbm, ⟨30, _⟩ => ⟨S512x64x4096, .f32⟩
  | .hbm, ⟨31, _⟩ => ⟨S512x64x4096, .f32⟩
  | .hbm, ⟨32, _⟩ => ⟨S1024x4096, .f32⟩
  | .hbm, ⟨33, _⟩ => ⟨S_, .f32⟩
  | .hbm, ⟨34, _⟩ => ⟨S64x1024, .f32⟩
  | .hbm, ⟨35, _⟩ => ⟨S_, .f32⟩
  | .hbm, ⟨36, _⟩ => ⟨S64x1024, .f32⟩
  | .hbm, ⟨37, _⟩ => ⟨S_, .i32⟩
  | .hbm, ⟨38, _⟩ => ⟨S512x64x4096, .f32⟩
  | .hbm, ⟨39, _⟩ => ⟨S1024x4096, .f32⟩
  | .hbm, ⟨40, _⟩ => ⟨S_, .i32⟩
  | .hbm, ⟨41, _⟩ => ⟨S64x1024, .f32⟩
  | .hbm, ⟨42, _⟩ => ⟨S64x1024, .f32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S1x64x4096, .f32⟩
  | .hbm, ⟨48, _⟩ => ⟨S64x4096, .f32⟩
  | .hbm, ⟨49, _⟩ => ⟨S64x4096, .f32⟩
  | .hbm, ⟨50, _⟩ => ⟨S64x4096, .f32⟩
  | .hbm, ⟨51, _⟩ => ⟨S64x1024, .f32⟩
  | .hbm, ⟨52, _⟩ => ⟨S64x1024, .f32⟩
  | .hbm, ⟨53, _⟩ => ⟨S64x1024, .f32⟩
  | .hbm, ⟨54, _⟩ => ⟨S64x1024, .f32⟩
  | .hbm, ⟨55, _⟩ => ⟨S64x1024, .f32⟩
  | .hbm, ⟨56, _⟩ => ⟨S64x1024, .f32⟩
  | .hbm, ⟨57, _⟩ => ⟨S_, .f32⟩
  | .hbm, ⟨58, _⟩ => ⟨S64x1024, .f32⟩
  | .hbm, ⟨59, _⟩ => ⟨S64x1024, .f32⟩
  | .hbm, ⟨60, _⟩ => ⟨S_, .f32⟩
  | .hbm, ⟨61, _⟩ => ⟨S64x1024, .f32⟩
  | .hbm, ⟨62, _⟩ => ⟨S64x1024, .f32⟩
  | .hbm, ⟨63, _⟩ => ⟨S64x1024, .f32⟩
  | .hbm, ⟨64, _⟩ => ⟨S64x1024, .f32⟩
  | .hbm, ⟨65, _⟩ => ⟨S_, .f32⟩
  | .hbm, ⟨66, _⟩ => ⟨S64x1024, .f32⟩
  | .hbm, ⟨67, _⟩ => ⟨S64x1024, .f32⟩
  | .hbm, ⟨68, _⟩ => ⟨S_, .f32⟩
  | .hbm, ⟨69, _⟩ => ⟨S64x1024, .f32⟩
  | .hbm, ⟨70, _⟩ => ⟨S64x1024, .f32⟩
  | .hbm, ⟨71, _⟩ => ⟨S64x1024, .f32⟩
  | .hbm, ⟨72, _⟩ => ⟨S64x1024, .f32⟩
  | .hbm, ⟨73, _⟩ => ⟨S64x1024, .f32⟩
  | .hbm, ⟨74, _⟩ => ⟨S_, .f32⟩
  | .hbm, ⟨75, _⟩ => ⟨S64x1024, .f32⟩
  | .hbm, ⟨76, _⟩ => ⟨S64x1024, .f32⟩
  | .hbm, ⟨77, _⟩ => ⟨S_, .f32⟩
  | .hbm, ⟨78, _⟩ => ⟨S64x1024, .f32⟩
  | .hbm, ⟨79, _⟩ => ⟨S64x1024, .f32⟩
  | .hbm, ⟨80, _⟩ => ⟨S64x1024, .f32⟩
  | .hbm, ⟨81, _⟩ => ⟨S64x1024, .f32⟩
  | .hbm, ⟨82, _⟩ => ⟨S64x1024, .f32⟩
  | .hbm, ⟨83, _⟩ => ⟨S64x1024, .f32⟩
  | .hbm, ⟨84, _⟩ => ⟨S64x1024, .f32⟩
  | .hbm, ⟨85, _⟩ => ⟨S_, .i32⟩
  | .hbm, ⟨86, _⟩ => ⟨S_, .i32⟩
  | .hbm, ⟨87, _⟩ => ⟨S64x3, .f32⟩
  | .hbm, ⟨88, _⟩ => ⟨S1x3, .f32⟩
  | .hbm, ⟨89, _⟩ => ⟨S64x3, .f32⟩
  | .hbm, ⟨90, _⟩ => ⟨S64x3, .f32⟩
  | _, _ => ⟨S64x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_c_2 : Ref sig .tc := ⟨.hbm, 37, rfl⟩
abbrev main_v17_0 : Ref sig .tc := ⟨.hbm, 38, rfl⟩
abbrev main_v17_1 : Ref sig .tc := ⟨.hbm, 39, rfl⟩
abbrev main_v17_2 : Ref sig .tc := ⟨.hbm, 40, rfl⟩
abbrev main_v17_3 : Ref sig .tc := ⟨.hbm, 41, rfl⟩
abbrev main_v17_4 : Ref sig .tc := ⟨.hbm, 42, rfl⟩
abbrev main_while0c_c_7 : Ref sig .tc := ⟨.hbm, 43, rfl⟩
abbrev main_while0c_v22 : Ref sig .tc := ⟨.hbm, 44, rfl⟩
abbrev main_while0b_call0_c : Ref sig .tc := ⟨.hbm, 45, rfl⟩
abbrev main_while0b_call0_c_0 : Ref sig .tc := ⟨.hbm, 46, rfl⟩
abbrev main_while0b_call0_v0 : Ref sig .tc := ⟨.hbm, 47, rfl⟩
abbrev main_while0b_v22 : Ref sig .tc := ⟨.hbm, 48, rfl⟩
abbrev main_while0b_v23 : Ref sig .tc := ⟨.hbm, 49, rfl⟩
abbrev main_while0b_v24 : Ref sig .tc := ⟨.hbm, 50, rfl⟩
abbrev main_while0b_v25 : Ref sig .tc := ⟨.hbm, 51, rfl⟩
abbrev main_while0b_v26 : Ref sig .tc := ⟨.hbm, 52, rfl⟩
abbrev main_while0b_v27 : Ref sig .tc := ⟨.hbm, 53, rfl⟩
abbrev main_while0b_v28 : Ref sig .tc := ⟨.hbm, 54, rfl⟩
abbrev main_while0b_v29 : Ref sig .tc := ⟨.hbm, 55, rfl⟩
abbrev main_while0b_v30 : Ref sig .tc := ⟨.hbm, 56, rfl⟩
abbrev main_while0b_cst_7 : Ref sig .tc := ⟨.hbm, 57, rfl⟩
abbrev main_while0b_v31 : Ref sig .tc := ⟨.hbm, 58, rfl⟩
abbrev main_while0b_v32 : Ref sig .tc := ⟨.hbm, 59, rfl⟩
abbrev main_while0b_cst_8 : Ref sig .tc := ⟨.hbm, 60, rfl⟩
abbrev main_while0b_v33 : Ref sig .tc := ⟨.hbm, 61, rfl⟩
abbrev main_while0b_v34 : Ref sig .tc := ⟨.hbm, 62, rfl⟩
abbrev main_while0b_v35 : Ref sig .tc := ⟨.hbm, 63, rfl⟩
abbrev main_while0b_v36 : Ref sig .tc := ⟨.hbm, 64, rfl⟩
abbrev main_while0b_cst_9 : Ref sig .tc := ⟨.hbm, 65, rfl⟩
abbrev main_while0b_v37 : Ref sig .tc := ⟨.hbm, 66, rfl⟩
abbrev main_while0b_v38 : Ref sig .tc := ⟨.hbm, 67, rfl⟩
abbrev main_while0b_cst_10 : Ref sig .tc := ⟨.hbm, 68, rfl⟩
abbrev main_while0b_v39 : Ref sig .tc := ⟨.hbm, 69, rfl⟩
abbrev main_while0b_v40 : Ref sig .tc := ⟨.hbm, 70, rfl⟩
abbrev main_while0b_v41 : Ref sig .tc := ⟨.hbm, 71, rfl⟩
abbrev main_while0b_v42 : Ref sig .tc := ⟨.hbm, 72, rfl⟩
abbrev main_while0b_v43 : Ref sig .tc := ⟨.hbm, 73, rfl⟩
abbrev main_while0b_cst_11 : Ref sig .tc := ⟨.hbm, 74, rfl⟩
abbrev main_while0b_v44 : Ref sig .tc := ⟨.hbm, 75, rfl⟩
abbrev main_while0b_v45 : Ref sig .tc := ⟨.hbm, 76, rfl⟩
abbrev main_while0b_cst_12 : Ref sig .tc := ⟨.hbm, 77, rfl⟩
abbrev main_while0b_v46 : Ref sig .tc := ⟨.hbm, 78, rfl⟩
abbrev main_while0b_v47 : Ref sig .tc := ⟨.hbm, 79, rfl⟩
abbrev main_while0b_v48 : Ref sig .tc := ⟨.hbm, 80, rfl⟩
abbrev main_while0b_v49 : Ref sig .tc := ⟨.hbm, 81, rfl⟩
abbrev main_while0b_v50 : Ref sig .tc := ⟨.hbm, 82, rfl⟩
abbrev main_while0b_v51 : Ref sig .tc := ⟨.hbm, 83, rfl⟩
abbrev main_while0b_v52 : Ref sig .tc := ⟨.hbm, 84, rfl⟩
abbrev main_while0b_c_13 : Ref sig .tc := ⟨.hbm, 85, rfl⟩
abbrev main_while0b_v53 : Ref sig .tc := ⟨.hbm, 86, rfl⟩
abbrev main_v18 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩

abbrev nD : Nat := 1
abbrev τ : Topo := Topo.v7x

variable {F : FTy → Type} [FloatOps F]

abbrev main_while0_count : Scf.Loop 32 := ⟨0#32, 512#32, 1#32⟩
-- ==== Proof.Canon.lean ====
module

public import proofs.«01_k».proof.Proof.Gen.Kernel

@[expose] public section

/-!
The scan kernel's body as loops: the printed body unrolls its three loops over the 64 rows of the
batch, and here they are written once per row and shown to be the same program.
-/

set_option maxRecDepth 100000

namespace Cert.Kernel.Own

open Idealize.ShloMosaic Idealize.SL.Sem
open Cert.Kernel
open Facts₀ Facts

variable {F : FTy → Type} [FloatOps F]
variable [Facts]

/-- The last `k` of the `n` steps `f 0 … f (n - 1)`, in order. -/
def rep {E : Type → Type _} (n : ℕ) (f : (j : ℕ) → j < n → Prog E PUnit) : (k : ℕ) → k ≤ n → Prog E PUnit
  | 0, _ => .ret ⟨⟩
  | k + 1, h => (f (n - (k + 1)) (by omega)).bind fun _ => rep n f k (by omega)

/-- A row of a slot lies inside the staging buffer. -/
theorem inbRow (s : ℕ) (hs : s < 2) (j : ℕ) (hj : j < 64) :
    ∀ a, (![s, j, 0] : Fin 3 → Nat) a + S1x1x4096.size a ≤ S2x64x4096.size a := by
  intro a; fin_cases a <;> simp [S1x1x4096, S2x64x4096] <;> omega

/-- A slot's cell lies inside the pair of cells. -/
theorem inbSem (s : ℕ) (hs : s < 2) :
    ∀ a, (![s] : Fin 1 → Nat) a + S1.size a ≤ S2.size a := by
  intro a; fin_cases a; simp [S1, S2]; omega

/-- A position below 32768 lies inside the row of tokens. -/
theorem inbTok (n : ℕ) (hn : n < 32768) :
    ∀ a, (![n] : Fin 1 → Nat) a + S1.size a ≤ S32768.size a := by
  intro a; fin_cases a; simp [S1, S32768]; omega

/-- The cell of slot `s`. -/
def cell (arg11 : DmaSems sig S2) (s : ℕ) (hs : s < 2) : DmaSem sig :=
  ((arg11.slice (Rect.unit (s := S2) ![s] S1.size (inbSem s hs))).squeeze S_ squeezes_S1_S_).sem

/-- Row `j` of slot `s` of the staging buffer. -/
def rowOf (arg8 : Memref sig .tc .vmem S2x64x4096 .f32) (s : ℕ) (hs : s < 2) (j : ℕ) (hj : j < 64) :
    Memref sig .tc .vmem S4096 .f32 :=
  (arg8.slice (Rect.unit (s := S2x64x4096) ![s, j, 0] S1x1x4096.size (inbRow s hs j hj)) (fun _ => rfl)).squeeze
    S4096 squeezes_S1x1x4096_S4096

/-- Row `v` of the table. -/
def tableRow (arg2 : Memref sig .tc .hbm S32000x4096 .f32) (v : BitVec 32)
    (hv : ∀ a, (k1_off1 v) a + S1x4096.size a ≤ S32000x4096.size a) : Memref sig .tc .hbm S4096 .f32 :=
  (arg2.slice (Rect.unit (s := S32000x4096) (k1_off1 v) S1x4096.size hv) (fun _ => rfl)).squeeze
    S4096 squeezes_S1x4096_S4096

section Steps
variable (arg1 : Memref sig .tc .smem S32768 .i32) (arg2 : Memref sig .tc .hbm S32000x4096 .f32)
  (arg8 : Memref sig .tc .vmem S2x64x4096 .f32) (arg11 : DmaSems sig S2)

/-- One issue: the token at position `n` is read and the table row it names sent to row `j` of slot `s`. -/
noncomputable def issue (chk : BitVec 32 → Prop) (dec : ∀ v, Decidable (chk v))
    (hchk : ∀ v, chk v → ∀ a, (k1_off1 v) a + S1x4096.size a ≤ S32000x4096.size a)
    (n : ℕ) (hn : n < 32768) (s : ℕ) (hs : s < 2) (j : ℕ) (hj : j < 64) :
    Prog (TpuEff nD τ sig (Elt F) Λ₀ .tc) PUnit := do
  let v : Elt F .i32 ← smemLoad arg1 (Rect.unit (s := S32768) ![n] S1.size (inbTok n hn)) numel1_S1 rfl
  have hw : chk v := (← Prog.lift (TpuEff.assume (chk v) (dec v))).down
  Prog.lift (.enqueueDma (tableRow arg2 v (hchk v hw)) (.here (rowOf arg8 s hs j hj)) (.dma (cell arg11 s hs))
    ((View.wordExact_bits rfl).reshape _ _) ((View.wordExact_bits rfl).reshape _ _) ⟨Or.inl rfl, trivial⟩)

/-- One wait of slot `s` (the amount of row `j`). -/
noncomputable def await (s : ℕ) (hs : s < 2) (j : ℕ) (hj : j < 64) :
    Prog (TpuEff nD τ sig (Elt F) Λ₀ .tc) PUnit :=
  Prog.lift (.waitDma2 (cell arg11 s hs)
    ((arg2.slice (Rect.unit (s := S32000x4096) ![0, 0] S1x4096.size inb_S32000x4096_S1x4096_0_0) (fun _ => rfl)).squeeze
      S4096 squeezes_S1x4096_S4096)
    (rowOf arg8 s hs j hj)
    ((View.wordExact_bits rfl).reshape _ _) ((View.wordExact_bits rfl).reshape _ _))
end Steps

/-- The slot the point's rows arrive in. -/
def slotNow (i : grid1.Coords) : ℕ := k1_off321 i 0
/-- The slot the next point's rows are sent to. -/
def slotNext (i : grid1.Coords) : ℕ := k1_off66 i 0
/-- There are two slots: the current one. -/
theorem slotNow_lt (i : grid1.Coords) : slotNow i < 2 := by
  have h := k1_off321_inb i 0
  simp only [S1, S2] at h
  have h' : k1_off321 i 0 + 1 ≤ 2 := h
  unfold slotNow; omega
/-- There are two slots: the next one. -/
theorem slotNext_lt (i : grid1.Coords) (h2 : k1_cond2 i = 1#1) : slotNext i < 2 := by
  have h := k1_off66_inb i h2 0
  have h' : k1_off66 i 0 + 1 ≤ 2 := h
  unfold slotNext; omega
/-- The position of the token of row `j` of the next point. -/
def tokNext (i : grid1.Coords) (j : ℕ) : ℕ :=
  (Scalar.indexCast (Scalar.addi (Scalar.muli (Scalar.addi (BitVec.ofNat 32 (i 0).val) 1#32) 64#32) (BitVec.ofNat 32 j))).toNat

/-- The point numbered `n`. -/
def pt (n : Fin 512) : grid1.Coords := fun a => ⟨n.val, by have := n.isLt; fin_cases a; exact this⟩

/-- A point is the one its number names. -/
theorem pt_zero (i : grid1.Coords) : pt ⟨(i 0).val, (i 0).isLt⟩ = i := by
  funext a; fin_cases a; rfl

/-- The first branch is taken at the first point alone. -/
theorem cond1_pt : ∀ n : Fin 512, k1_cond1 (pt n) = 1#1 ↔ n.val = 0 := by decide +kernel
/-- The second branch is taken at every point but the last. -/
theorem cond2_pt : ∀ n : Fin 512, k1_cond2 (pt n) = 1#1 ↔ n.val < 511 := by decide +kernel
/-- The third branch is taken at the last point alone. -/
theorem cond3_pt : ∀ n : Fin 512, k1_cond3 (pt n) = 1#1 ↔ n.val = 511 := by decide +kernel
/-- The current slot alternates with the point. -/
theorem slotNow_pt : ∀ n : Fin 512, slotNow (pt n) = n.val % 2 := by decide +kernel
/-- The next slot is the other one. -/
theorem slotNext_pt : ∀ n : Fin 512, slotNext (pt n) = (n.val + 1) % 2 := by decide +kernel
/-- The next point's tokens start 64 further on. -/
theorem base_pt : ∀ n : Fin 512,
    (Scalar.muli (Scalar.addi (BitVec.ofNat 32 n.val) 1#32) 64#32).toNat = (n.val + 1) * 64 := by decide +kernel

/-- The first branch, at any point. -/
theorem cond1_iff (i : grid1.Coords) : k1_cond1 i = 1#1 ↔ (i 0).val = 0 := by
  have := cond1_pt ⟨(i 0).val, (i 0).isLt⟩; rwa [pt_zero] at this
/-- The second branch, at any point. -/
theorem cond2_iff (i : grid1.Coords) : k1_cond2 i = 1#1 ↔ (i 0).val < 511 := by
  have := cond2_pt ⟨(i 0).val, (i 0).isLt⟩; rwa [pt_zero] at this
/-- The third branch, at any point. -/
theorem cond3_iff (i : grid1.Coords) : k1_cond3 i = 1#1 ↔ (i 0).val = 511 := by
  have := cond3_pt ⟨(i 0).val, (i 0).isLt⟩; rwa [pt_zero] at this
/-- The current slot, at any point. -/
theorem slotNow_eq (i : grid1.Coords) : slotNow i = (i 0).val % 2 := by
  have := slotNow_pt ⟨(i 0).val, (i 0).isLt⟩; rwa [pt_zero] at this
/-- The next slot, at any point. -/
theorem slotNext_eq (i : grid1.Coords) : slotNext i = ((i 0).val + 1) % 2 := by
  have := slotNext_pt ⟨(i 0).val, (i 0).isLt⟩; rwa [pt_zero] at this

/-- The position of a token of the next point. -/
theorem tokNext_eq (i : grid1.Coords) (h2 : k1_cond2 i = 1#1) (j : ℕ) (hj : j < 64) :
    tokNext i j = ((i 0).val + 1) * 64 + j := by
  have hb := base_pt ⟨(i 0).val, (i 0).isLt⟩
  have hi := (cond2_iff i).1 h2
  have : tokNext i j = ((Scalar.muli (Scalar.addi (BitVec.ofNat 32 (i 0).val) 1#32) 64#32) + BitVec.ofNat 32 j).toNat := rfl
  rw [this, BitVec.toNat_add, BitVec.toNat_ofNat]
  simp only at hb
  rw [hb]; omega

/-- That position lies inside the row of tokens. -/
theorem tokNext_lt (i : grid1.Coords) (h2 : k1_cond2 i = 1#1) (j : ℕ) (hj : j < 64) : tokNext i j < 32768 := by
  have hi := (cond2_iff i).1 h2
  rw [tokNext_eq i h2 j hj]; omega

/-! ## The body -/

section Body
variable (i : grid1.Coords)
  (arg1 : Memref sig .tc .smem S32768 .i32) (harg1 : arg1.IsWhole)
  (arg2 : Memref sig .tc .hbm S32000x4096 .f32) (harg2 : arg2.IsWhole)
  (arg3 : Memref sig .tc .hbm S1024x4096 .f32) (harg3 : arg3.IsWhole)
  (arg4 : Memref sig .tc .vmem S1024x128 .f32) (harg4 : arg4.IsWhole)
  (arg5 : Memref sig .tc .vmem S1x128 .f32) (harg5 : arg5.IsWhole)
  (arg6 : Memref sig .tc .vmem S64x128 .f32) (harg6 : arg6.IsWhole)
  (arg7 : Memref sig .tc .vmem S1024x4096 .f32) (harg7 : arg7.IsWhole)
  (arg8 : Memref sig .tc .vmem S2x64x4096 .f32) (harg8 : arg8.IsWhole)
  (arg9 : Memref sig .tc .vmem S64x1024 .f32) (harg9 : arg9.IsWhole)
  (arg10 : Memref sig .tc .vmem S64x1024 .f32) (harg10 : arg10.IsWhole)
  (arg11 : DmaSems sig S2) (arg12 : DmaSems sig S_)

/-- What the first point does before its step: the weights' copy started, the first 64 rows sent to slot 0,
    the weights awaited, the state cleared. -/
noncomputable def first (h1 : k1_cond1 i = 1#1) : Prog (TpuEff nD τ sig (Elt F) Λ₀ .tc) PUnit := do
  Prog.lift (.enqueueDma arg3 (.here arg7) (.dma arg12.sem) harg3.wordExact harg7.wordExact ⟨Or.inl rfl, trivial⟩)
  rep 64 (fun j hj => issue arg1 arg2 arg8 arg11 (k1_chk1 i) (k1_chk1.dec i) (fun v hv => k1_off1_inb i v hv h1)
    j (by omega) 0 (by omega) j hj) 64 (le_refl _)
  Prog.lift (.waitDma2 arg12.sem arg3 arg7 harg3.wordExact harg7.wordExact)
  let _ : Vec F S64x1024 .f32 ← Prog.lift (.load arg9 (Rect.unit (s := S64x1024) ![0, 0] S64x1024.size inb_S64x1024_S64x1024_0_0).toLoadRect (View.loadsAt_vmem h_S64x1024))
  Prog.lift (.store arg9 (Rect.unit (s := S64x1024) ![0, 0] S64x1024.size inb_S64x1024_S64x1024_0_0)
    (shapeCast S64x1024 (broadcast S64x1024 (Scalar.ofBits .f32 0x00000000#32 : F .f32)) shapeCasts_S64x1024_S64x1024) Finset.univ (View.stores_vmem_bits_univ h_S64x1024 rfl) (.inl rfl))
  let _ : Vec F S64x1024 .f32 ← Prog.lift (.load arg10 (Rect.unit (s := S64x1024) ![0, 0] S64x1024.size inb_S64x1024_S64x1024_0_0).toLoadRect (View.loadsAt_vmem h_S64x1024))
  Prog.lift (.store arg10 (Rect.unit (s := S64x1024) ![0, 0] S64x1024.size inb_S64x1024_S64x1024_0_0)
    (shapeCast S64x1024 (broadcast S64x1024 (Scalar.ofBits .f32 0x00000000#32 : F .f32)) shapeCasts_S64x1024_S64x1024) Finset.univ (View.stores_vmem_bits_univ h_S64x1024 rfl) (.inl rfl))
  pure ⟨⟩

/-- What every point but the last does: the next point's 64 rows sent to the other slot. -/
noncomputable def ahead (h2 : k1_cond2 i = 1#1) : Prog (TpuEff nD τ sig (Elt F) Λ₀ .tc) PUnit :=
  rep 64 (fun j hj => issue arg1 arg2 arg8 arg11 (k1_chk65 i) (k1_chk65.dec i) (fun v hv => k1_off68_inb i v hv h2)
    (tokNext i j) (tokNext_lt i h2 j hj) (slotNext i) (slotNext_lt i h2) j hj) 64 (le_refl _)

/-- The point's 64 rows awaited. -/
noncomputable def arrive : Prog (TpuEff nD τ sig (Elt F) Λ₀ .tc) PUnit :=
  rep 64 (fun j hj => await arg2 arg8 arg11 (slotNow i) (slotNow_lt i) j hj) 64 (le_refl _)

/-- The gates' sum of a row block `x` and the state: the four gates side by side. -/
noncomputable def gates (x : Vec F S1x64x4096 .f32) (h : Vec F S64x1024 .f32) (v : Vec F S1024x4096 .f32) : FVec F S64x4096 .f32 :=
  addf (shapeCast S64x4096 x shapeCasts_S1x64x4096_S64x4096)
    (matmul dot_S64x1024_S1024x4096_S64x4096_1_0_0_1_n_n none h v (constant S64x4096 .f32 0x00000000#32))
/-- The cell state after a step. -/
noncomputable def nextC (z : FVec F S64x4096 .f32) (c : Vec F S64x1024 .f32) : FVec F S64x1024 .f32 :=
  addf (mulf (logistic (extractStridedSlice S64x1024 ![0, 1024] z slices_S64x4096_o0_1024_S64x1024)) c)
    (mulf (logistic (extractStridedSlice S64x1024 ![0, 0] z slices_S64x4096_o0_0_S64x1024))
      (tanh (extractStridedSlice S64x1024 ![0, 2048] z slices_S64x4096_o0_2048_S64x1024)))
/-- The hidden state after a step. -/
noncomputable def nextH (z : FVec F S64x4096 .f32) (c : Vec F S64x1024 .f32) : FVec F S64x1024 .f32 :=
  mulf (logistic (extractStridedSlice S64x1024 ![0, 3072] z slices_S64x4096_o0_3072_S64x1024)) (tanh (nextC z c))
/-- The last layer. -/
noncomputable def dense (h : FVec F S64x1024 .f32) (w : Vec F S1024x128 .f32) (b : Vec F S1x128 .f32) : FVec F S64x128 .f32 :=
  addf (matmul dot_S64x1024_S1024x128_S64x128_1_0_0_1_n_n none h (shapeCast S1024x128 w shapeCasts_S1024x128_S1024x128)
      (constant S64x128 .f32 0x00000000#32))
    (broadcastTo S64x128 (shapeCast S1x128 b shapeCasts_S1x128_S1x128) broadcasts_S1x128_S64x128)

/-- One step of the recurrence on the rows that arrived. -/
noncomputable def step : Prog (TpuEff nD τ sig (Elt F) Λ₀ .tc) (FVec F S64x1024 .f32) := do
  let x : Vec F S1x64x4096 .f32 ← Prog.lift (.load arg8 (Rect.unit (s := S2x64x4096) (k1_off386 i) S1x64x4096.size (k1_off386_inb i)).toLoadRect (View.loadsAt_vmem h_S1x64x4096))
  let h : Vec F S64x1024 .f32 ← Prog.lift (.load arg9 (Rect.unit (s := S64x1024) ![0, 0] S64x1024.size inb_S64x1024_S64x1024_0_0).toLoadRect (View.loadsAt_vmem h_S64x1024))
  let v : Vec F S1024x4096 .f32 ← Prog.lift (.load arg7 (Rect.unit (s := S1024x4096) ![0, 0] S1024x4096.size inb_S1024x4096_S1024x4096_0_0).toLoadRect (View.loadsAt_vmem h_S1024x4096))
  let c : Vec F S64x1024 .f32 ← Prog.lift (.load arg10 (Rect.unit (s := S64x1024) ![0, 0] S64x1024.size inb_S64x1024_S64x1024_0_0).toLoadRect (View.loadsAt_vmem h_S64x1024))
  let _ : Vec F S64x1024 .f32 ← Prog.lift (.load arg10 (Rect.unit (s := S64x1024) ![0, 0] S64x1024.size inb_S64x1024_S64x1024_0_0).toLoadRect (View.loadsAt_vmem h_S64x1024))
  Prog.lift (.store arg10 (Rect.unit (s := S64x1024) ![0, 0] S64x1024.size inb_S64x1024_S64x1024_0_0)
    (shapeCast S64x1024 (nextC (gates x h v) c) shapeCasts_S64x1024_S64x1024) Finset.univ (View.stores_vmem_bits_univ h_S64x1024 rfl) (.inl rfl))
  let _ : Vec F S64x1024 .f32 ← Prog.lift (.load arg9 (Rect.unit (s := S64x1024) ![0, 0] S64x1024.size inb_S64x1024_S64x1024_0_0).toLoadRect (View.loadsAt_vmem h_S64x1024))
  Prog.lift (.store arg9 (Rect.unit (s := S64x1024) ![0, 0] S64x1024.size inb_S64x1024_S64x1024_0_0)
    (shapeCast S64x1024 (nextH (gates x h v) c) shapeCasts_S64x1024_S64x1024) Finset.univ (View.stores_vmem_bits_univ h_S64x1024 rfl) (.inl rfl))
  pure (nextH (gates x h v) c)

/-- What the last point does after its step: the last layer, stored into the result's block. -/
noncomputable def last (h : FVec F S64x1024 .f32) : Prog (TpuEff nD τ sig (Elt F) Λ₀ .tc) PUnit := do
  let w : Vec F S1024x128 .f32 ← Prog.lift (.load arg4 (Rect.unit (s := S1024x128) ![0, 0] S1024x128.size inb_S1024x128_S1024x128_0_0).toLoadRect (View.loadsAt_vmem h_S1024x128))
  let b : Vec F S1x128 .f32 ← Prog.lift (.load arg5 (Rect.unit (s := S1x128) ![0, 0] S1x128.size inb_S1x128_S1x128_0_0).toLoadRect (View.loadsAt_vmem h_S1x128))
  let _ : Vec F S64x128 .f32 ← Prog.lift (.load arg6 (Rect.unit (s := S64x128) ![0, 0] S64x128.size inb_S64x128_S64x128_0_0).toLoadRect (View.loadsAt_vmem h_S64x128))
  Prog.lift (.store arg6 (Rect.unit (s := S64x128) ![0, 0] S64x128.size inb_S64x128_S64x128_0_0) (dense h w b) Finset.univ (View.stores_vmem_bits_univ h_S64x128 rfl) (.inl rfl))
  pure ⟨⟩

/-- The word of the point's slot, as the body computes it. -/
def slotWord : BitVec 32 :=
  let k : BitVec 32 := Scalar.select (Scalar.cmpi .eq 2#32 0#32) 1#32 2#32
  let r : BitVec 32 := Scalar.remsi (BitVec.ofNat 32 (i 0).val) k
  Scalar.select (Scalar.andi (Scalar.xori (Scalar.cmpi .slt r 0#32) (Scalar.cmpi .slt k 0#32)) (Scalar.cmpi .ne r 0#32))
    (Scalar.addi r k) r

/-- A branch whose two arms run into the same rest `e` is the branch followed by the rest. -/
theorem branch_rest {E : Type → Type _} {γ : Type _} {c : Prop} [Decidable c] {T : c → Prog E γ} {e : Prog E γ}
    {t : c → Prog E PUnit} {k : PUnit → Prog E γ} (hT : ∀ h, T h = Prog.bind (t h) fun _ => e) (he : e = k ⟨⟩) :
    dite c T (fun _ => e) = Prog.bind (dite c t fun _ => .ret ⟨⟩) k := by
  by_cases h : c
  · rw [dif_pos h, dif_pos h, hT h, he]
  · rw [dif_neg h, dif_neg h, he]; rfl

set_option maxHeartbeats 0 in
/-- The start of the body in loop form. -/
theorem start_eq :
    (k1_part35 i arg1 harg1 arg2 harg2 arg3 harg3 arg4 harg4 arg5 harg5 arg6 harg6 arg7 harg7 arg8 harg8 arg9 harg9 arg10 harg10 arg11 arg12 : Prog (TpuEff nD τ sig (Elt F) Λ₀ .tc) (Σ' (arg0 : BitVec 32), BitVec 32)) =
    (if h1 : k1_cond1 i = 1#1 then first i arg1 arg2 arg3 harg3 arg7 harg7 arg8 arg9 arg10 arg11 arg12 h1 else .ret ⟨⟩).bind fun _ =>
    (if h2 : k1_cond2 i = 1#1 then ahead i arg1 arg2 arg8 arg11 h2 else .ret ⟨⟩).bind fun _ =>
    (await arg2 arg8 arg11 (slotNow i) (slotNow_lt i) 0 (by omega)).bind fun _ =>
    (await arg2 arg8 arg11 (slotNow i) (slotNow_lt i) 1 (by omega)).bind fun _ =>
    .ret ⟨BitVec.ofNat 32 (i 0).val, slotWord i⟩ := by
  refine branch_rest (c := k1_cond1 i = 1#1) (fun h1 => ?_) (branch_rest (c := k1_cond2 i = 1#1) (fun h2 => ?_) ?_)
  · rfl
  · rfl
  · rfl
/-- The scan kernel's body, its loops written once per row. -/
noncomputable def body : Prog (TpuEff nD τ sig (Elt F) Λ₀ .tc) PUnit :=
  (if h1 : k1_cond1 i = 1#1 then first i arg1 arg2 arg3 harg3 arg7 harg7 arg8 arg9 arg10 arg11 arg12 h1 else .ret ⟨⟩).bind fun _ =>
  (if h2 : k1_cond2 i = 1#1 then ahead i arg1 arg2 arg8 arg11 h2 else .ret ⟨⟩).bind fun _ =>
  (arrive i arg2 arg8 arg11).bind fun _ =>
  (step i arg7 arg8 arg9 arg10).bind fun h =>
  (if _h3 : k1_cond3 i = 1#1 then last arg4 arg5 arg6 h else .ret ⟨⟩)

set_option maxHeartbeats 0 in
/-- The printed body is its loop form. -/
theorem body_eq : (cc1_lstm_scan i arg1 harg1 arg2 harg2 arg3 harg3 arg4 harg4 arg5 harg5 arg6 harg6 arg7 harg7 arg8 harg8 arg9 harg9 arg10 harg10 arg11 arg12 : Prog (TpuEff nD τ sig (Elt F) Λ₀ .tc) PUnit) =
    body i arg1 arg2 arg3 harg3 arg4 arg5 arg6 arg7 harg7 arg8 arg9 arg10 arg11 arg12 := by
  unfold cc1_lstm_scan body
  refine (congrArg (fun p => Prog.bind p _) (start_eq i arg1 harg1 arg2 harg2 arg3 harg3 arg4 harg4 arg5 harg5 arg6 harg6 arg7 harg7 arg8 harg8 arg9 harg9 arg10 harg10 arg11 arg12)).trans ?_
  refine (Prog.bind_assoc _ _ _).trans ?_
  refine congrArg _ (funext fun _ => ?_)
  refine (Prog.bind_assoc _ _ _).trans ?_
  refine congrArg _ (funext fun _ => ?_)
  rfl
end Body

end Cert.Kernel.Own
-- ==== Proof.Rows.lean ====
module

public import proofs.«01_k».proof.Proof.Canon
public import proofs.«01_k».proof.Proof.Gen.Kernel.Regions
public import Idealize.ShloMosaic.Lib.Pipeline.Frame
public import Idealize.ShloMosaic.Lib.Batch
public import Idealize.ShloMosaic.Lib.Tactic
public import Idealize.ShloMosaic.Lib.Pipeline.Kit

@[expose] public section

/-!
The transfers of the scan kernel: the rows of a slot, the table rows they come from, and the rules of
one issue, one wait, and of the 64 of each.
-/

set_option maxRecDepth 16384

noncomputable section

namespace Cert.Kernel.Own

open Idealize.ShloMosaic Idealize.ShloMosaic.TcCoe Idealize.ShloMosaic.Tactic
open Idealize.SL Idealize.SL.RA Idealize.ShloMosaic.Rounds
open Idealize.SL.BI (sProp bigSep Storable)
open scoped Idealize.SL.BI
open Idealize.SL.BI.BIBase Idealize.SL.BI.Laws Idealize.SL.ProofMode Idealize.SL.Sem
open Cert.Kernel Cert.Kernel.Gen

variable {F : FTy → Type} [FloatOps F]

/-- The resource algebra: the pipelines' beside the transfers' counters. -/
abbrev UU : Type := Pipeline.UD sig nD τ

local notation "𝕄" => MT nD τ sig Unit (Elt F) ℕ UU ℕ

/-- The transfers' counters. -/
abbrev EC : UEmb Counters 𝕄 := countersEmb (U := UU)

/-- No loop of the program needs a variant. -/
abbrev 𝒱₀ : Variants := Variants.none

/-- The rules' goal: a program of the kernel run on core `c`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Loops -/

/-- A loop's rule: what each step carries from its number to the next, the loop carries from zero to its end. -/
theorem rep_rule (c : Dev nD) (n : ℕ) (f : (j : ℕ) → j < n → Prog (TpuEff nD τ sig (Elt F) Λ₀ .tc) PUnit) (I : ℕ → sProp 𝕄)
    (h : ∀ j hj, I j ⊢ runs c (f j hj) fun _ => I (j + 1)) :
    ∀ (k : ℕ) (hk : k ≤ n), I (n - k) ⊢ runs c (rep n f k hk) fun _ => I n := by
  intro k
  induction k with
  | zero =>
    intro hk
    rw [Nat.sub_zero]
    unfold rep
    unfold runs
    rw [wp_ret]
    iintro H; imodintro; iexact H
  | succ k ih =>
    intro hk
    show I (n - (k + 1)) ⊢ wp frame _ Set.univ ((f (n - (k + 1)) _) >>= fun _ => rep n f k _) _
    rw [wp_bind]
    refine (h (n - (k + 1)) (by omega)).trans (wp_mono frame _ _ fun _ => ?_)
    rw [show n - (k + 1) + 1 = n - k by omega]
    exact ih (by omega)

/-! ## The rows -/

/-- The staging buffer of the rows, on core `c`. -/
abbrev locG (c : Dev nD) : Loc nD τ sig := (Memref.whole cc1_scratch1 : Memref sig .tc _ _ _).view.loc (c : Thread nD τ)
/-- The table, on core `c`. -/
abbrev locP (c : Dev nD) : Loc nD τ sig := (Memref.whole main_v4 : Memref sig .tc _ _ _).view.loc (c : Thread nD τ)

/-- The elements of row `j` of slot `s`. -/
def rowSet (s : ℕ) (hs : s < 2) (j : Fin 64) : Finset S2x64x4096.Idx :=
  (Rect.unit (s := S2x64x4096) ![s, j.val, 0] S1x1x4096.size (inbRow s hs j.val j.isLt)).set

/-- Which elements of the staging buffer a row is. -/
theorem mem_rowSet (s : ℕ) (hs : s < 2) (j : Fin 64) (i : S2x64x4096.Idx) :
    i ∈ rowSet s hs j ↔ (i 0).val = s ∧ (i 1).val = j.val := by
  unfold rowSet
  rw [Rect.mem_set_unit]
  constructor
  · intro h
    have h0 := h 0; have h1 := h 1
    simp [S1x1x4096] at h0 h1
    omega
  · rintro ⟨h0, h1⟩ a
    have h2 : (i 2).val < 4096 := (i 2).isLt
    fin_cases a <;> simp [S1x1x4096] <;> omega

/-- The elements a row's transfer writes. -/
theorem rowOf_set (s : ℕ) (hs : s < 2) (j : ℕ) (hj : j < 64) :
    (rowOf (Memref.whole cc1_scratch1) s hs j hj).view.set = rowSet s hs ⟨j, hj⟩ := by
  unfold rowOf rowSet
  exact (View.set_reshape _ _).trans (View.set_slice_whole cc1_scratch1 _)

/-- The elements of slot `s`. -/
def slotSet (s : ℕ) (hs : s < 2) : Finset S2x64x4096.Idx := Finset.univ.biUnion fun j : Fin 64 => rowSet s hs j

/-- Which elements of the staging buffer a slot is. -/
theorem mem_slotSet (s : ℕ) (hs : s < 2) (i : S2x64x4096.Idx) : i ∈ slotSet s hs ↔ (i 0).val = s := by
  unfold slotSet
  rw [Finset.mem_biUnion]
  constructor
  · rintro ⟨j, -, hj⟩; exact ((mem_rowSet s hs j i).1 hj).1
  · intro h; exact ⟨⟨(i 1).val, (i 1).isLt⟩, Finset.mem_univ _, (mem_rowSet s hs _ i).2 ⟨h, rfl⟩⟩

/-- A slot's rows are disjoint. -/
theorem rowSet_disjoint (s : ℕ) (hs : s < 2) : ∀ j ∈ (Finset.univ : Finset (Fin 64)), ∀ j' ∈ (Finset.univ : Finset (Fin 64)),
    j ≠ j' → Disjoint (rowSet s hs j) (rowSet s hs j') := by
  intro j _ j' _ hne
  rw [Finset.disjoint_left]
  intro i hi hi'
  exact hne (Fin.ext (((mem_rowSet s hs j i).1 hi).2.symm.trans ((mem_rowSet s hs j' i).1 hi').2))

/-- A slot held is its rows held. -/
theorem slot_rows (c : Dev nD) (s : ℕ) (hs : s < 2) (g : Buf (Elt F) (locG c)) :
    (locG c ↦[slotSet s hs]{fullShare} g : sProp 𝕄) = bigSep Finset.univ fun j : Fin 64 => locG c ↦[rowSet s hs j]{fullShare} g :=
  pointsTo_biUnion (ℓ := locG c) Finset.univ (fun j => rowSet s hs j) (rowSet_disjoint s hs)

/-- The buffer held is its two slots held. -/
theorem both_slots (c : Dev nD) (g : Buf (Elt F) (locG c)) :
    (locG c ↦{fullShare} g : sProp 𝕄) ⊣⊢ iprop((locG c ↦[slotSet 0 (by omega)]{fullShare} g) ∗ locG c ↦[slotSet 1 (by omega)]{fullShare} g) := by
  have hu : (Finset.univ : Finset S2x64x4096.Idx) = slotSet 0 (by omega) ∪ slotSet 1 (by omega) := by
    ext i
    rw [Finset.mem_union, mem_slotSet, mem_slotSet]
    have : (i 0).val < 2 := (i 0).isLt
    simp only [Finset.mem_univ, true_iff]; omega
  have hd : Disjoint (slotSet 0 (by omega)) (slotSet 1 (by omega)) := by
    rw [Finset.disjoint_left]; intro i h h'
    rw [mem_slotSet] at h h'; omega
  show (locG c ↦[(Finset.univ : Finset S2x64x4096.Idx)]{fullShare} g : sProp 𝕄) ⊣⊢ _
  rw [hu]
  exact pointsTo_union (ℓ := locG c) hd

/-- The two slots at different contents are the buffer at something. -/
theorem slots_join (c : Dev nD) (g g' : Buf (Elt F) (locG c)) :
    iprop((locG c ↦[slotSet 0 (by omega)]{fullShare} g) ∗ locG c ↦[slotSet 1 (by omega)]{fullShare} g') ⊢ (iprop(∃ f, locG c ↦{fullShare} f) : sProp 𝕄) := by
  have hu : (Finset.univ : Finset S2x64x4096.Idx) = slotSet 0 (by omega) ∪ slotSet 1 (by omega) := by
    ext i
    rw [Finset.mem_union, mem_slotSet, mem_slotSet]
    have : (i 0).val < 2 := (i 0).isLt
    simp only [Finset.mem_univ, true_iff]; omega
  have hd : Disjoint (slotSet 0 (by omega)) (slotSet 1 (by omega)) := by
    rw [Finset.disjoint_left]; intro i h h'
    rw [mem_slotSet] at h h'; omega
  iintro H
  ihave H' := (pointsTo_join (ℓ := locG c) hd) $$ H
  iexists _
  rw [show (locG c ↦{fullShare} _ : sProp 𝕄) = (locG c ↦[(Finset.univ : Finset S2x64x4096.Idx)]{fullShare} _) from rfl, hu]
  iexact H'

/-! ## The table's rows -/

/-- The elements of the table's row `r` (the row number taken within the table). -/
def tabSet (r : ℕ) : Finset S32000x4096.Idx := Finset.univ.filter fun i => (i 0).val = r % 32000

/-- Which elements of the table a row is. -/
theorem mem_tabSet (r : ℕ) (i : S32000x4096.Idx) : i ∈ tabSet r ↔ (i 0).val = r % 32000 := by
  unfold tabSet; simp

/-- A transfer starts at the row its token names. -/
theorem off1_eq (v : BitVec 32) : k1_off1 v = ![v.toNat, 0] := rfl

/-- The elements of the table a transfer reads. -/
theorem tableRow_set (v : BitVec 32) (hv : ∀ a, (k1_off1 v) a + S1x4096.size a ≤ S32000x4096.size a) :
    (tableRow (Memref.whole main_v4) v hv).view.set = tabSet v.toNat := by
  unfold tableRow
  refine ((View.set_reshape _ _).trans (View.set_slice_whole main_v4 _)).trans ?_
  have hlt : v.toNat < 32000 := by
    have h0 := hv 0
    simp [off1_eq, S1x4096, S32000x4096] at h0
    omega
  ext i
  rw [mem_tabSet, Nat.mod_eq_of_lt hlt]
  refine Rect.mem_set_unit.trans ?_
  constructor
  · intro h
    have h0 := h 0
    simp [off1_eq, S1x4096] at h0
    omega
  · intro h a
    have h1 : (i 1).val < 4096 := (i 1).isLt
    fin_cases a <;> simp [off1_eq, S1x4096] <;> omega

/-- The token at position `n` (the position taken within the list). -/
def tokAt (X : S32768.Idx → BitVec 32) (n : ℕ) : BitVec 32 :=
  X fun _ => ⟨n % 32768, by simp [S32768]; omega⟩

/-- The table's element at row `r` (taken within the table) and column `k`. -/
def tabIdx (r : ℕ) (k : Fin 4096) : S32000x4096.Idx := fun a =>
  match a with
  | ⟨0, _⟩ => ⟨r % 32000, Nat.mod_lt _ (by decide)⟩
  | ⟨1, _⟩ => k

/-- What a slot holds once the rows of the tokens from position `n` on have landed. -/
def landed {A : Type} (P : S32000x4096.Idx → A) (X : S32768.Idx → BitVec 32) (n : ℕ) : S2x64x4096.Idx → A :=
  fun i => P (tabIdx (tokAt X (n + (i 1).val)).toNat (i 2))

/-- Where an element of a row lies in the staging buffer. -/
theorem rowOf_emb (s : ℕ) (hs : s < 2) (j : ℕ) (hj : j < 64) (x : S4096.Idx) (a : Fin 3) :
    (((rowOf (Memref.whole cc1_scratch1) s hs j hj).view.emb x) a).val = (![s, j, (x 0).val] : Fin 3 → ℕ) a := by
  have h : (Shape.reshapeEquiv (s := S1x1x4096) (s' := S4096) squeezes_S1x1x4096_S4096.numel_eq x) =
      fun a => match a with | ⟨0, _⟩ => ⟨0, Nat.one_pos⟩ | ⟨1, _⟩ => ⟨0, Nat.one_pos⟩ | ⟨2, _⟩ => x 0 :=
    Shape.reshapeEquiv_eq_of_rowMajor _ (by
      rw [Shape.rowMajor_val_three, Shape.rowMajor_val_one]; show (0 * 1 + 0) * 4096 + (x 0).val = (x 0).val; omega)
  have e : ((rowOf (Memref.whole cc1_scratch1) s hs j hj).view.emb x) =
      (Rect.unit (s := S2x64x4096) ![s, j, 0] S1x1x4096.size (inbRow s hs j hj)).emb
        (Shape.reshapeEquiv (s := S1x1x4096) (s' := S4096) squeezes_S1x1x4096_S4096.numel_eq x) := rfl
  rw [e, h]
  fin_cases a
  · show s + 1 * 0 = s; omega
  · show j + 1 * 0 = j; omega
  · show 0 + 1 * (x 0).val = (x 0).val; omega

/-- Where an element of a row lies in the table. -/
theorem tableRow_emb (v : BitVec 32) (hv : ∀ a, (k1_off1 v) a + S1x4096.size a ≤ S32000x4096.size a) (x : S4096.Idx) :
    (tableRow (Memref.whole main_v4) v hv).view.emb x = tabIdx v.toNat (x 0) := by
  have hlt : v.toNat < 32000 := by
    have h0 := hv 0
    simp [off1_eq, S1x4096, S32000x4096] at h0
    omega
  have h : (Shape.reshapeEquiv (s := S1x4096) (s' := S4096) squeezes_S1x4096_S4096.numel_eq x) =
      fun a => match a with | ⟨0, _⟩ => ⟨0, Nat.one_pos⟩ | ⟨1, _⟩ => x 0 :=
    Shape.reshapeEquiv_eq_of_rowMajor _ (by
      rw [Shape.rowMajor_val_two, Shape.rowMajor_val_one]; show 0 * 4096 + (x 0).val = (x 0).val; omega)
  have e : ((tableRow (Memref.whole main_v4) v hv).view.emb x) =
      (Rect.unit (s := S32000x4096) (k1_off1 v) S1x4096.size hv).emb
        (Shape.reshapeEquiv (s := S1x4096) (s' := S4096) squeezes_S1x4096_S4096.numel_eq x) := rfl
  rw [e, h]
  funext a
  fin_cases a
  · refine Fin.ext ?_
    show v.toNat + 1 * 0 = v.toNat % 32000
    rw [Nat.mod_eq_of_lt hlt]; omega
  · refine Fin.ext ?_
    show 0 + 1 * (x 0).val = (x 0).val
    omega

/-- A row written with what the table's row reads is the slot's landed contents on that row. -/
theorem written_eq (c : Dev nD) (g : Buf (Elt F) (locG c)) (P : Buf (Elt F) (locP c)) (X : S32768.Idx → BitVec 32) (n₀ : ℕ)
    (s : ℕ) (hs : s < 2) (j : ℕ) (hj : j < 64)
    (hv : ∀ a, (k1_off1 (tokAt X (n₀ + j))) a + S1x4096.size a ≤ S32000x4096.size a) :
    ∀ i ∈ rowSet s hs ⟨j, hj⟩,
      (rowOf (Memref.whole cc1_scratch1) s hs j hj).view.write (Elt F) g
        (ReadAs.same.apply ((tableRow (Memref.whole main_v4) (tokAt X (n₀ + j)) hv).view.read (Elt F) P)) Finset.univ i
        = landed P X n₀ i := by
  intro i hi
  rw [← rowOf_set] at hi
  obtain ⟨x, -, rfl⟩ := Finset.mem_map.1 hi
  refine (View.write_emb_of_mem _ _ (Finset.mem_univ x)).trans ?_
  show P ((tableRow (Memref.whole main_v4) (tokAt X (n₀ + j)) hv).view.emb x) = _
  rw [tableRow_emb]
  have h1 : (((rowOf (Memref.whole cc1_scratch1) s hs j hj).view.emb x) (1 : Fin 3)).val = j := rowOf_emb s hs j hj x 1
  have h2 : ((rowOf (Memref.whole cc1_scratch1) s hs j hj).view.emb x) (2 : Fin 3) = x 0 := Fin.ext (rowOf_emb s hs j hj x 2)
  show _ = P (tabIdx (tokAt X (n₀ + (((rowOf (Memref.whole cc1_scratch1) s hs j hj).view.emb x) (1 : Fin 3)).val)).toNat
    (((rowOf (Memref.whole cc1_scratch1) s hs j hj).view.emb x) (2 : Fin 3)))
  rw [h1, h2]

/-! ## A slot's transfers -/

/-- The share of the table row `j` of slot `s` is read at. -/
def rowShare (s : ℕ) (j : Fin 64) : PosShare TreeShare :=
  Transfers.dealOf (if s = 0 then fullShare.left else fullShare.right) Finset.univ j

/-- What transfer `j` of a slot delivers: its row landed, the table's row back. -/
def deliv (c : Dev nD) (P : Buf (Elt F) (locP c)) (X : S32768.Idx → BitVec 32) (n₀ s : ℕ) (hs : s < 2) (j : Fin 64) : sProp 𝕄 :=
  iprop((locG c ↦[rowSet s hs j]{fullShare} landed P X n₀) ∗ (locP c ↦[tabSet (tokAt X (n₀ + j.val)).toNat]{rowShare s j} P))

/-- What a transfer delivers may be held by an invariant. -/
instance deliv_storable (c : Dev nD) (P : Buf (Elt F) (locP c)) (X : S32768.Idx → BitVec 32) (n₀ s : ℕ) (hs : s < 2) (j : Fin 64) :
    Storable (upEmb : UEmb _ 𝕄) (deliv c P X n₀ s hs j) := by
  unfold deliv; infer_instance

/-- What a transfer needs before its issue: its row at something, the table's row. -/
def needs (c : Dev nD) (g : Buf (Elt F) (locG c)) (P : Buf (Elt F) (locP c)) (X : S32768.Idx → BitVec 32) (n₀ s : ℕ) (hs : s < 2) (j : Fin 64) : sProp 𝕄 :=
  iprop((locG c ↦[rowSet s hs j]{fullShare} g) ∗ (locP c ↦[tabSet (tokAt X (n₀ + j.val)).toNat]{rowShare s j} P))

/-- One row's credit. -/
abbrev credit : ℕ := (rowOf (Memref.whole cc1_scratch1) 0 (by omega) 0 (by omega)).view.dmaCredit

/-- The cell of slot `s` as a semaphore. -/
abbrev slotSem (s : ℕ) (hs : s < 2) : SemLoc sig := .dma (cell cc1_scratch4 s hs)

/-- The 64 transfers of slot `s`, the first `k` issued and `u` units consumed. -/
abbrev batch (c : Dev nD) (P : Buf (Elt F) (locP c)) (X : S32768.Idx → BitVec 32) (n₀ s : ℕ) (hs : s < 2) (k u : ℕ) : sProp 𝕄 :=
  Transfers.Batch EC (c : Thread nD τ) (slotSem s hs) () credit (deliv c P X n₀ s hs) k u

section Issue
variable (c : Dev nD) (arg1 : Memref sig .tc .smem S32768 .i32) (f0 : Buf (Elt F) (arg1.view.loc (c : Thread nD τ)))
  (X : S32768.Idx → BitVec 32) (hX : arg1.view.read (Elt F) f0 = X) (hlt : ∀ i, (X i).toNat < 32000)
  (g : Buf (Elt F) (locG c)) (P : Buf (Elt F) (locP c))
include hX hlt

/-- One issue's rule. -/
theorem issue_rule (chk : BitVec 32 → Prop) (dec : ∀ v, Decidable (chk v))
    (hchk : ∀ v, chk v → ∀ a, (k1_off1 v) a + S1x4096.size a ≤ S32000x4096.size a)
    (hc : ∀ v : BitVec 32, v.toNat < 32000 → chk v)
    (n₀ n : ℕ) (hn : n < 32768) (s : ℕ) (hs : s < 2) (j : ℕ) (hj : j < 64) (hnj : n = n₀ + j) :
    iprop((arg1.view.loc (c : Thread nD τ) ↦{fullShare} f0) ∗ batch c P X n₀ s hs j 0
        ∗ bigSep (Transfers.pending j) (needs c g P X n₀ s hs))
      ⊢ runs c (issue arg1 (Memref.whole main_v4) (Memref.whole cc1_scratch1) cc1_scratch4 chk dec hchk n hn s hs j hj)
          fun _ => iprop((arg1.view.loc (c : Thread nD τ) ↦{fullShare} f0) ∗ batch c P X n₀ s hs (j + 1) 0
            ∗ bigSep (Transfers.pending (j + 1)) (needs c g P X n₀ s hs)) := by
  subst hnj
  have htok : ∀ y, (arg1.access (Rect.unit (s := S32768) ![n₀ + j] S1.size (inbTok (n₀ + j) hn))).read (Elt F) f0 y = tokAt X (n₀ + j) := by
    intro y
    subst hX
    show arg1.view.read (Elt F) f0 ((Rect.unit (s := S32768) ![n₀ + j] S1.size (inbTok (n₀ + j) hn)).emb y) = _
    unfold tokAt
    refine congrArg _ (funext fun a => Fin.ext ?_)
    have hy : (y 0).val = 0 := Nat.lt_one_iff.1 (y 0).isLt
    fin_cases a
    show n₀ + j + 1 * (y 0).val = (n₀ + j) % 32768
    rw [hy, Nat.mod_eq_of_lt hn]; omega
  rw [Transfers.bigSep_pending_step _ j hj]
  unfold issue runs
  iintro ⟨H1, HB, Hn, Hrest⟩
  rw [wp_bind]
  unfold smemLoad
  iapply (wp_smemLoadElt 𝒱₀ (c : Thread nD τ) none Set.univ (m := arg1) (r := Rect.unit (s := S32768) ![n₀ + j] S1.size (inbTok (n₀ + j) hn))
    (S := Finset.univ) (q := fullShare) (f := f0) (Finset.subset_univ _)) $$ H1
  iintro H1
  rw [htok, wp_ret]
  imodintro
  rw [wp_bind]
  have hck : chk (tokAt X (n₀ + j)) := hc _ (hlt _)
  iapply (wp_assume 𝒱₀ (c : Thread nD τ) none Set.univ hck)
  rw [wp_ret]
  imodintro
  unfold needs
  icases Hn with ⟨Hg, HP⟩
  iapply (Transfers.wp_dmaBatch EC 𝒱₀ (c : Thread nD τ) none (src := tableRow (Memref.whole main_v4) (tokAt X (n₀ + j)) (hchk _ hck))
    (dst := rowOf (Memref.whole cc1_scratch1) s hs j hj) () credit rfl (Sd := rowSet s hs ⟨j, hj⟩)
    (D := deliv c P X n₀ s hs) (j := j) (u := 0) (q := rowShare s ⟨j, hj⟩) (fs := P) (fd := g)
    (by rw [rowOf_set]; exact Finset.Subset.refl _) hj (Nat.zero_le _) (by
      unfold deliv
      exact sep_mono (Entails.of_eq (pointsTo_congr (ℓ := locG c) (written_eq c g P X n₀ s hs j hj _)))
        (Entails.of_eq (congrArg (fun S => (locP c ↦[S]{rowShare s ⟨j, hj⟩} P : sProp 𝕄)) (tableRow_set _ _))))) $$ [Hg HP HB]
  · isplitl [HP]
    · iapply (Entails.of_eq (congrArg (fun S => (locP c ↦[S]{rowShare s ⟨j, hj⟩} P : sProp 𝕄)) (tableRow_set _ (hchk _ hck)).symm)); iexact HP
    isplitl [Hg]; · iexact Hg
    iexact HB
  iintro HB
  rw [wp_ret]
  imodintro
  isplitl [H1]; · iexact H1
  isplitl [HB]; · iexact HB
  iexact Hrest

omit hX hlt in
/-- The whole table at the slot's share is its rows' shares, each cut at the row it reads. -/
theorem shares_split (n₀ s : ℕ) :
    (locP c ↦{if s = 0 then fullShare.left else fullShare.right} P : sProp 𝕄)
      = iprop((bigSep Finset.univ fun j : Fin 64 => locP c ↦[tabSet (tokAt X (n₀ + j.val)).toNat]{rowShare s j} P)
          ∗ bigSep Finset.univ fun j : Fin 64 => locP c ↦[Finset.univ \ tabSet (tokAt X (n₀ + j.val)).toNat]{rowShare s j} P) := by
  rw [Transfers.pointsTo_deal (Finset.univ : Finset (Fin 64)) ⟨0, Finset.mem_univ _⟩]
  refine Eq.trans (BI.bigSep_congr fun j _ => ?_) (BI.bigSep_sep Finset.univ _ _)
  exact BI.Entails.antisymm (pointsTo_split_subset (ℓ := locP c) (Finset.subset_univ _)).1
    (pointsTo_split_subset (ℓ := locP c) (Finset.subset_univ _)).2

omit hX hlt in
/-- The landed rows and the table's rows, apart. -/
theorem deliv_split (n₀ s : ℕ) (hs : s < 2) :
    bigSep Finset.univ (deliv c P X n₀ s hs)
      = iprop((locG c ↦[slotSet s hs]{fullShare} landed P X n₀)
          ∗ bigSep Finset.univ fun j : Fin 64 => locP c ↦[tabSet (tokAt X (n₀ + j.val)).toNat]{rowShare s j} P) := by
  rw [slot_rows]
  exact BI.bigSep_sep Finset.univ _ _

omit hX hlt in
/-- The rows at something and the table's rows, apart. -/
theorem needs_split (n₀ s : ℕ) (hs : s < 2) :
    bigSep Finset.univ (needs c g P X n₀ s hs)
      = iprop((locG c ↦[slotSet s hs]{fullShare} g)
          ∗ bigSep Finset.univ fun j : Fin 64 => locP c ↦[tabSet (tokAt X (n₀ + j.val)).toNat]{rowShare s j} P) := by
  rw [slot_rows]
  exact BI.bigSep_sep Finset.univ _ _

/-- A slot with its 64 transfers in flight: the batch, and what is left of the table's shares. -/
def busy (n₀ s : ℕ) (hs : s < 2) : sProp 𝕄 :=
  iprop(batch c P X n₀ s hs 64 0
    ∗ bigSep Finset.univ fun j : Fin 64 => locP c ↦[Finset.univ \ tabSet (tokAt X (n₀ + j.val)).toNat]{rowShare s j} P)

/-- A slot with nothing in flight: its cell at zero, its rows at given contents, the table at the slot's share. -/
def idleAt (s : ℕ) (hs : s < 2) : sProp 𝕄 :=
  iprop(semVal ((c : Thread nD τ), slotSem s hs) 0 ∗ (locG c ↦[slotSet s hs]{fullShare} g)
    ∗ (locP c ↦{if s = 0 then fullShare.left else fullShare.right} P))

/-- The 64 issues of a slot's rows. -/
theorem issues_rule (chk : BitVec 32 → Prop) (dec : ∀ v, Decidable (chk v))
    (hchk : ∀ v, chk v → ∀ a, (k1_off1 v) a + S1x4096.size a ≤ S32000x4096.size a)
    (hc : ∀ v : BitVec 32, v.toNat < 32000 → chk v)
    (n₀ : ℕ) (pos : ℕ → ℕ) (hpos : ∀ j, j < 64 → pos j < 32768) (hp : ∀ j, j < 64 → pos j = n₀ + j) (s : ℕ) (hs : s < 2) :
    iprop((arg1.view.loc (c : Thread nD τ) ↦{fullShare} f0) ∗ idleAt c g P s hs)
      ⊢ runs c (rep 64 (fun j hj => issue arg1 (Memref.whole main_v4) (Memref.whole cc1_scratch1) cc1_scratch4 chk dec hchk
            (pos j) (hpos j hj) s hs j hj) 64 (le_refl _))
          fun _ => iprop((arg1.view.loc (c : Thread nD τ) ↦{fullShare} f0) ∗ busy c X P n₀ s hs) := by
  unfold idleAt busy
  rw [shares_split c X P n₀ s]
  iintro ⟨H1, Hs, Hg, HP, Hr⟩
  iapply (fupd_wp frame _ Set.univ)
  imod (Transfers.batch_alloc' (Lvl := ℕ) EC (c : Thread nD τ) () credit (deliv c P X n₀ s hs) (sm := slotSem s hs) (E := Set.univ)) $$ Hs with HB
  imodintro
  have hI := rep_rule c 64 (fun j hj => issue arg1 (Memref.whole main_v4) (Memref.whole cc1_scratch1) cc1_scratch4 chk dec hchk
            (pos j) (hpos j hj) s hs j hj)
    (fun j => iprop((arg1.view.loc (c : Thread nD τ) ↦{fullShare} f0) ∗ batch c P X n₀ s hs j 0
        ∗ bigSep (Transfers.pending j) (needs c g P X n₀ s hs)))
    (fun j hj => issue_rule c arg1 f0 X hX hlt g P chk dec hchk hc n₀ (pos j) (hpos j hj) s hs j hj (hp j hj)) 64 (le_refl _)
  ihave Hw := hI $$ [H1 HB Hg HP]
  · rw [Nat.sub_self, Transfers.pending_zero]
    isplitl [H1]; · iexact H1
    isplitl [HB]; · iexact HB
    rw [needs_split]
    isplitl [Hg]; · iexact Hg
    iexact HP
  iapply (wp_wand frame _ Set.univ) $$ Hw
  iintro %_ ⟨H1, HB, -⟩
  isplitl [H1]; · iexact H1
  isplitl [HB]; · iexact HB
  iexact Hr

omit hX hlt in
/-- The 64 waits of a slot's rows. -/
theorem awaits_rule (n₀ s : ℕ) (hs : s < 2) :
    iprop(busy c X P n₀ s hs ∗ ∃ W, owes (c : Thread nD τ) (0 : CellTallies nD τ sig Unit) W)
      ⊢ runs c (rep 64 (fun j hj => await (Memref.whole main_v4) (Memref.whole cc1_scratch1) cc1_scratch4 s hs j hj) 64 (le_refl _))
          fun _ => iprop(idleAt c (landed P X n₀) P s hs ∗ ∃ W, owes (c : Thread nD τ) (0 : CellTallies nD τ sig Unit) W) := by
  have hcr : 0 < credit := View.dmaCredit_pos _ (by decide)
  have hI := rep_rule c 64 (fun j hj => await (F := F) (Memref.whole main_v4) (Memref.whole cc1_scratch1) cc1_scratch4 s hs j hj)
    (fun j => iprop((if j < 64 then batch c P X n₀ s hs 64 (j * credit)
        else iprop(bigSep Finset.univ (deliv c P X n₀ s hs) ∗ semVal ((c : Thread nD τ), slotSem s hs) 0))
      ∗ ∃ W, owes (c : Thread nD τ) (0 : CellTallies nD τ sig Unit) W))
    (fun j hj => by
      unfold await runs
      rw [if_pos hj]
      iintro ⟨HB, ⟨%W, HO⟩⟩
      by_cases hl : j + 1 < 64
      · rw [if_pos hl]
        iapply (Transfers.wp_waitBatch EC 𝒱₀ (c : Thread nD τ) none (dstw := rowOf (Memref.whole cc1_scratch1) s hs j hj) () (N := credit) (D := deliv c P X n₀ s hs) (u := j * credit) (W := W) rfl
          (by have h := Nat.mul_lt_mul_of_pos_right hl hcr; rw [Nat.succ_mul] at h; rw [Nat.mul_comm credit 64]; exact h)) $$ [HB HO]
        · isplitl [HB] <;> iassumption
        iintro ⟨HB, HO⟩
        rw [wp_ret]
        imodintro
        rw [Nat.succ_mul]
        isplitl [HB]; · iexact HB
        iexists _; iexact HO
      · rw [if_neg hl]
        have hj63 : j = 63 := by omega
        subst hj63
        iapply (Transfers.wp_waitBatchLast EC 𝒱₀ (c : Thread nD τ) none (dstw := rowOf (Memref.whole cc1_scratch1) s hs 63 hj) () (N := credit) (D := deliv c P X n₀ s hs) (u := 63 * credit) (W := W) rfl
          hcr (by omega)) $$ [HB HO]
        · isplitl [HB] <;> iassumption
        iintro ⟨HD, Hs, HO⟩
        rw [wp_ret]
        imodintro
        isplitl [HD Hs]
        · isplitl [HD] <;> iassumption
        iexists _; iexact HO) 64 (le_refl _)
  unfold busy idleAt
  rw [shares_split c X P n₀ s]
  iintro ⟨⟨HB, Hr⟩, HO⟩
  ihave Hw := hI $$ [HB HO]
  · rw [Nat.sub_self, if_pos (by decide), Nat.zero_mul]
    isplitl [HB] <;> iassumption
  iapply (wp_wand frame _ Set.univ) $$ Hw
  iintro %_ ⟨HD, HO⟩
  icases ((Entails.of_eq (if_neg (by decide))) : _ ⊢ iprop(bigSep Finset.univ (deliv c P X n₀ s hs) ∗ semVal ((c : Thread nD τ), slotSem s hs) 0)) $$ HD with ⟨HD, Hs⟩
  icases (Entails.of_eq (deliv_split c X P n₀ s hs)) $$ HD with ⟨Hg, HP⟩
  isplitr [HO]
  · isplitl [Hs]; · iexact Hs
    isplitl [Hg]; · iexact Hg
    isplitl [HP] <;> iassumption
  iexact HO
end Issue

end Cert.Kernel.Own
-- ==== Proof.Scan.lean ====
module

public import proofs.«01_k».proof.Proof.Rows

@[expose] public section

/-!
The phases of the scan kernel's body, and the body at each point of the grid: the rows of a point
awaited, one step of the recurrence on them, the next point's rows sent ahead.
-/

set_option maxRecDepth 16384

noncomputable section

namespace Cert.Kernel.Own

open Idealize.ShloMosaic Idealize.ShloMosaic.TcCoe Idealize.ShloMosaic.Tactic
open Idealize.SL Idealize.SL.RA Idealize.ShloMosaic.Rounds
open Idealize.SL.BI (sProp bigSep Storable)
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ UU ℕ

/-! ## The recurrence -/

/-- The cleared state. -/
def clear : Vec F S64x1024 .f32 :=
  shapeCast S64x1024 (broadcast S64x1024 (Scalar.ofBits .f32 0x00000000#32 : F .f32)) shapeCasts_S64x1024_S64x1024

/-- The rows of the tokens from position `n` on, as the step reads them. -/
def rows (P : S32000x4096.Idx → Elt F .f32) (X : S32768.Idx → BitVec 32) (n : ℕ) : Vec F S1x64x4096 .f32 :=
  fun y => P (tabIdx (tokAt X (n + (y 1).val)).toNat (y 2))

/-- The hidden state and the cell state after `t` steps. -/
def states (P : S32000x4096.Idx → Elt F .f32) (X : S32768.Idx → BitVec 32) (V : Vec F S1024x4096 .f32) :
    ℕ → Vec F S64x1024 .f32 × Vec F S64x1024 .f32
  | 0 => (clear, clear)
  | t + 1 =>
    let s := states P X V t
    let z := gates (rows P X (64 * t)) s.1 V
    (shapeCast S64x1024 (nextH z s.2) shapeCasts_S64x1024_S64x1024, shapeCast S64x1024 (nextC z s.2) shapeCasts_S64x1024_S64x1024)

/-- The hidden state the step at `t` returns. -/
def hidden (P : S32000x4096.Idx → Elt F .f32) (X : S32768.Idx → BitVec 32) (V : Vec F S1024x4096 .f32) (t : ℕ) : FVec F S64x1024 .f32 :=
  nextH (gates (rows P X (64 * t)) (states P X V t).1 V) (states P X V t).2

/-! ## Accesses of whole buffers -/

/-- Core `c`'s buffer `b` held whole at `f`. -/
abbrev holds (c : Dev nD) (b : Ref sig .tc) (f : Buf (Elt F) ((c : Thread nD τ).loc b)) : sProp 𝕄 :=
  ((c : Thread nD τ).loc b) ↦{fullShare} f

/-- The zero offsets. -/
theorem zero2 : (![0, 0] : Fin 2 → ℕ) = fun _ => 0 := by funext a; fin_cases a <;> rfl

/-- The offsets of the step's row block. -/
theorem off386_pt : ∀ n : Fin 512, k1_off386 (pt n) 0 = n.val % 2 ∧ k1_off386 (pt n) 1 = 0 ∧ k1_off386 (pt n) 2 = 0 := by decide +kernel

/-- The offsets of the step's row block, at any point. -/
theorem off386_eq (i : grid1.Coords) : k1_off386 i 0 = slotNow i ∧ k1_off386 i 1 = 0 ∧ k1_off386 i 2 = 0 := by
  have h := off386_pt ⟨(i 0).val, (i 0).isLt⟩
  rw [pt_zero] at h
  rw [slotNow_eq]; exact h

/-- The step's row block lies inside the current slot. -/
theorem block_sub (i : grid1.Coords) :
    ((Memref.whole cc1_scratch1 : Memref sig .tc _ _ _).access (Rect.unit (s := S2x64x4096) (k1_off386 i) S1x64x4096.size (k1_off386_inb i))).set
      ⊆ slotSet (slotNow i) (slotNow_lt i) := by
  refine (Finset.Subset.antisymm_iff.1 (View.set_slice_whole cc1_scratch1 _)).1.trans fun x hx => ?_
  rw [mem_slotSet]
  have h := (Rect.mem_set_unit.1 hx) 0
  rw [(off386_eq i).1] at h
  simp [S1x64x4096] at h
  omega

/-- What the step reads of a slot whose rows have landed. -/
theorem block_read (c : Dev nD) (i : grid1.Coords) (P : Buf (Elt F) (locP c)) (X : S32768.Idx → BitVec 32) (n : ℕ) :
    ((Memref.whole cc1_scratch1 : Memref sig .tc _ _ _).access (Rect.unit (s := S2x64x4096) (k1_off386 i) S1x64x4096.size (k1_off386_inb i))).read (Elt F)
      (landed P X n) = rows P X n := by
  funext y
  show landed P X n ((Rect.unit (s := S2x64x4096) (k1_off386 i) S1x64x4096.size (k1_off386_inb i)).emb y) = _
  unfold landed rows
  have h1 : (((Rect.unit (s := S2x64x4096) (k1_off386 i) S1x64x4096.size (k1_off386_inb i)).emb y) (1 : Fin 3)).val = (y 1).val := by
    show k1_off386 i 1 + 1 * (y 1).val = _
    rw [(off386_eq i).2.1]; omega
  have h2 : ((Rect.unit (s := S2x64x4096) (k1_off386 i) S1x64x4096.size (k1_off386_inb i)).emb y) (2 : Fin 3) = y 2 := Fin.ext (by
    show k1_off386 i 2 + 1 * (y 2).val = _
    rw [(off386_eq i).2.2]; omega)
  rw [h1, h2]

section Phases
variable (c : Dev nD)

/-- A program followed by another. -/
theorem bind_rule {α β : Type} {p : Prog (TpuEff nD τ sig (Elt F) Λ₀ .tc) α} {k : α → Prog (TpuEff nD τ sig (Elt F) Λ₀ .tc) β} {Q : β → sProp 𝕄} :
    runs c p (fun a => runs c (k a) Q) ⊢ runs c (p.bind k) Q :=
  Entails.of_eq (wp_bind frame _ Set.univ p k Q).symm

/-- A load of a whole buffer at zero offsets. -/
theorem load_full {cs : CoreSpace} {j : Fin (sig.nNear Kind.tc cs)} {hκ : sig.names Kind.tc cs j = true}
    {off : Fin (Ref.ty (⟨cs, j, hκ⟩ : Ref sig .tc)).shape.rank → ℕ} (h : off = fun _ => 0)
    {inb : ∀ a, off a + (Ref.ty (⟨cs, j, hκ⟩ : Ref sig .tc)).shape.size a ≤ (Ref.ty (⟨cs, j, hκ⟩ : Ref sig .tc)).shape.size a} {α : Type}
    {hl : (Memref.whole ⟨cs, j, hκ⟩ : Memref sig .tc _ _ _).view.LoadsAt (Rect.unit off (Ref.ty (⟨cs, j, hκ⟩ : Ref sig .tc)).shape.size inb).toLoadRect}
    {Q : α → sProp 𝕄} {k : (Ref.ty (⟨cs, j, hκ⟩ : Ref sig .tc)).Contents (Elt F) → Prog (TpuEff nD τ sig (Elt F) Λ₀ .tc) α}
    {f : Buf (Elt F) ((c : Thread nD τ).loc ⟨cs, j, hκ⟩)} :
    holds c ⟨cs, j, hκ⟩ f ⊢ iprop((holds c ⟨cs, j, hκ⟩ f -∗ runs c (k f) Q)
      -∗ runs c (.op (.load (Memref.whole ⟨cs, j, hκ⟩) (Rect.unit off (Ref.ty (⟨cs, j, hκ⟩ : Ref sig .tc)).shape.size inb).toLoadRect hl) k) Q) := by
  have := wp_load_rect (defs := defs₀ (F := F)) 𝒱₀ (c : Thread nD τ) none (Γ := .empty) Set.univ (Q := Q) (m := Memref.whole ⟨cs, j, hκ⟩)
    (r := Rect.unit off (Ref.ty (⟨cs, j, hκ⟩ : Ref sig .tc)).shape.size inb) (hl := hl) (k := k) (q := fullShare) (f := f) (S := Finset.univ) (Finset.subset_univ _)
  rwa [Memref.read_access_unit_zero (Elt F) ⟨cs, j, hκ⟩ h] at this

/-- A store of a whole buffer at zero offsets. -/
theorem store_full {cs : CoreSpace} {j : Fin (sig.nNear Kind.tc cs)} {hκ : sig.names Kind.tc cs j = true}
    {off : Fin (Ref.ty (⟨cs, j, hκ⟩ : Ref sig .tc)).shape.rank → ℕ} (h : off = fun _ => 0)
    {inb : ∀ a, off a + (Ref.ty (⟨cs, j, hκ⟩ : Ref sig .tc)).shape.size a ≤ (Ref.ty (⟨cs, j, hκ⟩ : Ref sig .tc)).shape.size a} {α : Type}
    {w : (Ref.ty (⟨cs, j, hκ⟩ : Ref sig .tc)).Contents (Elt F)}
    {hx : ((Memref.whole ⟨cs, j, hκ⟩ : Memref sig .tc _ _ _).access (Rect.unit off (Ref.ty (⟨cs, j, hκ⟩ : Ref sig .tc)).shape.size inb)).Stores Finset.univ} {hm}
    {Q : α → sProp 𝕄} {k : PUnit → Prog (TpuEff nD τ sig (Elt F) Λ₀ .tc) α} {f : Buf (Elt F) ((c : Thread nD τ).loc ⟨cs, j, hκ⟩)} :
    holds c ⟨cs, j, hκ⟩ f ⊢ iprop((holds c ⟨cs, j, hκ⟩ w -∗ runs c (k ⟨⟩) Q)
      -∗ runs c (.op (.store (Memref.whole ⟨cs, j, hκ⟩) (Rect.unit off (Ref.ty (⟨cs, j, hκ⟩ : Ref sig .tc)).shape.size inb) w Finset.univ hx hm) k) Q) := by
  have := wp_store (defs := defs₀ (F := F)) 𝒱₀ (c : Thread nD τ) none (Γ := .empty) Set.univ (Q := Q) (m := Memref.whole ⟨cs, j, hκ⟩)
    (r := Rect.unit off (Ref.ty (⟨cs, j, hκ⟩ : Ref sig .tc)).shape.size inb) (w := w) (hx := hx) (hm := hm) (k := k) (f := f) (S := Finset.univ) (Finset.subset_univ _)
  rwa [Memref.write_access_unit_zero_univ (Elt F) ⟨cs, j, hκ⟩ h] at this

/-- One step of the recurrence on the rows that landed in the point's slot. -/
theorem step_rule (i : grid1.Coords) (P : Buf (Elt F) (locP c)) (X : S32768.Idx → BitVec 32) (V : Vec F S1024x4096 .f32) (t : ℕ) (n : ℕ) (hn : n = 64 * t) :
    iprop((locG c ↦[slotSet (slotNow i) (slotNow_lt i)]{fullShare} landed P X n) ∗ holds c cc1_scratch0 V
        ∗ holds c cc1_scratch2 (states P X V t).1 ∗ holds c cc1_scratch3 (states P X V t).2)
      ⊢ runs c (step i (Memref.whole cc1_scratch0) (Memref.whole cc1_scratch1) (Memref.whole cc1_scratch2) (Memref.whole cc1_scratch3))
          fun h => iprop(⌜h = hidden P X V t⌝ ∗ (locG c ↦[slotSet (slotNow i) (slotNow_lt i)]{fullShare} landed P X n) ∗ holds c cc1_scratch0 V
            ∗ holds c cc1_scratch2 (states P X V (t + 1)).1 ∗ holds c cc1_scratch3 (states P X V (t + 1)).2) := by
  subst hn
  unfold step
  iintro ⟨Hg, H7, H9, H10⟩
  iapply (wp_load_rect 𝒱₀ (c : Thread nD τ) none Set.univ (m := (Memref.whole cc1_scratch1 : Memref sig .tc _ _ _))
    (r := Rect.unit (s := S2x64x4096) (k1_off386 i) S1x64x4096.size (k1_off386_inb i)) (block_sub i)) $$ Hg
  iintro Hg
  rw [block_read]
  iapply (load_full c zero2) $$ H9
  iintro H9
  iapply (load_full c zero2) $$ H7
  iintro H7
  iapply (load_full c zero2) $$ H10
  iintro H10
  iapply (load_full c zero2) $$ H10
  iintro H10
  iapply (store_full c zero2) $$ H10
  iintro H10
  iapply (load_full c zero2) $$ H9
  iintro H9
  iapply (store_full c zero2) $$ H9
  iintro H9
  iapply (le_wp_ret _ _)
  isplitr; · ipureintro; rfl
  isplitl [Hg]; · iexact Hg
  isplitl [H7]; · iexact H7
  isplitl [H9]; · iexact H9
  iexact H10

/-- The last layer, left in the result's block. -/
theorem last_rule (h : FVec F S64x1024 .f32) (w : Vec F S1024x128 .f32) (b : Vec F S1x128 .f32) (o : Vec F S64x128 .f32) :
    iprop(holds c cc1_stg1_0 w ∗ holds c cc1_stg2_0 b ∗ holds c cc1_stg3_0 o)
      ⊢ runs c (last (Memref.whole cc1_stg1_0) (Memref.whole cc1_stg2_0) (Memref.whole cc1_stg3_0) h)
          fun _ => iprop(holds c cc1_stg1_0 w ∗ holds c cc1_stg2_0 b ∗ holds c cc1_stg3_0 (dense h w b)) := by
  unfold last
  iintro ⟨H4, H5, H6⟩
  iapply (load_full c zero2) $$ H4
  iintro H4
  iapply (load_full c zero2) $$ H5
  iintro H5
  iapply (load_full c zero2) $$ H6
  iintro H6
  iapply (store_full c zero2) $$ H6
  iintro H6
  iapply (le_wp_ret _ _)
  isplitl [H4]; · iexact H4
  isplitl [H5]; · iexact H5
  iexact H6

/-- What the first point does before its step. -/
theorem first_rule (i : grid1.Coords) (h1 : k1_cond1 i = 1#1) (X : S32768.Idx → BitVec 32) (hlt : ∀ a, (X a).toNat < 32000)
    (g : Buf (Elt F) (locG c)) (P : Buf (Elt F) (locP c)) (V : Vec F S1024x4096 .f32)
    (f7 : Buf (Elt F) ((c : Thread nD τ).loc cc1_scratch0)) (f9 : Buf (Elt F) ((c : Thread nD τ).loc cc1_scratch2)) (f10 : Buf (Elt F) ((c : Thread nD τ).loc cc1_scratch3)) :
    iprop(holds c cc1_stg0_0 X ∗ idleAt c g P 0 (by omega) ∗ semVal ((c : Thread nD τ), (.dma cc1_scratch5.sem : SemLoc sig)) 0
        ∗ holds c main_v3 V ∗ holds c cc1_scratch0 f7 ∗ holds c cc1_scratch2 f9 ∗ holds c cc1_scratch3 f10
        ∗ ∃ W, owes (c : Thread nD τ) (0 : CellTallies nD τ sig Unit) W)
      ⊢ runs c (first i (Memref.whole cc1_stg0_0) (Memref.whole main_v4) (Memref.whole main_v3) (Memref.isWhole_whole _)
          (Memref.whole cc1_scratch0) (Memref.isWhole_whole _) (Memref.whole cc1_scratch1) (Memref.whole cc1_scratch2) (Memref.whole cc1_scratch3)
          cc1_scratch4 cc1_scratch5 h1)
          fun _ => iprop(holds c cc1_stg0_0 X ∗ busy c X P 0 0 (by omega) ∗ semVal ((c : Thread nD τ), (.dma cc1_scratch5.sem : SemLoc sig)) 0
            ∗ holds c main_v3 V ∗ holds c cc1_scratch0 V ∗ holds c cc1_scratch2 clear ∗ holds c cc1_scratch3 clear
            ∗ ∃ W, owes (c : Thread nD τ) (0 : CellTallies nD τ sig Unit) W) := by
  unfold first
  iintro ⟨H1, Hi, Hs, H3, H7, H9, H10, ⟨%W, HO⟩⟩
  unfold runs
  rw [wp_bind]
  iapply (Transfers.wp_dmaLocal EC 𝒱₀ (c : Thread nD τ) none (src := Memref.whole main_v3) (dst := Memref.whole cc1_scratch0)
    (via := ReadAs.same) (sm := .dma cc1_scratch5.sem) (q := fullShare) (fs := V) (fd := f7) (Sd := Finset.univ) () (View.dmaCredit (Memref.whole cc1_scratch0 : Memref sig .tc _ _ _).view) rfl
    (View.dmaCredit_pos _ (by decide)) (Finset.subset_univ _)) $$ [H3 H7 Hs]
  · isplitl [H3]; · iapply (Entails.of_eq (congrArg (fun S => (((c : Thread nD τ).loc main_v3) ↦[S]{fullShare} V : sProp 𝕄)) (View.set_whole main_v3).symm)); iexact H3
    isplitl [H7] <;> iassumption
  iintro Hf
  rw [wp_ret]
  imodintro
  rw [wp_bind]
  iapply (wp_wand frame _ Set.univ) $$ [H1 Hi]
  · iapply (issues_rule c (Memref.whole cc1_stg0_0) X X rfl hlt g P (k1_chk1 i) (k1_chk1.dec i) (fun v hv => k1_off1_inb i v hv h1)
      (fun v hv _ => by rw [off1_eq]; intro a; fin_cases a <;> simp [S1x4096, S32000x4096] <;> omega) 0 (fun j => j) (fun j hj => by omega) (fun j hj => by omega) 0 (by omega)) $$ [H1 Hi]
    isplitl [H1] <;> iassumption
  iintro %_ ⟨H1, Hb⟩
  iapply (Transfers.wp_waitLocal EC 𝒱₀ (c : Thread nD τ) none (dstw := Memref.whole cc1_scratch0) (sem := cc1_scratch5.sem) () rfl) $$ [Hf HO]
  · isplitl [Hf] <;> iassumption
  iintro ⟨⟨H7, H3⟩, Hs, HO⟩
  iapply (load_full c zero2) $$ H9
  iintro H9
  iapply (store_full c zero2) $$ H9
  iintro H9
  iapply (load_full c zero2) $$ H10
  iintro H10
  iapply (store_full c zero2) $$ H10
  iintro H10
  iapply (le_wp_ret _ _)
  isplitl [H1]; · iexact H1
  isplitl [Hb]; · iexact Hb
  isplitl [Hs]; · iexact Hs
  isplitl [H3]; · iapply (Entails.of_eq (congrArg (fun S => (((c : Thread nD τ).loc main_v3) ↦[S]{fullShare} V : sProp 𝕄)) (View.set_whole main_v3))); iexact H3
  isplitl [H7]
  · iapply (Entails.of_eq (congrArg (fun f => (holds c cc1_scratch0 f : sProp 𝕄)) (View.write_whole_univ (Val := Elt F) cc1_scratch0 f7 V))); iexact H7
  isplitl [H9]; · iexact H9
  isplitl [H10]; · iexact H10
  iexists _; iexact HO

/-! ## A point -/

omit [FloatOps F] in
theorem busy_congr (X : S32768.Idx → BitVec 32) (P : Buf (Elt F) (locP c)) {n n' s s' : ℕ} (hs : s < 2) (hs' : s' < 2) (hn : n = n') (h : s = s') :
    busy c X P n s hs = busy c X P n' s' hs' := by
  subst hn; subst h; rfl

omit [FloatOps F] in
theorem idleAt_congr (g : Buf (Elt F) (locG c)) (P : Buf (Elt F) (locP c)) {s s' : ℕ} (hs : s < 2) (hs' : s' < 2) (h : s = s') :
    idleAt c g P s hs = idleAt c g P s' hs' := by
  subst h; rfl

omit [FloatOps F] in
theorem slot_congr (g : Buf (Elt F) (locG c)) {s s' : ℕ} (hs : s < 2) (hs' : s' < 2) (h : s = s') :
    (locG c ↦[slotSet s hs]{fullShare} g : sProp 𝕄) = (locG c ↦[slotSet s' hs']{fullShare} g) := by
  subst h; rfl

variable (P : Buf (Elt F) (locP c)) (X : S32768.Idx → BitVec 32) (V : Vec F S1024x4096 .f32)

/-- The weights' cell, at zero between points. -/
abbrev wcell : sProp 𝕄 := semVal ((c : Thread nD τ), (.dma cc1_scratch5.sem : SemLoc sig)) 0

/-- The slot of an even or odd position is one of the two. -/
theorem par_lt (k : ℕ) : k % 2 < 2 := Nat.mod_lt _ (by decide)

/-- What the body holds before its first point: nothing in flight, the scratch at anything. -/
def idle2 : sProp 𝕄 :=
  iprop((∃ f, holds c cc1_scratch0 f) ∗ (∃ f, holds c cc1_scratch2 f) ∗ (∃ f, holds c cc1_scratch3 f)
    ∗ (∃ g, idleAt c g P 0 (by omega)) ∗ (∃ g, idleAt c g P 1 (by omega)))

/-- What the body holds before point `k` once it has cleared the state: the weights, the state after `k` steps,
    the point's rows on their way, the other slot idle. -/
def flying (k : ℕ) : sProp 𝕄 :=
  iprop(holds c cc1_scratch0 V ∗ holds c cc1_scratch2 (states P X V k).1 ∗ holds c cc1_scratch3 (states P X V k).2
    ∗ busy c X P (64 * k) (k % 2) (par_lt k) ∗ (∃ g, idleAt c g P ((k + 1) % 2) (par_lt _)))

/-- The body's invariant before point `k`. -/
def carry (k : ℕ) : sProp 𝕄 :=
  iprop(wcell c ∗ holds c main_v3 V ∗ if k = 0 ∨ k = 512 then idle2 c P else flying c P X V k)

/-- The result's block after point `k`. -/
def blockAfter (k : ℕ) (w : Vec F S1024x128 .f32) (b : Vec F S1x128 .f32) (o : Vec F S64x128 .f32) : Vec F S64x128 .f32 :=
  if k = 511 then dense (hidden P X V k) w b else o

/-- Two slots idle, whichever comes first. -/
theorem two_idle (k : ℕ) (g g' : Buf (Elt F) (locG c)) :
    iprop(idleAt c g P (k % 2) (par_lt k) ∗ idleAt c g' P ((k + 1) % 2) (par_lt _))
      ⊢ (iprop((∃ g, idleAt c g P 0 (by omega)) ∗ (∃ g, idleAt c g P 1 (by omega))) : sProp 𝕄) := by
  rcases Nat.mod_two_eq_zero_or_one k with h | h
  · rw [idleAt_congr c g P (par_lt k) (by omega) h, idleAt_congr c g' P (par_lt _) (by omega) (show (k + 1) % 2 = 1 by omega)]
    iintro ⟨H, H'⟩
    isplitl [H]; · iexists _; iexact H
    iexists _; iexact H'
  · rw [idleAt_congr c g P (par_lt k) (by omega) h, idleAt_congr c g' P (par_lt _) (by omega) (show (k + 1) % 2 = 0 by omega)]
    iintro ⟨H, H'⟩
    isplitl [H']; · iexists _; iexact H'
    iexists _; iexact H

/-- The start of a point: at the first the weights and the first rows are sent for, at the others nothing. -/
theorem enter_rule (hlt : ∀ a, (X a).toNat < 32000) (i : grid1.Coords) :
    iprop(carry c P X V (i 0).val ∗ holds c cc1_stg0_0 X ∗ ∃ W, owes (c : Thread nD τ) (0 : CellTallies nD τ sig Unit) W)
      ⊢ runs c (if h1 : k1_cond1 i = 1#1 then first i (Memref.whole cc1_stg0_0) (Memref.whole main_v4) (Memref.whole main_v3) (Memref.isWhole_whole _)
          (Memref.whole cc1_scratch0) (Memref.isWhole_whole _) (Memref.whole cc1_scratch1) (Memref.whole cc1_scratch2) (Memref.whole cc1_scratch3)
          cc1_scratch4 cc1_scratch5 h1 else .ret ⟨⟩)
          fun _ => iprop(wcell c ∗ holds c main_v3 V ∗ flying c P X V (i 0).val ∗ holds c cc1_stg0_0 X
            ∗ ∃ W, owes (c : Thread nD τ) (0 : CellTallies nD τ sig Unit) W) := by
  have h512 : (i 0).val < 512 := (i 0).isLt
  by_cases h1 : k1_cond1 i = 1#1
  · have h0 : (i 0).val = 0 := (cond1_iff i).1 h1
    rw [dif_pos h1, h0]
    unfold carry idle2 flying
    rw [if_pos (.inl rfl), busy_congr c X P (par_lt 0) (s' := 0) (by omega) (Nat.mul_zero 64) rfl]
    iintro ⟨⟨Hs, H3, ⟨%f7, H7⟩, ⟨%f9, H9⟩, ⟨%f10, H10⟩, ⟨%g, Hi⟩, ⟨%g', Hi'⟩⟩, H1, HO⟩
    iapply (wp_wand frame _ Set.univ) $$ [Hs H3 H7 H9 H10 Hi H1 HO]
    · iapply (first_rule c i h1 X hlt g P V f7 f9 f10)
      isplitl [H1]; · iexact H1
      isplitl [Hi]; · iexact Hi
      isplitl [Hs]; · iexact Hs
      isplitl [H3]; · iexact H3
      isplitl [H7]; · iexact H7
      isplitl [H9]; · iexact H9
      isplitl [H10]; · iexact H10
      iexact HO
    iintro %_ ⟨H1, Hb, Hs, H3, H7, H9, H10, HO⟩
    isplitl [Hs]; · iexact Hs
    isplitl [H3]; · iexact H3
    isplitr [H1 HO]
    · isplitl [H7]; · iexact H7
      isplitl [H9]; · iexact H9
      isplitl [H10]; · iexact H10
      isplitl [Hb]; · iexact Hb
      iexists g'; iexact Hi'
    isplitl [H1] <;> iassumption
  · have h0 : (i 0).val ≠ 0 := fun h => h1 ((cond1_iff i).2 h)
    rw [dif_neg h1]
    unfold carry
    rw [if_neg (by omega)]
    iintro ⟨⟨Hs, H3, Hf⟩, H1, HO⟩
    iapply (le_wp_ret _ _)
    isplitl [Hs]; · iexact Hs
    isplitl [H3]; · iexact H3
    isplitl [Hf]; · iexact Hf
    isplitl [H1] <;> iassumption

/-- The other slot after the point's sends: the next point's rows on their way, at the last point idle. -/
def other (k : ℕ) : sProp 𝕄 :=
  if k < 511 then busy c X P (64 * (k + 1)) ((k + 1) % 2) (par_lt _) else iprop(∃ g, idleAt c g P ((k + 1) % 2) (par_lt _))

/-- The next point's rows sent for, except at the last point. -/
theorem ahead_rule (hlt : ∀ a, (X a).toNat < 32000) (i : grid1.Coords) :
    iprop((∃ g, idleAt c g P (((i 0).val + 1) % 2) (par_lt _)) ∗ holds c cc1_stg0_0 X)
      ⊢ runs c (if h2 : k1_cond2 i = 1#1 then ahead i (Memref.whole cc1_stg0_0) (Memref.whole main_v4) (Memref.whole cc1_scratch1) cc1_scratch4 h2 else .ret ⟨⟩)
          fun _ => iprop(other c P X (i 0).val ∗ holds c cc1_stg0_0 X) := by
  unfold other
  by_cases h2 : k1_cond2 i = 1#1
  · rw [dif_pos h2, if_pos ((cond2_iff i).1 h2)]
    unfold ahead
    iintro ⟨⟨%g, Hi⟩, H1⟩
    rw [busy_congr c X P (par_lt _) (slotNext_lt i h2) rfl (slotNext_eq i).symm]
    ihave Hi := (Entails.of_eq (idleAt_congr c g P (par_lt _) (slotNext_lt i h2) (slotNext_eq i).symm)) $$ Hi
    iapply (wp_wand frame _ Set.univ) $$ [H1 Hi]
    · iapply (issues_rule c (Memref.whole cc1_stg0_0) X X rfl hlt g P (k1_chk65 i) (k1_chk65.dec i) (fun v hv => k1_off68_inb i v hv h2)
        (fun v hv _ => by rw [show k1_off68 v = ![v.toNat, 0] from rfl]; intro a; fin_cases a <;> simp [S1x4096, S32000x4096] <;> omega)
        (64 * ((i 0).val + 1)) (fun j => tokNext i j) (fun j hj => tokNext_lt i h2 j hj)
        (fun j hj => by rw [tokNext_eq i h2 j hj]; omega) (slotNext i) (slotNext_lt i h2)) $$ [H1 Hi]
      isplitl [H1] <;> iassumption
    iintro %_ ⟨H1, Hb⟩
    isplitl [Hb] <;> iassumption
  · rw [dif_neg h2, if_neg (fun h => h2 ((cond2_iff i).2 h))]
    iintro ⟨Hi, H1⟩
    iapply (le_wp_ret _ _)
    isplitl [Hi] <;> iassumption

/-- The last point's last layer, at the others nothing. -/
theorem leave_rule (i : grid1.Coords) (h : FVec F S64x1024 .f32) (hh : h = hidden P X V (i 0).val)
    (w : Vec F S1024x128 .f32) (b : Vec F S1x128 .f32) (o : Vec F S64x128 .f32) :
    iprop(holds c cc1_stg1_0 w ∗ holds c cc1_stg2_0 b ∗ holds c cc1_stg3_0 o)
      ⊢ runs c (if _h3 : k1_cond3 i = 1#1 then last (Memref.whole cc1_stg1_0) (Memref.whole cc1_stg2_0) (Memref.whole cc1_stg3_0) h else .ret ⟨⟩)
          fun _ => iprop(holds c cc1_stg1_0 w ∗ holds c cc1_stg2_0 b ∗ holds c cc1_stg3_0 (blockAfter c P X V (i 0).val w b o)) := by
  subst hh
  unfold blockAfter
  by_cases h3 : k1_cond3 i = 1#1
  · rw [dif_pos h3, if_pos ((cond3_iff i).1 h3)]
    exact last_rule c _ w b o
  · rw [dif_neg h3, if_neg (fun h => h3 ((cond3_iff i).2 h))]
    iintro H
    iapply (le_wp_ret _ _)
    iexact H

/-- The point's slot idle again and the other as the sends left it: the invariant before the next point. -/
theorem settle (k : ℕ) (hk : k < 512) (g : Buf (Elt F) (locG c)) :
    iprop(holds c cc1_scratch0 V ∗ holds c cc1_scratch2 (states P X V (k + 1)).1 ∗ holds c cc1_scratch3 (states P X V (k + 1)).2
        ∗ other c P X k ∗ idleAt c g P (k % 2) (par_lt _))
      ⊢ (if k + 1 = 0 ∨ k + 1 = 512 then idle2 c P else flying c P X V (k + 1) : sProp 𝕄) := by
  unfold other
  by_cases hl : k < 511
  · rw [if_pos hl, if_neg (by omega)]
    unfold flying
    rw [idleAt_congr c g P (par_lt _) (par_lt _) (show k % 2 = (k + 1 + 1) % 2 by omega)]
    iintro ⟨H7, H9, H10, Hi, Hg⟩
    isplitl [H7]; · iexact H7
    isplitl [H9]; · iexact H9
    isplitl [H10]; · iexact H10
    isplitl [Hi]; · iexact Hi
    iexists g; iexact Hg
  · rw [if_neg hl, if_pos (by omega)]
    unfold idle2
    iintro ⟨H7, H9, H10, ⟨%g', Hi⟩, Hg⟩
    isplitl [H7]; · iexists _; iexact H7
    isplitl [H9]; · iexists _; iexact H9
    isplitl [H10]; · iexists _; iexact H10
    iapply (two_idle c P k g g')
    isplitl [Hg] <;> iassumption

/-- The body at a point. -/
theorem point_rule (hlt : ∀ a, (X a).toNat < 32000) (i : grid1.Coords) (w : Vec F S1024x128 .f32) (b : Vec F S1x128 .f32) (o : Vec F S64x128 .f32) :
    iprop(carry c P X V (i 0).val ∗ (∃ W, owes (c : Thread nD τ) (0 : CellTallies nD τ sig Unit) W)
        ∗ holds c cc1_stg0_0 X ∗ holds c cc1_stg1_0 w ∗ holds c cc1_stg2_0 b ∗ holds c cc1_stg3_0 o)
      ⊢ runs c (body i (Memref.whole cc1_stg0_0) (Memref.whole main_v4) (Memref.whole main_v3) (Memref.isWhole_whole _)
          (Memref.whole cc1_stg1_0) (Memref.whole cc1_stg2_0) (Memref.whole cc1_stg3_0)
          (Memref.whole cc1_scratch0) (Memref.isWhole_whole _) (Memref.whole cc1_scratch1) (Memref.whole cc1_scratch2) (Memref.whole cc1_scratch3)
          cc1_scratch4 cc1_scratch5)
          fun _ => iprop(carry c P X V ((i 0).val + 1) ∗ (∃ W, owes (c : Thread nD τ) (0 : CellTallies nD τ sig Unit) W)
            ∗ holds c cc1_stg0_0 X ∗ holds c cc1_stg1_0 w ∗ holds c cc1_stg2_0 b ∗ holds c cc1_stg3_0 (blockAfter c P X V (i 0).val w b o)) := by
  have h512 : (i 0).val < 512 := (i 0).isLt
  unfold body
  iintro ⟨Hc, HO, H1, H4, H5, H6⟩
  iapply (bind_rule c)
  iapply (wp_wand frame _ Set.univ) $$ [Hc HO H1]
  · iapply (enter_rule c P X V hlt i)
    isplitl [Hc]; · iexact Hc
    isplitl [H1] <;> iassumption
  unfold flying
  iintro %_ ⟨Hs, H3, ⟨H7, H9, H10, Hb, Hi⟩, H1, HO⟩
  iapply (bind_rule c)
  iapply (wp_wand frame _ Set.univ) $$ [Hi H1]
  · iapply (ahead_rule c P X hlt i)
    isplitl [Hi] <;> iassumption
  iintro %_ ⟨Hi, H1⟩
  iapply (bind_rule c)
  iapply (wp_wand frame _ Set.univ) $$ [Hb HO]
  · unfold arrive
    iapply (awaits_rule c X P (64 * (i 0).val) (slotNow i) (slotNow_lt i))
    isplitl [Hb]
    · iapply (Entails.of_eq (busy_congr c X P (par_lt _) (slotNow_lt i) rfl (slotNow_eq i).symm)); iexact Hb
    iexact HO
  unfold idleAt
  iintro %_ ⟨⟨Hg1, Hg2, Hg3⟩, HO⟩
  iapply (bind_rule c)
  iapply (wp_wand frame _ Set.univ) $$ [Hg2 H7 H9 H10]
  · iapply (step_rule c i P X V (i 0).val (64 * (i 0).val) rfl)
    isplitl [Hg2]; · iexact Hg2
    isplitl [H7]; · iexact H7
    isplitl [H9] <;> iassumption
  iintro %h ⟨%hh, Hg2, H7, H9, H10⟩
  iapply (wp_wand frame _ Set.univ) $$ [H4 H5 H6]
  · iapply (leave_rule c P X V i h hh w b o)
    isplitl [H4]; · iexact H4
    isplitl [H5] <;> iassumption
  iintro %_ ⟨H4, H5, H6⟩
  isplitr [HO H1 H4 H5 H6]
  · unfold carry
    isplitl [Hs]; · iexact Hs
    isplitl [H3]; · iexact H3
    ihave Hg : iprop(idleAt c (landed P X (64 * (i 0).val)) P ((i 0).val % 2) (par_lt _)) $$ [Hg1 Hg2 Hg3]
    · rw [idleAt_congr c _ P (par_lt _) (slotNow_lt i) (slotNow_eq i).symm]
      unfold idleAt
      isplitl [Hg1]; · iexact Hg1
      isplitl [Hg2] <;> iassumption
    iapply (settle c P X V (i 0).val h512 (landed P X (64 * (i 0).val)))
    isplitl [H7]; · iexact H7
    isplitl [H9]; · iexact H9
    isplitl [H10]; · iexact H10
    isplitl [Hi] <;> iassumption
  isplitl [HO]; · iexact HO
  isplitl [H1]; · iexact H1
  isplitl [H4]; · iexact H4
  isplitl [H5] <;> iassumption

end Phases

end Cert.Kernel.Own
-- ==== Proof.RegionGate.lean ====
module

public import proofs.«01_k».proof.Proof.Scan
public import proofs.«01_k».proof.Proof.Gen.Kernel.Launch
public import proofs.«01_k».proof.Proof.Gen.Kernel.Points
public import Idealize.ShloMosaic.Lib.Pipeline.RegionArraysD
public import Idealize.ShloMosaic.Lib.Pipeline.ValueKit

@[expose] public section

/-!
The projection kernel's region: its proof data over the contents the region is entered with, the body
at every point, and the table the region leaves.
-/

set_option maxRecDepth 16384

noncomputable section

namespace Cert.Kernel.Own

open Idealize.ShloMosaic Idealize.ShloMosaic.TcCoe Idealize.ShloMosaic.Tactic
open Idealize.SL Idealize.SL.RA Idealize.ShloMosaic.Rounds
open Idealize.SL.BI (sProp bigSep Storable)
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ UU ℕ

/-- A block of rows times the weights, plus the bias. -/
def project (x : Vec F S256x300 .f32) (w : Vec F S300x4096 .f32) (b : Vec F S1x4096 .f32) : Vec F S256x4096 .f32 :=
  addf (matmul dot_S256x300_S300x4096_S256x4096_1_0_0_1_n_n none x (shapeCast S300x4096 w shapeCasts_S300x4096_S300x4096) (constant S256x4096 .f32 0x00000000#32))
    (broadcastTo S256x4096 (shapeCast S1x4096 b shapeCasts_S1x4096_S1x4096) broadcasts_S1x4096_S256x4096)

/-- The projection's body on staged blocks. -/
theorem gate_rule (c : Dev nD) (i : grid0.Coords) (s0 s3 : Fin 2) (s1 s2 : Fin 1)
    (h0 : (stage0_0 s0).IsWhole) (h1 : (stage0_1 s1).IsWhole) (h2 : (stage0_2 s2).IsWhole) (h3 : (stage0_3 s3).IsWhole)
    (x : Vec F S256x300 .f32) (w : Vec F S300x4096 .f32) (b : Vec F S1x4096 .f32) (o : Vec F S256x4096 .f32) :
    iprop(owns (c : Thread nD τ) (stage0_0 s0) fullShare x ∗ owns (c : Thread nD τ) (stage0_1 s1) fullShare w
        ∗ owns (c : Thread nD τ) (stage0_2 s2) fullShare b ∗ owns (c : Thread nD τ) (stage0_3 s3) fullShare o)
      ⊢ runs c (cc0_vocab_gate_proj i (stage0_0 s0) h0 (stage0_1 s1) h1 (stage0_2 s2) h2 (stage0_3 s3) h3)
          fun _ => iprop(owns (c : Thread nD τ) (stage0_0 s0) fullShare x ∗ owns (c : Thread nD τ) (stage0_1 s1) fullShare w
        ∗ owns (c : Thread nD τ) (stage0_2 s2) fullShare b ∗ owns (c : Thread nD τ) (stage0_3 s3) fullShare (project x w b)) := by
  obtain rfl : s1 = 0 := Subsingleton.elim _ _
  obtain rfl : s2 = 0 := Subsingleton.elim _ _
  unfold cc0_vocab_gate_proj
  have e0 : ∀ s, s = 0 ∨ s = (1 : Fin 2) := by decide
  obtain rfl | rfl := e0 s0 <;> obtain rfl | rfl := e0 s3
  all_goals
    dsimp only [stage0_0, stage0_1, stage0_2, stage0_3]
    simp only [owns_whole_eq]
    iintro ⟨⟨%f0, %hf0, H0⟩, ⟨%f1, %hf1, H1⟩, ⟨%f2, %hf2, H2⟩, ⟨%f3, %hf3, H3⟩⟩
    subst hf0 hf1 hf2 hf3
    iapply (load_full c zero2) $$ H0
    iintro H0
    iapply (load_full c zero2) $$ H1
    iintro H1
    iapply (load_full c zero2) $$ H2
    iintro H2
    iapply (load_full c zero2) $$ H3
    iintro H3
    iapply (store_full c zero2) $$ H3
    iintro H3
    iapply (le_wp_ret _ _)
    isplitl [H0]; · iexists _; isplitr; swap; (· iexact H0); ipureintro; rfl
    isplitl [H1]; · iexists _; isplitr; swap; (· iexact H1); ipureintro; rfl
    isplitl [H2]; · iexists _; isplitr; swap; (· iexact H2); ipureintro; rfl
    iexists _; isplitr; swap; (· iexact H3); ipureintro; rfl

variable (W : Dev nD → Valuation τ sig (Elt F))

/-- The embeddings, the weights and the bias the region is entered with. -/
abbrev emb (c : Dev nD) : Vec F S32000x300 .f32 := W c (Proc.devRef .tc main_arg1)
/-- The four gates' input weights the region is entered with. -/
abbrev gateW (c : Dev nD) : Vec F S300x4096 .f32 := W c (Proc.devRef .tc main_v0)
/-- The four gates' biases the region is entered with. -/
abbrev gateB (c : Dev nD) : Vec F S1x4096 .f32 := W c (Proc.devRef .tc main_v2)

/-- The block of 256 embeddings from row `256 * n` on. -/
def rowsAt (e : Vec F S32000x300 .f32) (n : ℕ) : Vec F S256x300 .f32 :=
  fun y => e fun | ⟨0, _⟩ => ⟨(256 * n + (y 0).val) % 32000, Nat.mod_lt _ (by decide)⟩ | ⟨1, _⟩ => y 1

/-- The table the region leaves. -/
def table (c : Dev nD) : Vec F S32000x4096 .f32 := fun i =>
  project (rowsAt (emb W c) ((i 0).val / 256)) (gateW W c) (gateB W c)
    fun | ⟨0, _⟩ => ⟨(i 0).val % 256, Nat.mod_lt _ (by decide)⟩ | ⟨1, _⟩ => i 1

/-- The region's proof data. -/
def dat0 (c : Dev nD) : Dat τ (Elt F) Unit ℕ UU ℕ cfg0 c where
  A w := W c (Proc.devRef .tc (Pipeline.arrRef spec0 w))
  after w t := match w with
    | ⟨0, _⟩ => rowsAt (emb W c) t.val
    | ⟨1, _⟩ => gateW W c
    | ⟨2, _⟩ => gateB W c
    | ⟨3, _⟩ => project (rowsAt (emb W c) t.val) (gateW W c) (gateB W c)
  Φ _ := iprop(Pipeline.scopedRest (Ix := Unit) (Name := ℕ) (U := UU) (Lvl := ℕ) (Val := Elt F) spec0 c ∗ ∃ r, prngReg c r)
  q _ := fullShare
  owed _ := 0

/-- Where the blocks of rows stand. -/
theorem idx0_0 : ∀ t : Fin grid0.N, win0_0.index t = ![t.val, 0] := by decide +kernel

/-- Point `t` writes the `t`-th block of the table. -/
theorem idx0_3 : ∀ t : Fin grid0.N, win0_3.index t = ![t.val, 0] := by decide +kernel

/-- The block of embeddings a point reads. -/
theorem block0_0 (t : Fin cfg0.N) (f : Vec F S32000x300 .f32) : ((cfg0.win 0).blk t).view.read (Elt F) f = rowsAt f t.val := by
  funext y
  show f (((cfg0.win 0).blk t).view.emb y) = f _
  congr 1
  have ht : t.val < 125 := t.isLt
  have hy : (y 0).val < 256 := (y 0).isLt
  have h0 : (((cfg0.win 0).blk t).view.emb y (0 : Fin 2) : ℕ) = (256 * t.val + (y 0).val) % 32000 := by
    blk_simp [idx0_0]
    omega
  have h1 : (((cfg0.win 0).blk t).view.emb y (1 : Fin 2) : ℕ) = (y 1).val := by
    blk_simp [idx0_0]
  funext a
  apply Fin.ext
  fin_cases a
  · exact h0
  · exact h1

/-- Every point reads all of the weights. -/
theorem block0_1 (t : Fin cfg0.N) (f : Vec F S300x4096 .f32) : ((cfg0.win 1).blk t).view.read (Elt F) f = f := by
  funext y
  show f (((cfg0.win 1).blk t).view.emb y) = f y
  congr 1
  blk_ext [(by decide +kernel : ∀ t : Fin grid0.N, win0_1.index t = ![0, 0])]

/-- Every point reads all of the bias. -/
theorem block0_2 (t : Fin cfg0.N) (f : Vec F S1x4096 .f32) : ((cfg0.win 2).blk t).view.read (Elt F) f = f := by
  funext y
  show f (((cfg0.win 2).blk t).view.emb y) = f y
  congr 1
  blk_ext [(by decide +kernel : ∀ t : Fin grid0.N, win0_2.index t = ![0, 0])]

/-- What each input window's buffer holds when the body runs. -/
theorem before0_0 (c : Dev nD) (t : Fin cfg0.N) (d) : (dat0 W c).before 0 t d = rowsAt (emb W c) t.val := by
  rw [(dat0 W c).before_in_eq_fetched 0 rfl (fun _ => rfl) (fun _ _ _ => rfl) (fun t => (block0_0 (F := F) t (emb W c)).symm) t d]
  exact block0_0 (F := F) t (emb W c)

/-- The weights are staged at every point. -/
theorem before0_1 (c : Dev nD) (t : Fin cfg0.N) (d) : (dat0 W c).before 1 t d = gateW W c := by
  rw [(dat0 W c).before_in_eq_fetched 1 rfl (fun _ => rfl) (fun _ _ _ => rfl) (fun t => (block0_1 t (gateW W c)).symm) t d]
  exact block0_1 t (gateW W c)

/-- The bias is staged at every point. -/
theorem before0_2 (c : Dev nD) (t : Fin cfg0.N) (d) : (dat0 W c).before 2 t d = gateB W c := by
  rw [(dat0 W c).before_in_eq_fetched 2 rfl (fun _ => rfl) (fun _ _ _ => rfl) (fun t => (block0_2 t (gateB W c)).symm) t d]
  exact block0_2 t (gateB W c)

/-- The body at every point, as the pipeline asks for it. -/
theorem obligation0 (c : Dev nD) : BodyObligation (dat0 W c) (defs₀ (F := F)) 𝒱₀ () Set.univ := fun t => by
  rw [bigSep_W0, bigSep_W0]
  rw [show (defs₀ (F := F)) Proc.tc 0 (t, cfg0.slots t) = bodyAt0 t from rfl]
  have hp := gate_rule (F := F) c (grid0.coords t) (cfg0.slots t 0) (cfg0.slots t 3) (cfg0.slots t 1) (cfg0.slots t 2)
    (hstage0_0 _) (hstage0_1 _) (hstage0_2 _) (hstage0_3 _) (rowsAt (emb W c) t.val) (gateW W c) (gateB W c)
  simp only [before0_0, before0_1, before0_2]
  unfold Dat.owesAt Pipeline.owesWithin
  rw [show (dat0 W c).owed t.castSucc = 0 from rfl, show (dat0 W c).owed t.succ = 0 from rfl, show (dat0 W c).Φ t.succ = (dat0 W c).Φ t.castSucc from rfl]
  iintro ⟨HI, ⟨%W', -, HO⟩, ⟨%d0, H0⟩, ⟨%d1, H1⟩, ⟨%d2, H2⟩, ⟨%d3, H3⟩⟩
  iapply (wp_wand frame _ Set.univ) $$ [H0 H1 H2 H3]
  · iapply (hp ((dat0 W c).before 3 t d3))
    isplitl [H0]; · iexact H0
    isplitl [H1]; · iexact H1
    isplitl [H2] <;> iassumption
  iintro %_ ⟨H0, H1, H2, H3⟩
  isplitl [HI]; · iexact HI
  isplitl [HO]
  · iexists W'; isplitr; · ipureintro; exact fun _ _ => Or.inl trivial
    iexact HO
  isplitl [H0]; · iexact H0
  isplitl [H1]; · iexact H1
  isplitl [H2]; · iexact H2
  iexact H3

/-- The table after the region: its blocks cover it. -/
theorem result0 (c : Dev nD) : (dat0 W c).arrAt 3 cfg0.N = table W c := by
  refine (dat0 W c).arrAt_eq_of_covers 3 _ (by decide +kernel) fun t hf y => ?_
  have ht : t.val < 125 := t.isLt
  have hy : (y 0).val < 256 := (y 0).isLt
  have h0 : (((cfg0.win 3).blk t).view.emb y (0 : Fin 2) : ℕ) = 256 * t.val + (y 0).val := by
    blk_simp [idx0_3]
    omega
  have h1 : (((cfg0.win 3).blk t).view.emb y (1 : Fin 2) : ℕ) = (y 1).val := by
    blk_simp [idx0_3]
  show project (rowsAt (emb W c) t.val) (gateW W c) (gateB W c) y = table W c (((cfg0.win 3).blk t).view.emb y)
  have hq : (((cfg0.win 3).blk t).view.emb y (0 : Fin 2) : ℕ) / 256 = t.val := by rw [h0]; omega
  refine Eq.trans (congrArg (project (rowsAt (emb W c) t.val) (gateW W c) (gateB W c)) ?_)
    (congrFun (congrArg (fun n => project (rowsAt (emb W c) n) (gateW W c) (gateB W c)) hq.symm) _)
  funext a
  apply Fin.ext
  fin_cases a
  · show (y 0).val = (((cfg0.win 3).blk t).view.emb y (0 : Fin 2) : ℕ) % 256
    rw [h0]; omega
  · exact h1.symm

end Cert.Kernel.Own

end
-- ==== Proof.RegionScan.lean ====
module

public import proofs.«01_k».proof.Proof.Scan
public import proofs.«01_k».proof.Proof.Gen.Kernel.Launch
public import proofs.«01_k».proof.Proof.Gen.Kernel.Points
public import Idealize.ShloMosaic.Lib.Pipeline.RegionArraysD
public import Idealize.ShloMosaic.Lib.Pipeline.ValueKit

@[expose] public section

/-!
The scan kernel's region: its proof data over the contents the region is entered with, and the body
at every point.
-/

set_option maxRecDepth 16384

noncomputable section

namespace Cert.Kernel.Own

open Idealize.ShloMosaic Idealize.ShloMosaic.TcCoe Idealize.ShloMosaic.Tactic
open Idealize.SL Idealize.SL.RA Idealize.ShloMosaic.Rounds
open Idealize.SL.BI (sProp bigSep Storable)
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ UU ℕ

variable (W : Dev nD → Valuation τ sig (Elt F))

/-- The table, the tokens, the recurrent weights, the last layer's weights and bias the region is entered with. -/
abbrev tab (c : Dev nD) : Buf (Elt F) (locP c) := W c (Proc.devRef .tc main_v4)
/-- The tokens the region is entered with. -/
abbrev toks (c : Dev nD) : S32768.Idx → BitVec 32 := W c (Proc.devRef .tc main_v6)
/-- The recurrent weights the region is entered with. -/
abbrev rec (c : Dev nD) : Vec F S1024x4096 .f32 := W c (Proc.devRef .tc main_v3)
/-- The dense layer's padded weights. -/
abbrev lastW (c : Dev nD) : Vec F S1024x128 .f32 := W c (Proc.devRef .tc main_v7)
/-- The dense layer's padded bias. -/
abbrev lastB (c : Dev nD) : Vec F S1x128 .f32 := W c (Proc.devRef .tc main_v9)

/-- What the region leaves in the result. -/
def answer (c : Dev nD) : Vec F S64x128 .f32 := dense (hidden (tab W c) (toks W c) (rec W c) 511) (lastW W c) (lastB W c)

/-- The other kernel's staging buffers, each at something. -/
def spare (c : Dev nD) : sProp 𝕄 :=
  iprop((∃ f, holds c cc0_stg0_0 f) ∗ (∃ f, holds c cc0_stg0_1 f) ∗ (∃ f, holds c cc0_stg1_0 f) ∗ (∃ f, holds c cc0_stg2_0 f)
    ∗ (∃ f, holds c cc0_stg3_0 f) ∗ (∃ f, holds c cc0_stg3_1 f))

/-- The invariant before point `k`. -/
def inv1 (c : Dev nD) (k : ℕ) : sProp 𝕄 :=
  iprop(spare c ∗ carry c (tab W c) (toks W c) (rec W c) k ∗ ∃ r, prngReg c r)

/-- The region's proof data. -/
def dat1 (c : Dev nD) : Dat τ (Elt F) Unit ℕ UU ℕ cfg1 c where
  A w := W c (Proc.devRef .tc (Pipeline.arrRef spec1 w))
  after w _ := match w with
    | ⟨0, _⟩ => toks W c
    | ⟨1, _⟩ => lastW W c
    | ⟨2, _⟩ => lastB W c
    | ⟨3, _⟩ => answer W c
  Φ t := inv1 W c t.val
  q _ := fullShare
  owed _ := 0

/-- A window that is the whole array reads the array. -/
theorem block1_0 (t : Fin cfg1.N) (f : S32768.Idx → BitVec 32) : ((cfg1.win 0).blk t).view.read (Elt F) f = f := by
  funext y
  show f (((cfg1.win 0).blk t).view.emb y) = f y
  congr 1
  blk_ext [(by decide +kernel : ∀ t : Fin grid1.N, win1_0.index t = ![0])]

/-- Every point reads all of the dense layer's weights. -/
theorem block1_1 (t : Fin cfg1.N) (f : Vec F S1024x128 .f32) : ((cfg1.win 1).blk t).view.read (Elt F) f = f := by
  funext y
  show f (((cfg1.win 1).blk t).view.emb y) = f y
  congr 1
  blk_ext [(by decide +kernel : ∀ t : Fin grid1.N, win1_1.index t = ![0, 0])]

/-- Every point reads all of the dense layer's bias. -/
theorem block1_2 (t : Fin cfg1.N) (f : Vec F S1x128 .f32) : ((cfg1.win 2).blk t).view.read (Elt F) f = f := by
  funext y
  show f (((cfg1.win 2).blk t).view.emb y) = f y
  congr 1
  blk_ext [(by decide +kernel : ∀ t : Fin grid1.N, win1_2.index t = ![0, 0])]

/-- What each input window's buffer holds when the body runs. -/
theorem before1_0 (c : Dev nD) (t : Fin cfg1.N) (d) : (dat1 W c).before 0 t d = toks W c := by
  rw [(dat1 W c).before_in_eq_fetched 0 rfl (fun _ => rfl) (fun _ _ _ => rfl) (fun t => (block1_0 (F := F) t (toks W c)).symm) t d]
  exact block1_0 (F := F) t (toks W c)

/-- The dense layer's weights are staged at every point. -/
theorem before1_1 (c : Dev nD) (t : Fin cfg1.N) (d) : (dat1 W c).before 1 t d = lastW W c := by
  rw [(dat1 W c).before_in_eq_fetched 1 rfl (fun _ => rfl) (fun _ _ _ => rfl) (fun t => (block1_1 t (lastW W c)).symm) t d]
  exact block1_1 t (lastW W c)

/-- The dense layer's bias is staged at every point. -/
theorem before1_2 (c : Dev nD) (t : Fin cfg1.N) (d) : (dat1 W c).before 2 t d = lastB W c := by
  rw [(dat1 W c).before_in_eq_fetched 2 rfl (fun _ => rfl) (fun _ _ _ => rfl) (fun t => (block1_2 t (lastB W c)).symm) t d]
  exact block1_2 t (lastB W c)

/-- The program at a point names the staging buffers of the region's windows. -/
theorem stage1_eq (t : Fin cfg1.N) :
    stage1_0 (cfg1.slots t 0) = Memref.whole cc1_stg0_0 ∧ stage1_1 (cfg1.slots t 1) = Memref.whole cc1_stg1_0
      ∧ stage1_2 (cfg1.slots t 2) = Memref.whole cc1_stg2_0 ∧ stage1_3 (cfg1.slots t 3) = Memref.whole cc1_stg3_0 := by
  have h : ∀ s : Fin 1, stage1_0 s = Memref.whole cc1_stg0_0 ∧ stage1_1 s = Memref.whole cc1_stg1_0
      ∧ stage1_2 s = Memref.whole cc1_stg2_0 ∧ stage1_3 s = Memref.whole cc1_stg3_0 := fun s => by
    obtain rfl : s = 0 := Subsingleton.elim _ _
    exact ⟨rfl, rfl, rfl, rfl⟩
  exact ⟨(h _).1, (h _).2.1, (h _).2.2.1, (h _).2.2.2⟩

/-- The grid's points are its first coordinate. -/
theorem coords1 : ∀ t : Fin cfg1.N, (grid1.coords t 0).val = t.val := by decide +kernel

/-- The body the pipeline calls at a point. -/
theorem bodyAt1_eq (t : Fin cfg1.N) : (bodyAt1 t : Prog (TpuEff nD τ sig (Elt F) Λ₀ .tc) PUnit)
    = body (grid1.coords t) (Memref.whole cc1_stg0_0) (Memref.whole main_v4) (Memref.whole main_v3) (Memref.isWhole_whole _)
          (Memref.whole cc1_stg1_0) (Memref.whole cc1_stg2_0) (Memref.whole cc1_stg3_0)
          (Memref.whole cc1_scratch0) (Memref.isWhole_whole _) (Memref.whole cc1_scratch1) (Memref.whole cc1_scratch2) (Memref.whole cc1_scratch3)
          cc1_scratch4 cc1_scratch5 := by
  obtain ⟨h0, h1, h2, h3⟩ := stage1_eq t
  unfold bodyAt1
  rw [body_eq]
  show body _ (stage1_0 (cfg1.slots t 0)) _ _ _ (stage1_1 (cfg1.slots t 1)) (stage1_2 (cfg1.slots t 2)) (stage1_3 (cfg1.slots t 3)) _ _ _ _ _ _ _ = _
  rw [h0, h1, h2, h3]

/-- What the body owes of the result's buffer: as found before the last point, the answer after it. -/
theorem result_back (c : Dev nD) (t : Fin cfg1.N) (d) :
    holds c cc1_stg3_0 (blockAfter c (tab W c) (toks W c) (rec W c) t.val (lastW W c) (lastB W c) ((dat1 W c).before 3 t d))
      ⊢ (match idle1 3 (grid1.coords t) with
          | true =>
            match (win1 3).flush t with
            | false => iprop(∃ d, ∃ f, ⌜f = (dat1 W c).before 3 t d⌝ ∗ holds c cc1_stg3_0 f)
            | true => iprop(∃ f, ⌜f = (dat1 W c).after 3 t⌝ ∗ holds c cc1_stg3_0 f)
          | false => iprop(∃ f, ⌜f = (dat1 W c).after 3 t⌝ ∗ holds c cc1_stg3_0 f) : sProp 𝕄) := by
  have hN : t.val < 512 := t.isLt
  unfold blockAfter
  by_cases h : t.val = 511
  · have hi : idle1 3 (grid1.coords t) = false := by
      show (!(k1_cond3 (grid1.coords t) == 1#1)) = false
      rw [(cond3_iff _).2 ((coords1 t).trans h)]; rfl
    rw [hi, if_pos h, h]
    iintro H
    iexists _; isplitr; swap; (· iexact H); ipureintro; rfl
  · have hi : idle1 3 (grid1.coords t) = true := by
      show (!(k1_cond3 (grid1.coords t) == 1#1)) = true
      rw [show (k1_cond3 (grid1.coords t) == 1#1) = false from beq_eq_false_iff_ne.2 fun h' => h ((coords1 t).symm.trans ((cond3_iff _).1 h'))]; rfl
    have hf : (win1 3).flush t = false := by
      rw [← Bool.not_eq_true]
      intro h'
      have := (flush1_3 t).1 h'
      omega
    rw [hi, hf, if_neg h]
    iintro H
    iexists d; iexists _; isplitr; swap; (· iexact H); ipureintro; rfl

/-- The body at every point, as the pipeline asks for it. -/
theorem obligation1 (c : Dev nD) (hlt : ∀ a, (toks W c a).toNat < 32000) : BodyObligation (dat1 W c) (defs₀ (F := F)) 𝒱₀ () Set.univ := fun t => by
  rw [bigSep_W1, bigSep_W1]
  rw [show (defs₀ (F := F)) Proc.tc 1 (t, cfg1.slots t) = bodyAt1 t from rfl, bodyAt1_eq]
  have hp := point_rule c (tab W c) (toks W c) (rec W c) hlt (grid1.coords t) (lastW W c) (lastB W c)
  rw [coords1] at hp
  obtain ⟨h0, h1, h2, h3⟩ := stage1_eq t
  have hb := result_back W c t
  rw [show (dat1 W c).Φ t.castSucc = inv1 W c t.val from rfl, show (dat1 W c).Φ t.succ = inv1 W c (t.val + 1) from rfl]
  unfold inv1 Dat.owesAt Pipeline.owesWithin
  rw [show (dat1 W c).owed t.castSucc = 0 from rfl, show (dat1 W c).owed t.succ = 0 from rfl]
  refine BI.BIBase.Entails.trans (Q := iprop((spare c ∗ carry c (tab W c) (toks W c) (rec W c) t.val ∗ ∃ r, prngReg c r)
      ∗ (∃ W', owes (c : Thread nD τ) (0 : CellTallies nD τ sig Unit) W')
      ∗ holds c cc1_stg0_0 (toks W c) ∗ holds c cc1_stg1_0 (lastW W c) ∗ holds c cc1_stg2_0 (lastB W c)
      ∗ ∃ d, holds c cc1_stg3_0 ((dat1 W c).before 3 t d))) ?_ ?_
  · show iprop(_ ∗ _ ∗ (∃ d, owns (c : Thread nD τ) (stage1_0 (cfg1.slots t 0)) fullShare ((dat1 W c).before 0 t d))
        ∗ (∃ d, owns (c : Thread nD τ) (stage1_1 (cfg1.slots t 1)) fullShare ((dat1 W c).before 1 t d))
        ∗ (∃ d, owns (c : Thread nD τ) (stage1_2 (cfg1.slots t 2)) fullShare ((dat1 W c).before 2 t d))
        ∗ ∃ d, owns (c : Thread nD τ) (stage1_3 (cfg1.slots t 3)) fullShare ((dat1 W c).before 3 t d)) ⊢ _
    rw [h0, h1, h2, h3]
    simp only [owns_whole_eq]
    iintro ⟨HI, ⟨%W', -, HO⟩, ⟨%d0, %f0, %hf0, H0⟩, ⟨%d1, %f1, %hf1, H1⟩, ⟨%d2, %f2, %hf2, H2⟩, ⟨%d3, %f3, %hf3, H3⟩⟩
    rw [before1_0] at hf0
    rw [before1_1] at hf1
    rw [before1_2] at hf2
    subst hf0 hf1 hf2 hf3
    isplitl [HI]; · iexact HI
    isplitl [HO]; · iexists _; iexact HO
    isplitl [H0]; · iexact H0
    isplitl [H1]; · iexact H1
    isplitl [H2]; · iexact H2
    iexists d3; iexact H3
  · iintro ⟨⟨Hs, Hc, Hp⟩, HO, H0, H1, H2, ⟨%d, H3⟩⟩
    iapply (wp_wand frame _ Set.univ) $$ [Hc HO H0 H1 H2 H3]
    · iapply (hp ((dat1 W c).before 3 t d))
      isplitl [Hc]; · iexact Hc
      isplitl [HO]; · iexact HO
      isplitl [H0]; · iexact H0
      isplitl [H1]; · iexact H1
      isplitl [H2] <;> iassumption
    iintro %_ ⟨Hc, ⟨%W', HO⟩, H0, H1, H2, H3⟩
    isplitl [Hs Hc Hp]
    · isplitl [Hs]; · iexact Hs
      isplitl [Hc] <;> iassumption
    isplitl [HO]
    · iexists W'; isplitr; · ipureintro; exact fun _ _ => Or.inl trivial
      iexact HO
    have ex : ∀ (b : Ref sig .tc) (f : b.ty.Contents (Elt F)), holds c b f ⊢ (owns (c : Thread nD τ) (Memref.whole b) fullShare f : sProp 𝕄) := fun b f => by
      rw [owns_whole_eq]
      iintro H
      iexists f; isplitr; swap; (· iexact H); ipureintro; rfl
    isplitl [H0]
    · iapply (show holds c cc1_stg0_0 (toks W c) ⊢ (owns (c : Thread nD τ) (stage1_0 (cfg1.slots t 0)) fullShare ((dat1 W c).after 0 t) : sProp 𝕄) from by
        rw [h0]; exact ex _ _)
      iexact H0
    isplitl [H1]
    · iapply (show holds c cc1_stg1_0 (lastW W c) ⊢ (owns (c : Thread nD τ) (stage1_1 (cfg1.slots t 1)) fullShare ((dat1 W c).after 1 t) : sProp 𝕄) from by
        rw [h1]; exact ex _ _)
      iexact H1
    isplitl [H2]
    · iapply (show holds c cc1_stg2_0 (lastB W c) ⊢ (owns (c : Thread nD τ) (stage1_2 (cfg1.slots t 2)) fullShare ((dat1 W c).after 2 t) : sProp 𝕄) from by
        rw [h2]; exact ex _ _)
      iexact H2
    iapply (show holds c cc1_stg3_0 _ ⊢ _ from by
      refine (hb d).trans (Entails.of_eq ?_)
      show _ = (match idle1 3 (grid1.coords t) with
          | true =>
            match (win1 3).flush t with
            | false => iprop(∃ d, owns (c : Thread nD τ) (stage1_3 (cfg1.slots t 3)) fullShare ((dat1 W c).before 3 t d))
            | true => owns (c : Thread nD τ) (stage1_3 (cfg1.slots t 3)) fullShare ((dat1 W c).after 3 t)
          | false => owns (c : Thread nD τ) (stage1_3 (cfg1.slots t 3)) fullShare ((dat1 W c).after 3 t) : sProp 𝕄)
      rw [h3]
      simp only [owns_whole_eq]
      rfl)
    iexact H3

end Cert.Kernel.Own

end
-- ==== Proof.RegionScanEnds.lean ====
module

public import proofs.«01_k».proof.Proof.RegionScan

@[expose] public section

/-!
The scan kernel's region: what its invariant is entered with and leaves, and what the region leaves in the result.
-/

set_option maxRecDepth 16384

noncomputable section

namespace Cert.Kernel.Own

open Idealize.ShloMosaic Idealize.ShloMosaic.TcCoe Idealize.ShloMosaic.Tactic
open Idealize.SL Idealize.SL.RA Idealize.ShloMosaic.Rounds
open Idealize.SL.BI (sProp bigSep Storable)
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ UU ℕ

variable (W : Dev nD → Valuation τ sig (Elt F))

/-- The kernel's own cells: one per slot, and the weights'. -/
abbrev own : Fin 3 → SemLoc sig
  | 0 => slotSem 0 (by omega)
  | 1 => slotSem 1 (by omega)
  | 2 => .dma cc1_scratch5.sem

/-- The scan's own semaphores are its scratch. -/
theorem own_facts : Pipeline.OwnSemFacts spec1 own := by decide +kernel

/-- The operands the body's transfers read. -/
abbrev operands : Finset (Ref sig .tc) := {main_v4, main_v3}

/-- The scan's own semaphores, one by one. -/
theorem own_eq (c : Dev nD) : (Pipeline.ownSems0 own c : sProp 𝕄)
    = iprop(semVal ((c : Thread nD τ), slotSem 0 (by omega)) 0 ∗ semVal ((c : Thread nD τ), slotSem 1 (by omega)) 0 ∗ wcell c) :=
  Pipeline.ownSems0_eq_of_list c own [0, 1, 2] (by decide) (by decide)

omit [FloatOps F] in
theorem operands_eq (c : Dev nD) : (bigSep operands (fun b => ((c : Thread nD τ).loc b) ↦{fullShare} W c (Proc.devRef .tc b)) : sProp 𝕄)
    = iprop(holds c main_v4 (W c (Proc.devRef .tc main_v4)) ∗ holds c main_v3 (W c (Proc.devRef .tc main_v3))) := by
  rw [BI.bigSep_insert (by decide), BI.bigSep_singleton]
  rfl

/-- What the region's invariant is entered with. -/
theorem enter1 (c : Dev nD) :
    iprop(Pipeline.scopedRest (Ix := Unit) (Name := ℕ) (U := UU) (Lvl := ℕ) (Val := Elt F) spec1 c ∗ (∃ r, prngReg c r) ∗ Pipeline.ownSems0 own c
        ∗ (bigSep operands fun b => ((c : Thread nD τ).loc b) ↦{fullShare} W c (Proc.devRef .tc b)) ∗ Transfers.MayWaits (c : Thread nD τ) () (0 : CellTallies nD τ sig Unit))
      ⊢ (dat1 W c).Φ 0 := by
  rw [show (dat1 W c).Φ 0 = inv1 W c 0 from rfl]
  unfold inv1 carry spare
  rw [if_pos (.inl rfl), scopedRest1_eq, own_eq, operands_eq]
  unfold idle2 idleAt
  iintro ⟨⟨Ha, Hb, Hc, Hd, He, Hf, H7, ⟨%g, H8⟩, H9, H10⟩, Hp, ⟨Hs0, Hs1, Hw⟩, ⟨H4, H3⟩, -⟩
  isplitl [Ha Hb Hc Hd He Hf]
  · isplitl [Ha]; · iexact Ha
    isplitl [Hb]; · iexact Hb
    isplitl [Hc]; · iexact Hc
    isplitl [Hd]; · iexact Hd
    isplitl [He] <;> iassumption
  isplitr [Hp]; swap; · iexact Hp
  isplitl [Hw]; · iexact Hw
  isplitl [H3]; · iexact H3
  isplitl [H7]; · iexact H7
  isplitl [H9]; · iexact H9
  isplitl [H10]; · iexact H10
  ihave H8 := (both_slots c g).1 $$ H8
  icases H8 with ⟨Hg, Hg'⟩
  ihave H4 := (pointsTo_share (PosShare.mem_left_op_right _)).1 $$ H4
  icases H4 with ⟨Hl, Hr⟩
  isplitl [Hs0 Hg Hl]
  · iexists g
    isplitl [Hs0]; · iexact Hs0
    isplitl [Hg]; · iexact Hg
    rw [if_pos rfl]; iexact Hl
  · iexists g
    isplitl [Hs1]; · iexact Hs1
    isplitl [Hg']; · iexact Hg'
    rw [if_neg (by omega)]; iexact Hr

/-- What the region's invariant leaves. -/
theorem leave1 (c : Dev nD) :
    (dat1 W c).Φ (Fin.last cfg1.N)
      ⊢ (iprop(Pipeline.scopedRest (Ix := Unit) (Name := ℕ) (U := UU) (Lvl := ℕ) (Val := Elt F) spec1 c ∗ (∃ r, prngReg c r) ∗ Pipeline.ownSems0 own c
        ∗ (bigSep operands fun b => ((c : Thread nD τ).loc b) ↦{fullShare} W c (Proc.devRef .tc b))) : sProp 𝕄) := by
  rw [show (dat1 W c).Φ (Fin.last cfg1.N) = inv1 W c 512 from rfl]
  unfold inv1 carry spare
  rw [if_pos (.inr rfl), scopedRest1_eq, own_eq, operands_eq]
  unfold idle2 idleAt
  rw [if_pos rfl, if_neg (by omega : ¬ (1 : ℕ) = 0)]
  iintro ⟨⟨Ha, Hb, Hc, Hd, He, Hf⟩, ⟨Hw, H3, H7, H9, H10, ⟨%g, Hs0, Hg, Hl⟩, ⟨%g', Hs1, Hg', Hr⟩⟩, Hp⟩
  isplitr [Hp Hw Hs0 Hs1 H3 Hl Hr]
  · isplitl [Ha]; · iexact Ha
    isplitl [Hb]; · iexact Hb
    isplitl [Hc]; · iexact Hc
    isplitl [Hd]; · iexact Hd
    isplitl [He]; · iexact He
    isplitl [Hf]; · iexact Hf
    isplitl [H7]; · iexact H7
    isplitl [Hg Hg']
    · iapply (slots_join c g g')
      isplitl [Hg] <;> iassumption
    isplitl [H9] <;> iassumption
  isplitl [Hp]; · iexact Hp
  isplitl [Hs0 Hs1 Hw]
  · isplitl [Hs0]; · iexact Hs0
    isplitl [Hs1] <;> iassumption
  isplitr [H3]; swap; · iexact H3
  iapply (pointsTo_share (PosShare.mem_left_op_right _)).2
  isplitl [Hl] <;> iassumption

/-- The result after the region: the last point writes it whole. -/
theorem result1 (c : Dev nD) : (dat1 W c).arrAt 3 cfg1.N = answer W c := by
  refine (dat1 W c).arrAt_eq_of_after_last 3 (⟨511, by decide⟩ : Fin grid1.N) (by decide +kernel) _ fun j => ?_
  rfl

end Cert.Kernel.Own

end
-- ==== Proof.Launch.lean ====
module

public import proofs.«01_k».proof.Proof.RegionGate
public import proofs.«01_k».proof.Proof.RegionScanEnds
public import proofs.«01_k».proof.Proof.Gen.Kernel.Regions

@[expose] public section

/-!
The whole program: the host operations and the two regions in order, from any memory whose tokens are in range.
-/

set_option maxRecDepth 16384

noncomputable section

namespace Cert.Kernel.Own

open Idealize.ShloMosaic Idealize.ShloMosaic.TcCoe Idealize.ShloMosaic.Tactic
open Idealize.SL Idealize.SL.RA Idealize.ShloMosaic.Rounds
open Idealize.SL.BI (sProp bigSep bigSep_mono Storable)
open scoped Idealize.SL.BI
open Idealize.SL.BI.BIBase Idealize.SL.BI.Laws Idealize.SL.ProofMode Idealize.SL.Sem
open Idealize.ShloMosaic.Pipeline (Dat Cfg Window BodyObligation cellOf RegionSeg Seg)
open Cert.Kernel Cert.Kernel.Gen

variable {F : FTy → Type} [FloatOps F]

local notation "𝕄" => MT nD τ sig Unit (Elt F) ℕ UU ℕ

variable (m : (ℓ : Loc nD τ sig) → Buf (Elt F) ℓ)

/-! ## What the regions leave -/

/-- What the first region leaves: the table. -/
def outs0 : Outs (F := F) := fun _ r c => Function.update (V1 m c) (Proc.devRef .tc main_v4) (table (V1 m) c) (Proc.devRef .tc r)

/-- What the second region is entered with. -/
def mid : Dev nD → Valuation τ sig (Elt F) := fun c => V7 m (outs0 m) c

/-- What the regions leave. -/
def outs : Outs (F := F) := fun n r c =>
  if n = 2 then outs0 m n r c else Function.update (mid m c) (Proc.devRef .tc main_v10) (answer (mid m) c) (Proc.devRef .tc r)

/-- What the second region leaves does not matter before it is entered. -/
theorem V2_eq (c : Dev nD) : V2 m (outs m) c = V2 m (outs0 m) c := rfl

/-- The second region is entered with `mid`. -/
theorem V7_eq (c : Dev nD) : V7 m (outs m) c = mid m c := rfl

/-- The first region leaves the table and nothing else. -/
theorem V2_table (c : Dev nD) : V2 m (outs m) c = Function.update (V1 m c) (Proc.devRef .tc main_v4) (table (V1 m) c) := by
  show Function.update (V1 m c) (Proc.devRef .tc main_v4) (Function.update (V1 m c) (Proc.devRef .tc main_v4) (table (V1 m) c) (Proc.devRef .tc main_v4)) = _
  rw [Function.update_self]

/-- The second region leaves the answer and nothing else. -/
theorem V8_answer (c : Dev nD) : V8 m (outs m) c = Function.update (mid m c) (Proc.devRef .tc main_v10) (answer (mid m) c) := by
  show Function.update (Function.update (Function.update (mid m c) (Proc.devRef .tc main_v10) (Function.update (mid m c) (Proc.devRef .tc main_v10) (answer (mid m) c) (Proc.devRef .tc main_v10)))
    (Proc.devRef .tc main_v4) (Function.update (mid m c) (Proc.devRef .tc main_v10) (answer (mid m) c) (Proc.devRef .tc main_v4)))
    (Proc.devRef .tc main_v3) (Function.update (mid m c) (Proc.devRef .tc main_v10) (answer (mid m) c) (Proc.devRef .tc main_v3)) = _
  rw [Function.update_self, Function.update_eq_self, Function.update_eq_self]

/-! ## The regions' records -/

/-- The regions' proof data. -/
abbrev dats : (p : Fin 2) → (c : Dev nD) → Dat τ (Elt F) Unit ℕ UU ℕ (cfgs p) c
  | ⟨0, _⟩ => dat0 (V1 m)
  | ⟨1, _⟩ => dat1 (mid m)
  | ⟨_ + 2, h⟩ => absurd h (Nat.not_lt.2 (Nat.le_add_left _ _))

/-- Every cell of a TensorCore may be waited on, all at one level. -/
abbrev L : GSem nD τ sig → Finset Unit := fun g => if g.1.2 = .tc then {()} else ∅
/-- No wait here needs a level. -/
abbrev lv : GSem nD τ sig → Unit → ℕ := fun _ _ => 0

/-- What rides beside the buffers. -/
abbrev E (_ : Fin 3) (c : Dev nD) : sProp 𝕄 := iprop((∃ r, prngReg c r) ∗ ∃ W, owes (c : Thread nD τ) (0 : CellTallies nD τ sig Unit) W)

/-- The first region's arrays are among the buffers held. -/
theorem sub0 : Pipeline.arrRefs (τ := τ) spec0 ⊆ Pipeline.ucRefs τ sig := Pipeline.arrRefs_sub_ucRefs spec0 (by decide)
/-- The second region's arrays are among the buffers held. -/
theorem sub1 : Pipeline.arrRefs (τ := τ) spec1 ⊆ Pipeline.ucRefs τ sig := Pipeline.arrRefs_sub_ucRefs spec1 (by decide)

/-- The first region's arrays at its end. -/
theorem exit0 (c : Dev nD) (w : Fin cfg0.W) :
    (dat0 (V1 m) c).arrAt w cfg0.N = V2 m (outs m) c (Proc.devRef .tc (Pipeline.arrRef spec0 w)) := by
  rw [V2_table]
  match w with
  | ⟨0, _⟩ =>
    exact ((dat0 (V1 m) c).arrAt_in 0 rfl _).trans
      (Function.update_of_ne (StableHlo.devRef_ne_of_ne (by decide : main_arg1 ≠ main_v4)) (table (V1 m) c) (V1 m c)).symm
  | ⟨1, _⟩ =>
    exact ((dat0 (V1 m) c).arrAt_in 1 rfl _).trans
      (Function.update_of_ne (StableHlo.devRef_ne_of_ne (by decide : main_v0 ≠ main_v4)) (table (V1 m) c) (V1 m c)).symm
  | ⟨2, _⟩ =>
    exact ((dat0 (V1 m) c).arrAt_in 2 rfl _).trans
      (Function.update_of_ne (StableHlo.devRef_ne_of_ne (by decide : main_v2 ≠ main_v4)) (table (V1 m) c) (V1 m c)).symm
  | ⟨3, _⟩ => exact (result0 (V1 m) c).trans (Function.update_self (Proc.devRef .tc main_v4) _ (V1 m c)).symm

/-- The second region's arrays at its end. -/
theorem exit1 (c : Dev nD) (w : Fin cfg1.W) :
    (dat1 (mid m) c).arrAt w cfg1.N = V8 m (outs m) c (Proc.devRef .tc (Pipeline.arrRef spec1 w)) := by
  rw [V8_answer]
  match w with
  | ⟨0, _⟩ =>
    exact ((dat1 (mid m) c).arrAt_in 0 rfl _).trans
      (Function.update_of_ne (StableHlo.devRef_ne_of_ne (by decide : main_v6 ≠ main_v10)) (answer (mid m) c) (mid m c)).symm
  | ⟨1, _⟩ =>
    exact ((dat1 (mid m) c).arrAt_in 1 rfl _).trans
      (Function.update_of_ne (StableHlo.devRef_ne_of_ne (by decide : main_v7 ≠ main_v10)) (answer (mid m) c) (mid m c)).symm
  | ⟨2, _⟩ =>
    exact ((dat1 (mid m) c).arrAt_in 2 rfl _).trans
      (Function.update_of_ne (StableHlo.devRef_ne_of_ne (by decide : main_v9 ≠ main_v10)) (answer (mid m) c) (mid m c)).symm
  | ⟨3, _⟩ => exact (result1 (mid m) c).trans (Function.update_self (Proc.devRef .tc main_v10) _ (mid m c)).symm

set_option backward.isDefEq.respectTransparency.types false in
/-- The first region. -/
def reg0 : RegionSeg (pcfgs (F := F)) adm (dats m) () defs₀ 𝒱₀ L lv 0 :=
  RegionSeg.ofHeld (pcfgs (F := F)) adm (dats m) () defs₀ 𝒱₀ L lv 0 (fun _ => 0)
    (fun c => iprop(∃ r, prngReg c r)) (fun c => iprop(∃ r, prngReg c r)) launch0.toP rfl
    (fun c => (obligation0 (V1 m) c).loose) (fun _ _ => rfl) (fun _ => rfl) (fun c => (dat0 (V1 m) c).share_full fun _ => rfl)
    (fun c => .rfl) (fun c => .rfl) (fun _ => 0)
    ⟨fun c w s => by simp [L], fun _ _ _ => le_refl _, fun _ _ _ h => absurd h (Nat.lt_irrefl _)⟩
    (fun c => StableHlo.held (c.tc : Thread nD τ) (Pipeline.ucRefs τ sig \ Pipeline.arrRefs spec0) (V1 m c))
    (V1 m) (V2 m (outs m)) (fun c w => rfl)
    (fun c w => exit0 m c w)

set_option backward.isDefEq.respectTransparency.types false in
/-- The second region. -/
def reg1 (hlt : ∀ c a, (toks (mid m) c a).toNat < 32000) : RegionSeg (pcfgs (F := F)) adm (dats m) () defs₀ 𝒱₀ L lv 1 :=
  RegionSeg.ofHeldDH (pcfgs (F := F)) adm (dats m) () defs₀ 𝒱₀ L lv 1 (fun _ => 0) () own own_facts operands
    (Pipeline.ucRefs τ sig \ Pipeline.arrRefs spec1) (by decide +kernel) launch1.toP rfl
    (fun c => (obligation1 (mid m) c (hlt c)).loose) (fun _ _ => rfl) (fun _ => rfl) (fun c => (dat1 (mid m) c).share_full fun _ => rfl)
    (fun c => by
      iintro -
      iapply (Transfers.MayWaits.zero (c : Thread nD τ) ())
      iempintro)
    (mid m) (V8 m (outs m)) (fun c => enter1 (mid m) c) (fun c => leave1 (mid m) c) (fun _ => 0)
    ⟨fun c w s => by simp [L], fun _ _ _ => le_refl _, fun _ _ _ h => absurd h (Nat.lt_irrefl _)⟩
    (fun _ => iprop(emp)) (fun c w => rfl)
    (fun c w => exit1 m c w)

/-- Entered from the unscoped buffers; -/
theorem pre0 (c : Dev nD) : iprop(StableHlo.held (c : Thread nD τ) (Pipeline.ucRefs τ sig) (V1 m c) ∗ E 0 c) ⊢ ((reg0 m).pre c : sProp 𝕄) := by
  rw [StableHlo.held_sub_split (c : Thread nD τ) sub0 (V1 m c)]
  show _ ⊢ iprop(StableHlo.held (c.tc : Thread nD τ) (Pipeline.arrRefs spec0) (V1 m c) ∗ (∃ r, prngReg c r)
    ∗ StableHlo.held (c.tc : Thread nD τ) (Pipeline.ucRefs τ sig \ Pipeline.arrRefs spec0) (V1 m c) ∗ ∃ Wd, owes (c : Thread nD τ) 0 Wd)
  iintro ⟨⟨Ha, Hr⟩, Hp, HO⟩
  isplitl [Ha]; · iexact Ha
  isplitl [Hp]; · iexact Hp
  isplitl [Hr] <;> iassumption

/-- left at them with the table. -/
theorem post0 (c : Dev nD) : (reg0 m).post c ⊢ (iprop(StableHlo.held (c : Thread nD τ) (Pipeline.ucRefs τ sig) (V2 m (outs m) c) ∗ E 1 c) : sProp 𝕄) := by
  rw [StableHlo.held_sub_split (c : Thread nD τ) sub0 (V2 m (outs m) c),
    StableHlo.held_congr (c : Thread nD τ) (S := Pipeline.ucRefs τ sig \ Pipeline.arrRefs spec0) (V := V2 m (outs m) c) (V' := V1 m c) fun b hb => by
      rw [V2_table]
      refine Function.update_of_ne (fun h => ?_) _ _
      subst h
      exact (Finset.mem_sdiff.1 hb).2 (by decide)]
  show iprop(StableHlo.held (c.tc : Thread nD τ) (Pipeline.arrRefs spec0) (V2 m (outs m) c) ∗ (∃ r, prngReg c r)
    ∗ StableHlo.held (c.tc : Thread nD τ) (Pipeline.ucRefs τ sig \ Pipeline.arrRefs spec0) (V1 m c) ∗ ∃ Wd, owes (c : Thread nD τ) 0 Wd) ⊢ _
  iintro ⟨Ha, Hp, Hr, HO⟩
  isplitl [Ha Hr]; · isplitl [Ha] <;> iassumption
  isplitl [Hp] <;> iassumption

/-- Entered from the unscoped buffers; -/
theorem pre1 (hlt : ∀ c a, (toks (mid m) c a).toNat < 32000) (c : Dev nD) :
    iprop(StableHlo.held (c : Thread nD τ) (Pipeline.ucRefs τ sig) (V7 m (outs m) c) ∗ E 1 c) ⊢ ((reg1 m hlt).pre c : sProp 𝕄) := by
  rw [V7_eq, StableHlo.held_sub_split (c : Thread nD τ) sub1 (mid m c)]
  show _ ⊢ iprop(StableHlo.held (c.tc : Thread nD τ) (Pipeline.arrRefs spec1) (mid m c) ∗ (∃ r, prngReg c r)
    ∗ (StableHlo.held (c.tc : Thread nD τ) (Pipeline.ucRefs τ sig \ Pipeline.arrRefs spec1) (mid m c) ∗ emp) ∗ ∃ Wd, owes (c : Thread nD τ) 0 Wd)
  iintro ⟨⟨Ha, Hr⟩, Hp, HO⟩
  isplitl [Ha]; · iexact Ha
  isplitl [Hp]; · iexact Hp
  isplitl [Hr]
  · isplitl [Hr]; · iexact Hr
    iempintro
  iexact HO

/-- left at them with the answer. -/
theorem post1 (hlt : ∀ c a, (toks (mid m) c a).toNat < 32000) (c : Dev nD) :
    (reg1 m hlt).post c ⊢ (iprop(StableHlo.held (c : Thread nD τ) (Pipeline.ucRefs τ sig) (V8 m (outs m) c) ∗ E 2 c) : sProp 𝕄) := by
  rw [StableHlo.held_sub_split (c : Thread nD τ) sub1 (V8 m (outs m) c),
    StableHlo.held_congr (c : Thread nD τ) (S := Pipeline.ucRefs τ sig \ Pipeline.arrRefs spec1) (V := V8 m (outs m) c) (V' := mid m c) fun b hb => by
      rw [V8_answer]
      refine Function.update_of_ne (fun h => ?_) _ _
      subst h
      exact (Finset.mem_sdiff.1 hb).2 (by decide)]
  show iprop(StableHlo.held (c.tc : Thread nD τ) (Pipeline.arrRefs spec1) (V8 m (outs m) c) ∗ (∃ r, prngReg c r)
    ∗ (StableHlo.held (c.tc : Thread nD τ) (Pipeline.ucRefs τ sig \ Pipeline.arrRefs spec1) (mid m c) ∗ emp) ∗ ∃ Wd, owes (c : Thread nD τ) 0 Wd) ⊢ _
  iintro ⟨Ha, Hp, ⟨Hr, -⟩, HO⟩
  isplitl [Ha Hr]; · isplitl [Ha] <;> iassumption
  isplitl [Hp] <;> iassumption

/-! ## The run -/

/-- The pipelines' algebra within the certificate's. -/
abbrev EP : Emb (URounds (GSem nD τ sig) Unit) (MT nD τ sig Unit (Elt F) ℕ UU ℕ) := embL

/-- The launch element: the pipelines' own, no transfer yet. -/
def u₀ : UU := (initOf (Pipeline.cells cfgs cellOf_inj) (Pipeline.launchToks cfgs cellOf_inj), 1)

set_option backward.isDefEq.respectTransparency.types false in
/-- The program runs to its end from any memory whose tokens are in range: every unscoped buffer ends at the
    contents the operations and the regions compute, every counter at zero. -/
theorem run (ρ : Dev nD → PrngReg) (hlt : ∀ c a, (toks (mid m) c a).toNat < 32000) :
    θ_run defs (onTc (τ := τ) (main (F := F))) ⟨m, fun _ => 0, ρ⟩ (fun r =>
      (∀ c : Dev nD, ∀ b ∈ Pipeline.ucRefs τ sig, r.2.mem (c, b) = V9 m (outs m) c b) ∧ r.2.sem = fun _ => 0) := by
  refine Pipeline.θ_run_regions_kit_dev_sems (pcfgs (F := F)) adm (dats m) () cellOf_inj EP defs₀ 𝒱₀ L lv m ρ main
    (segs m (outs m) 𝒱₀ L lv E () (dats m) (reg0 m) (reg1 m hlt))
    (fun c Q => by
      rewrite [main_chain c, Seg.run_eq_chain,
        show (segs m (outs m) 𝒱₀ L lv E () (dats m) (reg0 m) (reg1 m hlt) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (O₀ := fun _ => 0)
    (hL := fun g h => if_neg h) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V9 m (outs m) c))
    (hch := fun c => ⟨.rfl, pre0 m c, post0 m c, .rfl, .rfl, .rfl, .rfl, pre1 m hlt c, post1 m hlt c, sep_mono .rfl (by iintro ⟨-, H⟩; iexact H)⟩)
    (hinit := ?_) (QY := fun c s => ∀ b ∈ Pipeline.ucRefs τ sig, s.mem (c, b) = V9 m (outs m) c b)
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c)
      from Pipeline.unscopedBufs_held (Ix := Unit) (Name := ℕ) (U := UU) (Lvl := ℕ) c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V9 m (outs m) c) s') $$ [Hh HSI]
    · isplitl [Hh] <;> iassumption
    icases Hr with ⟨%h, HSI⟩
    imodintro
    isplitr
    · ipureintro; exact h
    iexact HSI

end Cert.Kernel.Own

end
-- ==== Proof.Args.lean ====
module

public import proofs.«01_k».proof.Proof.Launch

@[expose] public section

/-!
What the regions read, of the launch's memory.
-/

set_option maxRecDepth 16384

noncomputable section

namespace Cert.Kernel.Own

open Idealize.ShloMosaic Idealize.ShloMosaic.TcCoe Idealize.ShloMosaic.StableHlo Idealize.SL.Sem
open Cert.Kernel Cert.Kernel.Gen

variable {F : FTy → Type} [FloatOps F]
variable (m : (ℓ : Loc nD τ sig) → Buf (Elt F) ℓ)

/-- An argument the operations before the second region leave alone. -/
theorem mid_arg0 (c : Dev nD) : V2 m (outs m) c (Proc.devRef .tc main_arg0) = m ((c.tc : Thread nD τ).loc main_arg0) :=
  (V2_of m (outs m) c main_arg0 (by decide)).trans (V1_of m c main_arg0 (by decide))

/-- The tokens the second region reads: the argument's, transposed and laid out in one row. -/
theorem mid_toks (c : Dev nD) :
    mid m c (Proc.devRef .tc main_v6) = shapeCast S32768 (transpose S512x64 [1, 0] (m ((c.tc : Thread nD τ).loc main_arg0)) transposes_S64x512_S512x64_1_0) shapeCasts_S512x64_S32768 := by
  rw [← V7_eq m c, V7_of m (outs m) c main_v6 (by decide), V6_of m (outs m) c main_v6 (by decide), V5_of m (outs m) c main_v6 (by decide),
    V4_of m (outs m) c main_v6 (by decide), ← mid_arg0 m c]
  rfl

/-- A token in range stays in range as the second region reads it. -/
theorem mid_lt (h : ∀ (c : Dev nD) (j : S64x512.Idx), (m ((c.tc : Thread nD τ).loc main_arg0) j : BitVec 32).toNat < 32000) :
    ∀ c a, (toks (mid m) c a).toNat < 32000 := by
  intro c a
  unfold toks
  rw [mid_toks]
  exact h c _

set_option maxHeartbeats 1000000 in
/-- The frame, over any floats: from a memory whose tokens are in range the program ends with its arguments unchanged
    and its counters at zero, its result at `V9`. -/
theorem ends (ρ : Dev nD → PrngReg)
    (h : ∀ (c : Dev nD) (j : S64x512.Idx), (m ((c.tc : Thread nD τ).loc main_arg0) j : BitVec 32).toNat < 32000) :
    θ_run defs (onTc (τ := τ) (main (F := F))) ⟨m, fun _ => 0, ρ⟩ (fun r =>
      (∀ c : Dev nD, r.2.mem ((c.tc : Thread nD τ).loc main_v11) = V9 m (outs m) c (Proc.devRef .tc main_v11)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)) ∧ r.2.sem = fun _ => 0) := by
  refine (θ_run defs _ _).mono (fun r hr => ⟨fun c => ?_, hr.2⟩) (run m ρ (mid_lt m h))
  have g := hr.1 c
  exact ⟨g (Proc.devRef .tc main_v11) (Finset.mem_filter.mpr ⟨devRef_mem_tcRefs main_v11, by decide⟩),
    (g (Proc.devRef .tc main_arg0) (Finset.mem_filter.mpr ⟨devRef_mem_tcRefs main_arg0, by decide⟩)).trans (V9_main_arg0 m (outs m) c),
    (g (Proc.devRef .tc main_arg1) (Finset.mem_filter.mpr ⟨devRef_mem_tcRefs main_arg1, by decide⟩)).trans (V9_main_arg1 m (outs m) c),
    (g (Proc.devRef .tc main_arg2) (Finset.mem_filter.mpr ⟨devRef_mem_tcRefs main_arg2, by decide⟩)).trans (V9_main_arg2 m (outs m) c),
    (g (Proc.devRef .tc main_arg3) (Finset.mem_filter.mpr ⟨devRef_mem_tcRefs main_arg3, by decide⟩)).trans (V9_main_arg3 m (outs m) c),
    (g (Proc.devRef .tc main_arg4) (Finset.mem_filter.mpr ⟨devRef_mem_tcRefs main_arg4, by decide⟩)).trans (V9_main_arg4 m (outs m) c),
    (g (Proc.devRef .tc main_arg5) (Finset.mem_filter.mpr ⟨devRef_mem_tcRefs main_arg5, by decide⟩)).trans (V9_main_arg5 m (outs m) c),
    (g (Proc.devRef .tc main_arg6) (Finset.mem_filter.mpr ⟨devRef_mem_tcRefs main_arg6, by decide⟩)).trans (V9_main_arg6 m (outs m) c),
    (g (Proc.devRef .tc main_arg7) (Finset.mem_filter.mpr ⟨devRef_mem_tcRefs main_arg7, by decide⟩)).trans (V9_main_arg7 m (outs m) c),
    (g (Proc.devRef .tc main_arg8) (Finset.mem_filter.mpr ⟨devRef_mem_tcRefs main_arg8, by decide⟩)).trans (V9_main_arg8 m (outs m) c),
    (g (Proc.devRef .tc main_arg9) (Finset.mem_filter.mpr ⟨devRef_mem_tcRefs main_arg9, by decide⟩)).trans (V9_main_arg9 m (outs m) c),
    (g (Proc.devRef .tc main_arg10) (Finset.mem_filter.mpr ⟨devRef_mem_tcRefs main_arg10, by decide⟩)).trans (V9_main_arg10 m (outs m) c),
    (g (Proc.devRef .tc main_arg11) (Finset.mem_filter.mpr ⟨devRef_mem_tcRefs main_arg11, by decide⟩)).trans (V9_main_arg11 m (outs m) c),
    (g (Proc.devRef .tc main_arg12) (Finset.mem_filter.mpr ⟨devRef_mem_tcRefs main_arg12, by decide⟩)).trans (V9_main_arg12 m (outs m) c),
    (g (Proc.devRef .tc main_arg13) (Finset.mem_filter.mpr ⟨devRef_mem_tcRefs main_arg13, by decide⟩)).trans (V9_main_arg13 m (outs m) c),
    (g (Proc.devRef .tc main_arg14) (Finset.mem_filter.mpr ⟨devRef_mem_tcRefs main_arg14, by decide⟩)).trans (V9_main_arg14 m (outs m) c),
    (g (Proc.devRef .tc main_arg15) (Finset.mem_filter.mpr ⟨devRef_mem_tcRefs main_arg15, by decide⟩)).trans (V9_main_arg15 m (outs m) c)⟩

end Cert.Kernel.Own
end
-- ==== Proof.Same.lean ====
module

public import proofs.«01_k».proof.Proof.Gen.Kernel
public import proofs.«01_k».proof.Proof.Gen.KernelIdeal

@[expose] public section
set_option maxRecDepth 100000
set_option maxHeartbeats 4000000
noncomputable section
namespace Cert.Own
open Idealize.ShloMosaic Idealize.SL.Sem
variable {F : FTy → Type} [FloatOps F]
/-- The idealized kernel's bodies are the kernel's. -/
theorem same_bodies : (Cert.KernelIdeal.defs₀ (F := F)) = (Cert.Kernel.defs₀ (F := F)) := by
  unfold Cert.KernelIdeal.defs₀ Cert.Kernel.defs₀
  refine congrArg Defs.onTc (funext fun l => ?_)
  match l with
  | 0 =>
    funext a
    rcases a with ⟨t, s⟩
    with_unfolding_all rfl
  | 1 =>
    funext a
    rcases a with ⟨t, s⟩
    with_unfolding_all rfl

/-- The idealized kernel's definitions are the kernel's. -/
theorem same_defs : (Cert.KernelIdeal.defs (F := F)) = (Cert.Kernel.defs (F := F)) := by
  unfold Cert.KernelIdeal.defs Cert.Kernel.defs
  exact congrArg (Pipeline.defs Cert.Kernel.pcfgs) same_bodies

/-- The idealized kernel's text is the kernel's. -/
theorem same_main : (Cert.KernelIdeal.main (F := F)) = (Cert.Kernel.main (F := F)) := by with_unfolding_all rfl

end Cert.Own
end
-- ==== Proof.Cell.lean ====
module

public import proofs.«01_k».proof.Proof.Launch
public import proofs.«01_k».proof.Proof.Gen.ReferenceIdeal.Run
public import Idealize.ShloMosaic.Lib.Pointwise
public import Idealize.ShloMosaic.Lib.KernelVsHost
public import Idealize.ShloMosaic.Lib.DynamicIndex

@[expose] public section

/-!
The kernel's terms beside the reference's, over the extended reals: one step of the recurrence, one
row of the projected table, and the dense layer.
-/

set_option maxRecDepth 16384

noncomputable section

namespace Cert.Kernel.Own

open Idealize.ShloMosaic
open Cert.Kernel Cert.Kernel.Gen

/-! ## One step -/

/-- The logistic function as the reference writes it. -/
def sigmoid (x : FVec Ideal S64x1024 .f32) : FVec Ideal S64x1024 .f32 :=
  Host.divf (broadcastInDim S64x1024 ![] Cert.ReferenceIdeal.Gen.bcast_S_S64x1024 (constant Cert.ReferenceIdeal.S_ .f32 0x3F800000#32))
    (addf (broadcastInDim S64x1024 ![] Cert.ReferenceIdeal.Gen.bcast_S_S64x1024 (constant Cert.ReferenceIdeal.S_ .f32 0x3F800000#32)) (Host.exp (Host.negf x)))

/-- It is the kernel's logistic. -/
theorem logistic_eq (x : FVec Ideal S64x1024 .f32) : logistic x = sigmoid x := by
  funext i
  pointwise [sigmoid]
  rfl

/-- The new cell state as the reference writes it. -/
theorem nextC_eq (z : FVec Ideal S64x4096 .f32) (c : FVec Ideal S64x1024 .f32) :
    nextC z c = addf (mulf (sigmoid (extractStridedSlice S64x1024 ![0, 1024] z slices_S64x4096_o0_1024_S64x1024)) c)
      (mulf (sigmoid (extractStridedSlice S64x1024 ![0, 0] z slices_S64x4096_o0_0_S64x1024))
        (Host.tanh (extractStridedSlice S64x1024 ![0, 2048] z slices_S64x4096_o0_2048_S64x1024))) := by
  unfold nextC
  rw [logistic_eq, logistic_eq]
  rfl

/-- The new hidden state as the reference writes it. -/
theorem nextH_eq (z : FVec Ideal S64x4096 .f32) (c : FVec Ideal S64x1024 .f32) :
    nextH z c = mulf (sigmoid (extractStridedSlice S64x1024 ![0, 3072] z slices_S64x4096_o0_3072_S64x1024)) (Host.tanh (nextC z c)) := by
  unfold nextH
  rw [logistic_eq]
  rfl

/-- The gates as the reference writes them. -/
theorem gates_eq (x : FVec Ideal S1x64x4096 .f32) (h : FVec Ideal S64x1024 .f32) (v : FVec Ideal S1024x4096 .f32) :
    gates x h v = addf (shapeCast S64x4096 x shapeCasts_S1x64x4096_S64x4096)
      (Host.dotGeneral Cert.ReferenceIdeal.dot_S64x1024_S1024x4096_S64x4096_1_0_0_1_n_n none h v) := by
  unfold gates
  rw [matmul_zero_eq_dotGeneral]
  rfl

/-- A reshape to the same shape changes nothing. -/
theorem shapeCast_same (x : FVec Ideal S64x1024 .f32) : shapeCast S64x1024 x shapeCasts_S64x1024_S64x1024 = x := by
  funext i
  pointwise

/-- The cleared state is the reference's. -/
theorem clear_eq : clear (F := Ideal)
    = broadcastInDim S64x1024 ![] Cert.ReferenceIdeal.Gen.bcast_S_S64x1024 (constant (F := Ideal) Cert.ReferenceIdeal.S_ .f32 0x00000000#32) := by
  unfold clear
  rw [shapeCast_same]
  rfl

/-! ## The dense layer -/

/-- The three kept columns of the padded dense layer. -/
theorem dense_eq (h : FVec Ideal S64x1024 .f32) (w : FVec Ideal S1024x3 .f32) (b : FVec Ideal S3 .f32) (p q : FVec Ideal S_ .f32) :
    extractStridedSlice S64x3 ![0, 0] (dense h (pad S1024x128 ![0, 0] ![0, 125] ![0, 0] w p pads_S1024x3_S1024x128_000_01250 h_S_)
        (shapeCast S1x128 (pad S128 ![0] ![125] ![0] b q pads_S3_S128_01250 h_S_) shapeCasts_S128_S1x128)) slices_S64x128_S64x3_0_0
      = addf (Host.dotGeneral Cert.ReferenceIdeal.dot_S64x1024_S1024x3_S64x3_1_0_0_1_n_n none h w)
        (broadcastInDim S64x3 ![0, 1] Cert.ReferenceIdeal.Gen.bcast_S1x3_S64x3_0_1 (broadcastInDim Cert.ReferenceIdeal.S1x3 ![1] Cert.ReferenceIdeal.Gen.bcast_S3_S1x3_1 b)) := by
  funext j
  idx_vars j
  pointwise [dense]

/-! ## The table -/

/-- One entry of a projected block. -/
theorem project_apply (x : FVec Ideal S256x300 .f32) (w : FVec Ideal S300x4096 .f32) (b : FVec Ideal S4096 .f32) (i : Fin 256) (k : Fin 4096) :
    project (F := Ideal) x w (shapeCast S1x4096 b shapeCasts_S4096_S1x4096) (ix2 i k) = (∑ e : Fin 300, x (ix2 i e) * w (ix2 e k)) + b (ix1 k) := by
  pointwise [project]

/-- One entry of the reference's projected sequence, the rows already looked up. -/
theorem gated_apply (x : FVec Ideal Cert.ReferenceIdeal.S64x512x300 .f32) (w : FVec Ideal S300x4096 .f32) (b : FVec Ideal S4096 .f32) (t : Fin 512) (i : Fin 64) (k : Fin 4096) :
    (addf (transpose Cert.ReferenceIdeal.S512x64x4096 [2, 1, 0] (Host.dotGeneral Cert.ReferenceIdeal.dot_S300x4096_S64x512x300_S4096x64x512_0_2_1_01_n_n none w x) Cert.ReferenceIdeal.Gen.transposes_S4096x64x512_S512x64x4096_2_1_0)
      (broadcastInDim Cert.ReferenceIdeal.S512x64x4096 ![0, 1, 2] Cert.ReferenceIdeal.Gen.bcast_S1x1x4096_S512x64x4096_0_1_2
        (broadcastInDim Cert.ReferenceIdeal.S1x1x4096 ![2] Cert.ReferenceIdeal.Gen.bcast_S4096_S1x1x4096_2 b))) (ix3 t i k)
      = (∑ e : Fin 300, w (ix2 e k) * x (ix3 i t e)) + b (ix1 k) := by
  pointwise

/-- The rows the reference looks up: at a token in range, that token's row. -/
theorem gather_apply (e : FVec Ideal S32000x300 .f32) (idx : IVec Cert.ReferenceIdeal.S64x512x1 32) (i : Fin 64) (t : Fin 512) (d : Fin 300)
    (h : (idx (ix3 i t 0)).toNat < 32000) :
    Host.gather Cert.ReferenceIdeal.gather_S32000x300_S64x512x1_S64x512x300_2_0_n_n_0_2_1300 e idx (ix3 i t d)
      = e (ix2 ⟨(idx (ix3 i t 0)).toNat, h⟩ d) := by
  unfold Host.gather
  congr 1
  funext a
  refine Fin.ext ?_
  show GatherDims.start _ _ idx a + GatherDims.batchCoord _ _ a + GatherDims.offCoord _ _ a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ Cert.ReferenceIdeal.gather_S32000x300_S64x512x1_S64x512x300_2_0_n_n_0_2_1300.startIndexMap from List.mem_singleton.mpr rfl)]
    have hsi : Cert.ReferenceIdeal.gather_S32000x300_S64x512x1_S64x512x300_2_0_n_n_0_2_1300.siIdx (ix3 i t d)
        ⟨List.idxOf (0 : Fin 2) Cert.ReferenceIdeal.gather_S32000x300_S64x512x1_S64x512x300_2_0_n_n_0_2_1300.startIndexMap,
          List.idxOf_lt_length_iff.2 (List.mem_singleton.mpr rfl)⟩ = ix3 i t 0 := by
      funext b; refine Fin.ext ?_
      match b with
      | ⟨0, _⟩ => rfl
      | ⟨1, _⟩ => rfl
      | ⟨2, _⟩ => rfl
    rw [hsi]
    show min (idx (ix3 i t 0)).toInt.toNat 31999 + 0 + 0 = (idx (ix3 i t 0)).toNat
    rw [BitVec.toInt_eq_toNat_cond]
    split <;> omega
  · rw [GatherDims.batchCoord_eq_zero _ _ _ List.not_mem_nil]
    unfold GatherDims.start
    rw [dif_neg (show (1 : Fin 2) ∉ Cert.ReferenceIdeal.gather_S32000x300_S64x512x1_S64x512x300_2_0_n_n_0_2_1300.startIndexMap by
      show (1 : Fin 2) ∉ [(0 : Fin 2)]; decide)]
    rw [Nat.zero_add]
    rfl

/-- The same, at an index known to be `v`. -/
theorem gather_apply_of (e : FVec Ideal S32000x300 .f32) (idx : IVec Cert.ReferenceIdeal.S64x512x1 32) (i : Fin 64) (t : Fin 512) (d : Fin 300)
    (v : BitVec 32) (hv : idx (ix3 i t 0) = v) (h : v.toNat < 32000) :
    Host.gather Cert.ReferenceIdeal.gather_S32000x300_S64x512x1_S64x512x300_2_0_n_n_0_2_1300 e idx (ix3 i t d) = e (ix2 ⟨v.toNat, h⟩ d) := by
  subst hv
  exact gather_apply e idx i t d h

/-- The index the reference looks up with: at a token in range, the token. -/
theorem index_apply (X : IVec S64x512 32) (i : Fin 64) (t : Fin 512) (h : (X (ix2 i t)).toNat < 32000) :
    broadcastInDim Cert.ReferenceIdeal.S64x512x1 ![0, 1] Cert.ReferenceIdeal.Gen.bcast_S64x512_S64x512x1_0_1
      (select (cmpi .slt X (broadcastInDim Cert.ReferenceIdeal.S64x512 ![] Cert.ReferenceIdeal.Gen.bcast_S_S64x512 (constantI Cert.ReferenceIdeal.S_ 32 0#32)))
        (addi X (broadcastInDim Cert.ReferenceIdeal.S64x512 ![] Cert.ReferenceIdeal.Gen.bcast_S_S64x512 (constantI Cert.ReferenceIdeal.S_ 32 32000#32))) X) (ix3 i t 0)
      = X (ix2 i t) := by
  pointwise
  have : (X (ix2 i t)).slt 0#32 = false := by
    rw [BitVec.slt_eq_decide, BitVec.toInt_eq_toNat_cond]
    simp only [BitVec.toInt_zero, decide_eq_false_iff_not]
    split <;> omega
  simp only [IntOp.cmpi, this]
  rfl

/-- One entry of the table. -/
theorem table_apply (W : Dev nD → Valuation τ sig (Elt Ideal)) (c : Dev nD) (b : FVec Ideal S4096 .f32)
    (hb : gateB W c = shapeCast S1x4096 b shapeCasts_S4096_S1x4096) (r : ℕ) (h : r < 32000) (k : Fin 4096) :
    table W c (tabIdx r k) = ((∑ e : Fin 300, emb W c (ix2 ⟨r, h⟩ e) * gateW W c (ix2 e k)) + b (ix1 k) : Ideal .f32) := by
  unfold table
  rw [hb]
  refine Eq.trans (congrArg (project (F := Ideal) _ _ _) (show _ = ix2 (⟨r % 256, Nat.mod_lt _ (by decide)⟩ : Fin 256) k from ?_)) ?_
  · funext a
    match a with
    | ⟨0, _⟩ => exact Fin.ext (show r % 32000 % 256 = r % 256 by rw [Nat.mod_eq_of_lt h])
    | ⟨1, _⟩ => rfl
  rw [project_apply]
  congr 1
  refine Finset.sum_congr rfl fun e _ => ?_
  congr 1
  show emb W c _ = emb W c _
  congr 1
  funext a
  match a with
  | ⟨0, _⟩ => exact Fin.ext (show (256 * (r % 32000 / 256) + r % 256) % 32000 = r by rw [Nat.mod_eq_of_lt h, Nat.div_add_mod, Nat.mod_eq_of_lt h])
  | ⟨1, _⟩ => rfl

end Cert.Kernel.Own
end
-- ==== Proof.Steps.lean ====
module

public import proofs.«01_k».proof.Proof.Cell

@[expose] public section

/-!
The reference's loop beside the kernel's recurrence: after `t` trips the carried states are the
kernel's after `t` points.
-/

set_option maxRecDepth 16384

noncomputable section

namespace Cert.Kernel.Own

open Idealize.ShloMosaic
open Cert.Kernel Cert.Kernel.Gen
open Cert.ReferenceIdeal.Value (STEP STEP_main_v17_0 STEP_main_v17_1 STEP_main_v17_2 STEP_main_v17_3 STEP_main_v17_4
  step_main_v17_2 step_main_v17_3 step_main_v17_4 res_main_while0b_v24 res_main_while0b_v50)

/-- The block the reference's trip `t` reads of the projected sequence is the `t`-th. -/
theorem slice_eq (G : FVec Ideal Cert.ReferenceIdeal.S512x64x4096 .f32) (R : FVec Ideal S1x64x4096 .f32) (k : BitVec 32) (t : ℕ) (ht : t < 512)
    (hk : k = BitVec.ofNat 32 t) (hR : ∀ (i : Fin 64) (j : Fin 4096), R (ix3 0 i j) = G (ix3 ⟨t, ht⟩ i j)) :
    Host.dynamicSlice Cert.ReferenceIdeal.S1x64x4096 G
      (fun a => (((![fun _ => k, constantI Cert.ReferenceIdeal.S_ 32 0#32, constantI Cert.ReferenceIdeal.S_ 32 0#32] :
        Fin 3 → (⟨Cert.ReferenceIdeal.S_, .i32⟩ : BufTy).Contents (Elt Ideal))) a (Shape.Idx.first Cert.ReferenceIdeal.Gen.h_S_)).toInt)
      Cert.ReferenceIdeal.Gen.sliceFits_S512x64x4096_S1x64x4096 = R := by
  have hin : Cert.ReferenceIdeal.S512x64x4096.Slices ![t, 0, 0] Cert.ReferenceIdeal.S1x64x4096 := ⟨rfl, fun a => by
    match a with
    | ⟨0, _⟩ => show t + 1 ≤ 512; omega
    | ⟨1, _⟩ => exact Nat.le_refl 64
    | ⟨2, _⟩ => exact Nat.le_refl 4096⟩
  refine (Host.dynamicSlice_eq_extractStridedSlice _ G _ ![t, 0, 0] _ hin fun a => ?_).trans ?_
  · match a with
    | ⟨0, _⟩ => show k.toInt = (t : ℤ); rw [hk]; exact toInt_ofNat_of_lt (by omega)
    | ⟨1, _⟩ => rfl
    | ⟨2, _⟩ => rfl
  · funext y
    idx_vars y
    obtain rfl : y0 = 0 := Subsingleton.elim _ _
    refine Eq.trans ?_ (hR y1 y2).symm
    unfold extractStridedSlice
    congr 1
    funext a
    match a with
    | ⟨0, _⟩ => exact Fin.ext (Nat.add_zero t)
    | ⟨1, _⟩ => exact Fin.ext (Nat.zero_add _)
    | ⟨2, _⟩ => exact Fin.ext (Nat.zero_add _)

section
variable (E : Valuation Cert.ReferenceIdeal.τ Cert.ReferenceIdeal.sig (Elt Ideal))
  (P : FVec Ideal S32000x4096 .f32) (X : S32768.Idx → BitVec 32) (V : FVec Ideal S1024x4096 .f32)

/-- What the loop carries after `t` trips. -/
structure Carried (G : FVec Ideal Cert.ReferenceIdeal.S512x64x4096 .f32) (t : ℕ) (S : Valuation Cert.ReferenceIdeal.τ Cert.ReferenceIdeal.sig (Elt Ideal)) : Prop where
  seq : S (Proc.devRef .tc Cert.ReferenceIdeal.main_v17_0) = G
  wts : S (Proc.devRef .tc Cert.ReferenceIdeal.main_v17_1) = V
  ctr : S (Proc.devRef .tc Cert.ReferenceIdeal.main_v17_2) = fun _ => BitVec.ofNat 32 t
  hid : S (Proc.devRef .tc Cert.ReferenceIdeal.main_v17_3) = (states (F := Ideal) P X V t).1
  mem : S (Proc.devRef .tc Cert.ReferenceIdeal.main_v17_4) = (states (F := Ideal) P X V t).2

variable {P X V}
variable {G : FVec Ideal Cert.ReferenceIdeal.S512x64x4096 .f32}

/-- The gates of a trip. -/
theorem trip_gates {t : ℕ} (ht : t < 512)
    (hG : ∀ (t : Fin 512) (i : Fin 64) (j : Fin 4096), rows (F := Ideal) P X (64 * t.val) (ix3 0 i j) = G (ix3 t i j))
    {S : Valuation Cert.ReferenceIdeal.τ Cert.ReferenceIdeal.sig (Elt Ideal)} (h : Carried P X V G t S) :
    res_main_while0b_v24 S = gates (F := Ideal) (rows P X (64 * t)) (states (F := Ideal) P X V t).1 V := by
  unfold res_main_while0b_v24
  rw [h.seq, h.wts, h.ctr, h.hid, gates_eq]
  exact congrArg (fun x : FVec Ideal S1x64x4096 .f32 => addf (shapeCast S64x4096 x shapeCasts_S1x64x4096_S64x4096)
    (Host.dotGeneral Cert.ReferenceIdeal.dot_S64x1024_S1024x4096_S64x4096_1_0_0_1_n_n none (states (F := Ideal) P X V t).1 V))
    (slice_eq G (rows (F := Ideal) P X (64 * t)) _ t ht rfl (hG ⟨t, ht⟩))

variable (P X V) in
/-- One step of the kernel's recurrence, its reshapes gone. -/
theorem states_succ (t : ℕ) : states (F := Ideal) P X V (t + 1)
    = (nextH (gates (rows P X (64 * t)) (states (F := Ideal) P X V t).1 V) (states (F := Ideal) P X V t).2,
      nextC (gates (rows P X (64 * t)) (states (F := Ideal) P X V t).1 V) (states (F := Ideal) P X V t).2) :=
  Prod.ext (shapeCast_same (nextH (F := Ideal) (gates (rows P X (64 * t)) (states (F := Ideal) P X V t).1 V) (states (F := Ideal) P X V t).2))
    (shapeCast_same (nextC (F := Ideal) (gates (rows P X (64 * t)) (states (F := Ideal) P X V t).1 V) (states (F := Ideal) P X V t).2))

/-- One trip. -/
theorem trip {t : ℕ} (ht : t < 512)
    (hG : ∀ (t : Fin 512) (i : Fin 64) (j : Fin 4096), rows (F := Ideal) P X (64 * t.val) (ix3 0 i j) = G (ix3 t i j))
    {S : Valuation Cert.ReferenceIdeal.τ Cert.ReferenceIdeal.sig (Elt Ideal)} (h : Carried P X V G t S) :
    Carried P X V G (t + 1) (STEP S) := by
  have e50 : res_main_while0b_v50 S = nextC (F := Ideal) (gates (rows P X (64 * t)) (states (F := Ideal) P X V t).1 V) (states (F := Ideal) P X V t).2 := by
    unfold res_main_while0b_v50
    rw [trip_gates ht hG h, h.mem, nextC_eq]
    rfl
  refine ⟨(STEP_main_v17_0 S).trans h.seq, (STEP_main_v17_1 S).trans h.wts, (STEP_main_v17_2 S).trans ?_, (STEP_main_v17_3 S).trans ?_, (STEP_main_v17_4 S).trans ?_⟩
  · unfold step_main_v17_2
    rw [h.ctr]
    funext _
    exact BitVec.ofNat_add_ofNat t 1
  · unfold step_main_v17_3
    rw [trip_gates ht hG h, e50]
    rw [states_succ]
    show _ = nextH (F := Ideal) _ _
    rw [nextH_eq]
    rfl
  · unfold step_main_v17_4
    rw [e50, states_succ]
    rfl

/-- Every trip. -/
theorem trips (hG : ∀ (t : Fin 512) (i : Fin 64) (j : Fin 4096), rows (F := Ideal) P X (64 * t.val) (ix3 0 i j) = G (ix3 t i j))
    (h : Carried P X V G 0 E) : ∀ t, t ≤ 512 → Carried P X V G t (STEP^[t] E)
  | 0, _ => h
  | t + 1, ht => by
    rw [Function.iterate_succ_apply']
    exact trip (by omega) hG (trips hG h t (by omega))
end

end Cert.Kernel.Own
end
-- ==== Proof.Value.lean ====
module

public import proofs.«01_k».proof.Proof.Steps
public import proofs.«01_k».proof.Proof.Args

@[expose] public section

/-!
The kernel's result beside the reference's, from memories that agree on the arguments.
-/

set_option maxRecDepth 16384

noncomputable section

namespace Cert.Kernel.Own

open Idealize.ShloMosaic Idealize.ShloMosaic.TcCoe
open Cert.Kernel Cert.Kernel.Gen
open Cert.ReferenceIdeal.Value (STEP out_main_v21 preI iter_main_arg14 iter_main_arg15)
open Idealize.ShloMosaic.StableHlo (entryContents)

/-- The dense layer as the reference writes it. -/
def head (h : FVec Ideal S64x1024 .f32) (w : FVec Ideal S1024x3 .f32) (b : FVec Ideal S3 .f32) : FVec Ideal S64x3 .f32 :=
  addf (Host.dotGeneral Cert.ReferenceIdeal.dot_S64x1024_S1024x3_S64x3_1_0_0_1_n_n none h w)
    (broadcastInDim S64x3 ![0, 1] Cert.ReferenceIdeal.Gen.bcast_S1x3_S64x3_0_1 (broadcastInDim Cert.ReferenceIdeal.S1x3 ![1] Cert.ReferenceIdeal.Gen.bcast_S3_S1x3_1 b))

/-! The four gates' arrays side by side, as both programs put them together. -/

/-- The four gates' input weights. -/
def gateWeights (a b c d : FVec Ideal S300x1024 .f32) : FVec Ideal S300x4096 .f32 :=
  concatenate S300x4096 1 [⟨S300x1024, a⟩, ⟨S300x1024, b⟩, ⟨S300x1024, c⟩, ⟨S300x1024, d⟩] concatenates_S300x1024_S300x1024_S300x1024_S300x1024_S300x4096_d1
/-- The four gates' biases. -/
def gateBias (a b c d : FVec Ideal S1024 .f32) : FVec Ideal S4096 .f32 :=
  concatenate S4096 0 [⟨S1024, a⟩, ⟨S1024, b⟩, ⟨S1024, c⟩, ⟨S1024, d⟩] concatenates_S1024_S1024_S1024_S1024_S4096_d0
/-- The four gates' recurrent weights. -/
def stateWeights (a b c d : FVec Ideal S1024x1024 .f32) : FVec Ideal S1024x4096 .f32 :=
  concatenate S1024x4096 1 [⟨S1024x1024, a⟩, ⟨S1024x1024, b⟩, ⟨S1024x1024, c⟩, ⟨S1024x1024, d⟩] concatenates_S1024x1024_S1024x1024_S1024x1024_S1024x1024_S1024x4096_d1

section Kernel
variable (m : (ℓ : Loc nD τ sig) → Buf (Elt Ideal) ℓ) (c : Dev nD)

/-- The kernel's argument `r`. -/
abbrev arg (r : Ref sig .tc) : Buf (Elt Ideal) ((c.tc : Thread nD τ).loc r) := m ((c.tc : Thread nD τ).loc r)

/-- The weights the first region is entered with. -/
theorem V1_weights : gateW (V1 m) c = gateWeights (arg m c main_arg2) (arg m c main_arg3) (arg m c main_arg4) (arg m c main_arg5) := rfl
/-- The bias the first region is entered with. -/
theorem V1_bias : gateB (V1 m) c = shapeCast S1x4096 (gateBias (arg m c main_arg10) (arg m c main_arg11) (arg m c main_arg12) (arg m c main_arg13)) shapeCasts_S4096_S1x4096 := rfl
/-- The embeddings the first region is entered with. -/
theorem V1_emb : emb (V1 m) c = arg m c main_arg1 := V1_of m c main_arg1 (by decide)

/-- The table the second region reads is the one the first leaves. -/
theorem mid_tab : tab (mid m) c = table (V1 m) c := by
  show mid m c (Proc.devRef .tc main_v4) = _
  rw [← V7_eq m c, V7_of m (outs m) c main_v4 (by decide), V6_of m (outs m) c main_v4 (by decide), V5_of m (outs m) c main_v4 (by decide),
    V4_of m (outs m) c main_v4 (by decide), V3_of m (outs m) c main_v4 (by decide), V2_table]
  exact Function.update_self _ _ _

/-- The recurrent weights the second region is entered with. -/
theorem mid_rec : rec (mid m) c = stateWeights (arg m c main_arg6) (arg m c main_arg7) (arg m c main_arg8) (arg m c main_arg9) := by
  show mid m c (Proc.devRef .tc main_v3) = _
  rw [← V7_eq m c, V7_of m (outs m) c main_v3 (by decide), V6_of m (outs m) c main_v3 (by decide), V5_of m (outs m) c main_v3 (by decide),
    V4_of m (outs m) c main_v3 (by decide), V3_of m (outs m) c main_v3 (by decide), V2_of m (outs m) c main_v3 (by decide)]
  rfl

/-- The dense layer's weights are the argument's, padded. -/
theorem mid_lastW : ∃ p : FVec Ideal S_ .f32, lastW (mid m) c = pad S1024x128 ![0, 0] ![0, 125] ![0, 0] (arg m c main_arg14) p pads_S1024x3_S1024x128_000_01250 h_S_ := by
  have h : V3 m (outs m) c (Proc.devRef .tc main_arg14) = arg m c main_arg14 :=
    (V3_of m (outs m) c main_arg14 (by decide)).trans ((V2_of m (outs m) c main_arg14 (by decide)).trans (V1_of m c main_arg14 (by decide)))
  refine ⟨V4 m (outs m) c (Proc.devRef .tc main_call0_v0), ?_⟩
  show mid m c (Proc.devRef .tc main_v7) = _
  rw [← V7_eq m c, V7_of m (outs m) c main_v7 (by decide), V6_of m (outs m) c main_v7 (by decide), V5_of m (outs m) c main_v7 (by decide), ← h]
  rfl

/-- The dense layer's bias is the argument's, padded. -/
theorem mid_lastB : ∃ q : FVec Ideal S_ .f32, lastB (mid m) c
    = shapeCast S1x128 (pad S128 ![0] ![125] ![0] (arg m c main_arg15) q pads_S3_S128_01250 h_S_) shapeCasts_S128_S1x128 := by
  have h : V5 m (outs m) c (Proc.devRef .tc main_arg15) = arg m c main_arg15 :=
    (V5_of m (outs m) c main_arg15 (by decide)).trans ((V4_of m (outs m) c main_arg15 (by decide)).trans
      ((V3_of m (outs m) c main_arg15 (by decide)).trans ((V2_of m (outs m) c main_arg15 (by decide)).trans (V1_of m c main_arg15 (by decide)))))
  refine ⟨V6 m (outs m) c (Proc.devRef .tc main_call1_v0), ?_⟩
  show mid m c (Proc.devRef .tc main_v9) = _
  rw [← V7_eq m c, ← h]
  rfl

/-- The kernel's result: the dense layer of the last hidden state. -/
theorem kernel_value : V9 m (outs m) c (Proc.devRef .tc main_v11)
    = head (states (F := Ideal) (table (V1 m) c) (toks (mid m) c) (stateWeights (arg m c main_arg6) (arg m c main_arg7) (arg m c main_arg8) (arg m c main_arg9)) 512).1
        (arg m c main_arg14) (arg m c main_arg15) := by
  have h : V9 m (outs m) c (Proc.devRef .tc main_v11)
      = extractStridedSlice S64x3 ![0, 0] (V8 m (outs m) c (Proc.devRef .tc main_v10)) slices_S64x128_S64x3_0_0 := rfl
  rw [h, V8_answer, Function.update_self]
  unfold answer
  obtain ⟨p, hp⟩ := mid_lastW m c
  obtain ⟨q, hq⟩ := mid_lastB m c
  rw [hp, hq, mid_tab, mid_rec]
  refine (dense_eq _ _ _ p q).trans ?_
  rw [states_succ _ _ _ 511]
  rfl

/-- The token of row `i` at point `t`. -/
theorem tok_eq (t : Fin 512) (i : Fin 64) : tokAt (toks (mid m) c) (64 * t.val + i.val) = (arg m c main_arg0 : IVec S64x512 32) (ix2 i t) := by
  unfold toks
  rw [mid_toks]
  unfold tokAt
  have hn : 64 * t.val + i.val < 32768 := by omega
  refine (congrArg _ (show _ = ix1 (⟨64 * t.val + i.val, hn⟩ : Fin 32768) from ?_)).trans ?_
  · funext a
    match a with
    | ⟨0, _⟩ => exact Fin.ext (Nat.mod_eq_of_lt hn)
  pointwise
end Kernel

section Both
variable (m : (ℓ : Loc nD τ sig) → Buf (Elt Ideal) ℓ) (c : Dev nD)
  (m' : (ℓ : Loc Cert.ReferenceIdeal.nD Cert.ReferenceIdeal.τ Cert.ReferenceIdeal.sig) → Buf (Elt Ideal) ℓ)

/-- The reference's argument `r`. -/
abbrev arg' (r : Ref Cert.ReferenceIdeal.sig .tc) : Buf (Elt Ideal) ((c.tc : Thread Cert.ReferenceIdeal.nD Cert.ReferenceIdeal.τ).loc r) :=
  m' ((c.tc : Thread Cert.ReferenceIdeal.nD Cert.ReferenceIdeal.τ).loc r)

/-- The projected sequence, of the reference's arguments. -/
def sequence (X : IVec S64x512 32) (e : FVec Ideal S32000x300 .f32) (w : FVec Ideal S300x4096 .f32) (b : FVec Ideal S4096 .f32) :
    FVec Ideal Cert.ReferenceIdeal.S512x64x4096 .f32 :=
  addf (transpose Cert.ReferenceIdeal.S512x64x4096 [2, 1, 0] (Host.dotGeneral Cert.ReferenceIdeal.dot_S300x4096_S64x512x300_S4096x64x512_0_2_1_01_n_n none w
      (Host.gather Cert.ReferenceIdeal.gather_S32000x300_S64x512x1_S64x512x300_2_0_n_n_0_2_1300 e
        (broadcastInDim Cert.ReferenceIdeal.S64x512x1 ![0, 1] Cert.ReferenceIdeal.Gen.bcast_S64x512_S64x512x1_0_1
          (select (cmpi .slt X (broadcastInDim Cert.ReferenceIdeal.S64x512 ![] Cert.ReferenceIdeal.Gen.bcast_S_S64x512 (constantI Cert.ReferenceIdeal.S_ 32 0#32)))
            (addi X (broadcastInDim Cert.ReferenceIdeal.S64x512 ![] Cert.ReferenceIdeal.Gen.bcast_S_S64x512 (constantI Cert.ReferenceIdeal.S_ 32 32000#32))) X))))
      Cert.ReferenceIdeal.Gen.transposes_S4096x64x512_S512x64x4096_2_1_0)
    (broadcastInDim Cert.ReferenceIdeal.S512x64x4096 ![0, 1, 2] Cert.ReferenceIdeal.Gen.bcast_S1x1x4096_S512x64x4096_0_1_2
      (broadcastInDim Cert.ReferenceIdeal.S1x1x4096 ![2] Cert.ReferenceIdeal.Gen.bcast_S4096_S1x1x4096_2 b))

/-- One entry of it, at a token in range. -/
theorem sequence_apply (X : IVec S64x512 32) (e : FVec Ideal S32000x300 .f32) (w : FVec Ideal S300x4096 .f32) (b : FVec Ideal S4096 .f32)
    (t : Fin 512) (i : Fin 64) (k : Fin 4096) (h : (X (ix2 i t)).toNat < 32000) :
    sequence X e w b (ix3 t i k) = (∑ d : Fin 300, w (ix2 d k) * e (ix2 ⟨(X (ix2 i t)).toNat, h⟩ d)) + b (ix1 k) := by
  unfold sequence
  rw [gated_apply]
  congr 1
  refine Finset.sum_congr rfl fun d _ => ?_
  congr 1
  have hi := index_apply X i t h
  exact gather_apply_of _ _ i t d _ hi h

/-- What the loop is entered with. -/
theorem entry_seq : entryContents preI m' c (Proc.devRef .tc Cert.ReferenceIdeal.main_v17_0)
    = sequence (arg' c m' Cert.ReferenceIdeal.main_arg0) (arg' c m' Cert.ReferenceIdeal.main_arg1)
      (gateWeights (arg' c m' Cert.ReferenceIdeal.main_arg2) (arg' c m' Cert.ReferenceIdeal.main_arg3) (arg' c m' Cert.ReferenceIdeal.main_arg4) (arg' c m' Cert.ReferenceIdeal.main_arg5))
      (gateBias (arg' c m' Cert.ReferenceIdeal.main_arg10) (arg' c m' Cert.ReferenceIdeal.main_arg11) (arg' c m' Cert.ReferenceIdeal.main_arg12) (arg' c m' Cert.ReferenceIdeal.main_arg13)) := rfl
/-- The loop is entered with the recurrent weights. -/
theorem entry_wts : entryContents preI m' c (Proc.devRef .tc Cert.ReferenceIdeal.main_v17_1)
    = stateWeights (arg' c m' Cert.ReferenceIdeal.main_arg6) (arg' c m' Cert.ReferenceIdeal.main_arg7) (arg' c m' Cert.ReferenceIdeal.main_arg8) (arg' c m' Cert.ReferenceIdeal.main_arg9) := rfl
/-- The loop is entered with a cleared hidden state. -/
theorem entry_hid : entryContents preI m' c (Proc.devRef .tc Cert.ReferenceIdeal.main_v17_3) = clear (F := Ideal) := clear_eq.symm
/-- The loop is entered with a cleared cell state. -/
theorem entry_mem : entryContents preI m' c (Proc.devRef .tc Cert.ReferenceIdeal.main_v17_4) = clear (F := Ideal) := clear_eq.symm

/-- The two memories hold the same arguments. -/
structure SameArgs : Prop where
  a0 : arg' c m' Cert.ReferenceIdeal.main_arg0 = arg m c main_arg0
  a1 : arg' c m' Cert.ReferenceIdeal.main_arg1 = arg m c main_arg1
  a2 : arg' c m' Cert.ReferenceIdeal.main_arg2 = arg m c main_arg2
  a3 : arg' c m' Cert.ReferenceIdeal.main_arg3 = arg m c main_arg3
  a4 : arg' c m' Cert.ReferenceIdeal.main_arg4 = arg m c main_arg4
  a5 : arg' c m' Cert.ReferenceIdeal.main_arg5 = arg m c main_arg5
  a6 : arg' c m' Cert.ReferenceIdeal.main_arg6 = arg m c main_arg6
  a7 : arg' c m' Cert.ReferenceIdeal.main_arg7 = arg m c main_arg7
  a8 : arg' c m' Cert.ReferenceIdeal.main_arg8 = arg m c main_arg8
  a9 : arg' c m' Cert.ReferenceIdeal.main_arg9 = arg m c main_arg9
  a10 : arg' c m' Cert.ReferenceIdeal.main_arg10 = arg m c main_arg10
  a11 : arg' c m' Cert.ReferenceIdeal.main_arg11 = arg m c main_arg11
  a12 : arg' c m' Cert.ReferenceIdeal.main_arg12 = arg m c main_arg12
  a13 : arg' c m' Cert.ReferenceIdeal.main_arg13 = arg m c main_arg13
  a14 : arg' c m' Cert.ReferenceIdeal.main_arg14 = arg m c main_arg14
  a15 : arg' c m' Cert.ReferenceIdeal.main_arg15 = arg m c main_arg15

variable {m c m'}

/-- The rows the kernel's point `t` reads are the reference's `t`-th block. -/
theorem rows_eq (hlt : ∀ j : S64x512.Idx, (arg m c main_arg0 j : BitVec 32).toNat < 32000) (t : Fin 512) (i : Fin 64) (k : Fin 4096) :
    rows (F := Ideal) (table (V1 m) c) (toks (mid m) c) (64 * t.val) (ix3 0 i k)
      = sequence (arg m c main_arg0) (arg m c main_arg1) (gateWeights (arg m c main_arg2) (arg m c main_arg3) (arg m c main_arg4) (arg m c main_arg5))
        (gateBias (arg m c main_arg10) (arg m c main_arg11) (arg m c main_arg12) (arg m c main_arg13)) (ix3 t i k) := by
  rw [sequence_apply _ _ _ _ t i k (hlt _)]
  have e : rows (F := Ideal) (table (V1 m) c) (toks (mid m) c) (64 * t.val) (ix3 0 i k)
      = table (V1 m) c (tabIdx (tokAt (toks (mid m) c) (64 * t.val + i.val)).toNat k) := rfl
  rw [e, tok_eq, table_apply (V1 m) c _ (V1_bias m c) _ (hlt _), V1_emb, V1_weights]
  congr 1
  exact Finset.sum_congr rfl fun d _ => mul_comm _ _

/-- The two results are equal. -/
theorem values_eq (hlt : ∀ j : S64x512.Idx, (arg m c main_arg0 j : BitVec 32).toNat < 32000) (h : SameArgs m c m') :
    out_main_v21 (STEP^[512] (entryContents preI m' c)) = V9 m (outs m) c (Proc.devRef .tc main_v11) := by
  have hc : Carried (table (V1 m) c) (toks (mid m) c) (stateWeights (arg m c main_arg6) (arg m c main_arg7) (arg m c main_arg8) (arg m c main_arg9))
      (sequence (arg m c main_arg0) (arg m c main_arg1) (gateWeights (arg m c main_arg2) (arg m c main_arg3) (arg m c main_arg4) (arg m c main_arg5))
        (gateBias (arg m c main_arg10) (arg m c main_arg11) (arg m c main_arg12) (arg m c main_arg13))) 0 (entryContents preI m' c) :=
    { seq := by rw [entry_seq, h.a0, h.a1, h.a2, h.a3, h.a4, h.a5, h.a10, h.a11, h.a12, h.a13]
      wts := by rw [entry_wts, h.a6, h.a7, h.a8, h.a9]
      ctr := Cert.ReferenceIdeal.Value.ctr_entry m' c
      hid := entry_hid c m'
      mem := entry_mem c m' }
  have hl := trips _ (rows_eq hlt) hc 512 (Nat.le_refl _)
  rw [kernel_value]
  unfold out_main_v21
  rw [hl.hid, iter_main_arg14 m' c 512, iter_main_arg15 m' c 512]
  refine Eq.trans ?_ (congrArg₂ (head _) h.a14 h.a15)
  rfl

end Both

end Cert.Kernel.Own
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_tokens
public import proofs.«01_k».proof.Proof.Args
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem Cert.Kernel

/-- A word read as at least zero and less than 32000 names a row of the table. -/
theorem range_of_word (v : BitVec 32) (e : IntOp.andi (IntOp.cmpi .sge v 0#32) (IntOp.cmpi .slt v 32000#32) = 1#1) : v.toNat < 32000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The precondition of the kernel as printed: every token names a row. -/
theorem range_of_pre (m : (ℓ : Loc nD τ sig) → Buf (Elt Bits) ℓ) (h : Cert.Pre_Kernel m) (c : Dev nD) (j : S64x512.Idx) :
    (m ((c.tc : Thread nD τ).loc main_arg0) j : BitVec 32).toNat < 32000 := by
  have e := congrFun (h c) j
  simp only [Pre_tokens.fn, andi, cmpi, broadcastInDim, constantI] at e
  exact range_of_word _ e

/-- The precondition of the idealized kernel: every token names a row. -/
theorem range_of_pre_ideal (m : (ℓ : Loc KernelIdeal.nD KernelIdeal.τ KernelIdeal.sig) → Buf (Elt Ideal) ℓ) (h : Cert.Pre_KernelIdeal m)
    (c : Dev KernelIdeal.nD) (j : KernelIdeal.S64x512.Idx) :
    (m ((c.tc : Thread KernelIdeal.nD KernelIdeal.τ).loc KernelIdeal.main_arg0) j : BitVec 32).toNat < 32000 := by
  have e := congrFun (h c) j
  simp only [Pre_tokens.fn, andi, cmpi, broadcastInDim, constantI] at e
  exact range_of_word _ e

/-- The frame of the kernel as printed. -/
theorem frame_kernel : Cert.quiescent_Kernel := fun m ρ h =>
  (θ_run _ _ _).mono (fun _ e => ⟨fun c => (e.1 c).2, e.2⟩) (Cert.Kernel.Own.ends m ρ (range_of_pre m h))

/-- The idealized kernel is the same program, so it ends the same way. -/
theorem ends_ideal (m : (ℓ : Loc KernelIdeal.nD KernelIdeal.τ KernelIdeal.sig) → Buf (Elt Ideal) ℓ) (ρ : Dev KernelIdeal.nD → PrngReg)
    (h : Cert.Pre_KernelIdeal m) :
    θ_run (Cert.KernelIdeal.defs (F := Ideal)) (onTc (τ := Cert.KernelIdeal.τ) (Cert.KernelIdeal.main (F := Ideal))) ⟨m, fun _ => 0, ρ⟩ (fun r =>
      (∀ c : Dev KernelIdeal.nD, r.2.mem ((c.tc : Thread KernelIdeal.nD KernelIdeal.τ).loc KernelIdeal.main_v11)
          = Cert.Kernel.Gen.V9 (F := Ideal) m (Cert.Kernel.Own.outs (F := Ideal) m) c (Proc.devRef .tc main_v11)
        ∧ r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2)
        ∧ r.2.mem ((c.tc : Thread KernelIdeal.nD KernelIdeal.τ).loc KernelIdeal.main_arg3) = m ((c.tc : Thread KernelIdeal.nD KernelIdeal.τ).loc KernelIdeal.main_arg3)
        ∧ r.2.mem ((c.tc : Thread KernelIdeal.nD KernelIdeal.τ).loc KernelIdeal.main_arg4) = m ((c.tc : Thread KernelIdeal.nD KernelIdeal.τ).loc KernelIdeal.main_arg4)
        ∧ r.2.mem ((c.tc : Thread KernelIdeal.nD KernelIdeal.τ).loc KernelIdeal.main_arg5) = m ((c.tc : Thread KernelIdeal.nD KernelIdeal.τ).loc KernelIdeal.main_arg5)
        ∧ r.2.mem ((c.tc : Thread KernelIdeal.nD KernelIdeal.τ).loc KernelIdeal.main_arg6) = m ((c.tc : Thread KernelIdeal.nD KernelIdeal.τ).loc KernelIdeal.main_arg6)
        ∧ r.2.mem ((c.tc : Thread KernelIdeal.nD KernelIdeal.τ).loc KernelIdeal.main_arg7) = m ((c.tc : Thread KernelIdeal.nD KernelIdeal.τ).loc KernelIdeal.main_arg7)
        ∧ r.2.mem ((c.tc : Thread KernelIdeal.nD KernelIdeal.τ).loc KernelIdeal.main_arg8) = m ((c.tc : Thread KernelIdeal.nD KernelIdeal.τ).loc KernelIdeal.main_arg8)
        ∧ r.2.mem ((c.tc : Thread KernelIdeal.nD KernelIdeal.τ).loc KernelIdeal.main_arg9) = m ((c.tc : Thread KernelIdeal.nD KernelIdeal.τ).loc KernelIdeal.main_arg9)
        ∧ r.2.mem ((c.tc : Thread KernelIdeal.nD KernelIdeal.τ).loc KernelIdeal.main_arg10) = m ((c.tc : Thread KernelIdeal.nD KernelIdeal.τ).loc KernelIdeal.main_arg10)
        ∧ r.2.mem ((c.tc : Thread KernelIdeal.nD KernelIdeal.τ).loc KernelIdeal.main_arg11) = m ((c.tc : Thread KernelIdeal.nD KernelIdeal.τ).loc KernelIdeal.main_arg11)
        ∧ r.2.mem ((c.tc : Thread KernelIdeal.nD KernelIdeal.τ).loc KernelIdeal.main_arg12) = m ((c.tc : Thread KernelIdeal.nD KernelIdeal.τ).loc KernelIdeal.main_arg12)
        ∧ r.2.mem ((c.tc : Thread KernelIdeal.nD KernelIdeal.τ).loc KernelIdeal.main_arg13) = m ((c.tc : Thread KernelIdeal.nD KernelIdeal.τ).loc KernelIdeal.main_arg13)
        ∧ r.2.mem ((c.tc : Thread KernelIdeal.nD KernelIdeal.τ).loc KernelIdeal.main_arg14) = m ((c.tc : Thread KernelIdeal.nD KernelIdeal.τ).loc KernelIdeal.main_arg14)
        ∧ r.2.mem ((c.tc : Thread KernelIdeal.nD KernelIdeal.τ).loc KernelIdeal.main_arg15) = m ((c.tc : Thread KernelIdeal.nD KernelIdeal.τ).loc KernelIdeal.main_arg15)) ∧ r.2.sem = fun _ => 0) := by
  rw [Cert.Own.same_defs, Cert.Own.same_main]
  exact Cert.Kernel.Own.ends (F := Ideal) m ρ (range_of_pre_ideal m h)

/-- The frame of the idealized kernel. -/
theorem frame_ideal : Cert.quiescent_KernelIdeal := fun m ρ h =>
  (θ_run _ _ _).mono (fun _ e => ⟨fun c => (e.1 c).2, e.2⟩) (ends_ideal m ρ h)

/-- The frame of the reference, which has no counter. -/
theorem frame_reference : Cert.quiescent_ReferenceIdeal := fun m ρ _ =>
  (θ_run _ _ _).mono (fun r e => ⟨fun c => (e c).2, funext fun g => by
    rcases g with ⟨t, s⟩
    rcases s with ⟨i⟩ | ⟨i⟩ <;> exact i.elim0⟩) (Cert.ReferenceIdeal.Value.run m ρ)

/-- The idealized kernel and the reference leave the same result. -/
theorem agrees : Cert.algebraic_KernelIdeal_ReferenceIdeal := fun m g m' g' hp ha =>
  ⟨fun c => Cert.Kernel.Gen.V9 (F := Ideal) m (Cert.Kernel.Own.outs (F := Ideal) m) c (Proc.devRef .tc main_v11),
    (θ_run _ _ _).mono (fun _ e => e.1) (ends_ideal m g hp),
    (θ_run _ _ _).mono (fun _ e c => ⟨(e c).1.trans (by
      obtain ⟨a0, a1, a2, a3, a4, a5, a6, a7, a8, a9, a10, a11, a12, a13, a14, a15⟩ := ha c
      exact Cert.Kernel.Own.values_eq (range_of_pre_ideal m hp c)
        ⟨a0, a1, a2, a3, a4, a5, a6, a7, a8, a9, a10, a11, a12, a13, a14, a15⟩), (e c).2⟩) (Cert.ReferenceIdeal.Value.run m' g')⟩

/-- Everything claimed: the frames, the printed kernel and its idealization, and the equal results. -/
theorem claim : Cert.Claim := ⟨Cert.Kernel.Gen.facts, Cert.KernelIdeal.Gen.facts, Cert.ReferenceIdeal.Gen.facts, Cert.Pre_tokens.Gen.facts,
  frame_kernel, frame_ideal, frame_reference, fun m ρ _ => frame_reference m ρ trivial, trivial, agrees⟩

end Cert.Proof

end
